-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 32]⟩ ⟨2, ![1024, 1024]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![32, 1024]⟩ ⟨2, ![1024, 1024]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![32, 1024]⟩ ⟨2, ![1024, 1024]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x32 : Shape := ⟨2, ![1024, 32]⟩
abbrev S32x1024 : Shape := ⟨2, ![32, 1024]⟩
abbrev S4x2x4x32x1024 : Shape := ⟨5, ![4, 2, 4, 32, 1024]⟩
abbrev S3x4x32x1024 : Shape := ⟨4, ![3, 4, 32, 1024]⟩
abbrev S4x3x32x1024 : Shape := ⟨4, ![4, 3, 32, 1024]⟩
abbrev S3x32x1024 : Shape := ⟨3, ![3, 32, 1024]⟩
abbrev S3 : Shape := ⟨1, ![3]⟩
abbrev S4x3 : Shape := ⟨2, ![4, 3]⟩
abbrev S1 : Shape := ⟨1, ![1]⟩
abbrev S_ : Shape := ⟨0, ![]⟩
abbrev S256x32 : Shape := ⟨2, ![256, 32]⟩
abbrev S256x1024 : Shape := ⟨2, ![256, 1024]⟩
abbrev S8x32x1024 : Shape := ⟨3, ![8, 32, 1024]⟩
abbrev S1x32x1024 : Shape := ⟨3, ![1, 32, 1024]⟩
abbrev S2x4x32x1024 : Shape := ⟨4, ![2, 4, 32, 1024]⟩
abbrev S1x2x4x32x1024 : Shape := ⟨5, ![1, 2, 4, 32, 1024]⟩
abbrev S1x1 : Shape := ⟨2, ![1, 1]⟩
abbrev S1x1x32x1024 : Shape := ⟨4, ![1, 1, 32, 1024]⟩
abbrev S1x1x1x32x1024 : Shape := ⟨5, ![1, 1, 1, 32, 1024]⟩
abbrev S1x4x32x1024 : Shape := ⟨4, ![1, 4, 32, 1024]⟩
abbrev S4x32x1024 : Shape := ⟨3, ![4, 32, 1024]⟩
abbrev S1x1x4x32x1024 : Shape := ⟨5, ![1, 1, 4, 32, 1024]⟩

abbrev nBuf : Space → Nat
  | .hbm => 3
  | .vmem => 12
  | .smem => 0
  | _ => 0

abbrev bufTy : (tb : Table) → Fin (tcTables nBuf tb) → BufTy
  | .hbm, ⟨0, _⟩ => ⟨S1024x32, .bf16⟩
  | .hbm, ⟨1, _⟩ => ⟨S32x1024, .bf16⟩
  | .hbm, ⟨2, _⟩ => ⟨S32x1024, .f32⟩
  | .local _ .vmem, ⟨0, _⟩ => ⟨S1024x32, .bf16⟩
  | .local _ .vmem, ⟨1, _⟩ => ⟨S32x1024, .bf16⟩
  | .local _ .vmem, ⟨2, _⟩ => ⟨S32x1024, .f32⟩
  | .local _ .vmem, ⟨3, _⟩ => ⟨S4x2x4x32x1024, .bf16⟩
  | .local _ .vmem, ⟨4, _⟩ => ⟨S3x4x32x1024, .bf16⟩
  | .local _ .vmem, ⟨5, _⟩ => ⟨S3x4x32x1024, .bf16⟩
  | .local _ .vmem, ⟨6, _⟩ => ⟨S4x3x32x1024, .bf16⟩
  | .local _ .vmem, ⟨7, _⟩ => ⟨S3x32x1024, .bf16⟩
  | .local _ .vmem, ⟨8, _⟩ => ⟨S3x32x1024, .bf16⟩
  | .local _ .vmem, ⟨9, _⟩ => ⟨S3x32x1024, .bf16⟩
  | .local _ .vmem, ⟨10, _⟩ => ⟨S32x1024, .bf16⟩
  | .local _ .vmem, ⟨11, _⟩ => ⟨S32x1024, .bf16⟩
  | _, _ => ⟨S1024x32, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  (ofTc nBuf bufTy 1 47 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_34 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_31 : BitVec 32 := 1#32
  let v71 : BitVec 32 := Scalar.xori v2 c1_i32_31
  let c1_i32_33 : BitVec 32 := 1#32
  let v72 : BitVec 32 := Scalar.muli v71 c1_i32_33
  let v73 : BitVec 32 := Scalar.addi c0_i32_34 v72
  v73.toNat
def k0_dev2 (d0 : Dev nD) : Nat :=
  let c0_i32_54 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_50 : BitVec 32 := 8#32
  let v99 : BitVec 32 := Scalar.muli v19 c8_i32_50
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_35 : BitVec 32 := 1#32
  let v74 : BitVec 32 := Scalar.addi v46 c1_i32_35
  let c0_i32_36 : BitVec 32 := 0#32
  let v75 : BitVec 32 := Scalar.addi v74 c0_i32_36
  let c4_i32 : BitVec 32 := 4#32
  let c0_i32_37 : BitVec 32 := 0#32
  let v76 : BitVec 1 := Scalar.cmpi .eq c4_i32 c0_i32_37
  let c1_i32_38 : BitVec 32 := 1#32
  let v77 : BitVec 32 := Scalar.select v76 c1_i32_38 c4_i32
  let v78 : BitVec 32 := Scalar.remsi v75 v77
  let c0_i32_40 : BitVec 32 := 0#32
  let v80 : BitVec 1 := Scalar.cmpi .slt v78 c0_i32_40
  let c0_i32_41 : BitVec 32 := 0#32
  let v81 : BitVec 1 := Scalar.cmpi .slt v77 c0_i32_41
  let v82 : BitVec 1 := Scalar.xori v80 v81
  let c0_i32_39 : BitVec 32 := 0#32
  let v79 : BitVec 1 := Scalar.cmpi .ne v78 c0_i32_39
  let v83 : BitVec 1 := Scalar.andi v82 v79
  let v84 : BitVec 32 := Scalar.addi v78 v77
  let v85 : BitVec 32 := Scalar.select v83 v84 v78
  let c2_i32_51 : BitVec 32 := 2#32
  let v100 : BitVec 32 := Scalar.muli v85 c2_i32_51
  let v101 : BitVec 32 := Scalar.addi v99 v100
  let c2_i32_42 : BitVec 32 := 2#32
  let c0_i32_43 : BitVec 32 := 0#32
  let v86 : BitVec 1 := Scalar.cmpi .eq c2_i32_42 c0_i32_43
  let c1_i32_44 : BitVec 32 := 1#32
  let v87 : BitVec 32 := Scalar.select v86 c1_i32_44 c2_i32_42
  let v88 : BitVec 32 := Scalar.remsi v85 v87
  let c0_i32_46 : BitVec 32 := 0#32
  let v90 : BitVec 1 := Scalar.cmpi .slt v88 c0_i32_46
  let c0_i32_47 : BitVec 32 := 0#32
  let v91 : BitVec 1 := Scalar.cmpi .slt v87 c0_i32_47
  let v92 : BitVec 1 := Scalar.xori v90 v91
  let c0_i32_45 : BitVec 32 := 0#32
  let v89 : BitVec 1 := Scalar.cmpi .ne v88 c0_i32_45
  let v93 : BitVec 1 := Scalar.andi v92 v89
  let v94 : BitVec 32 := Scalar.addi v88 v87
  let v95 : BitVec 32 := Scalar.select v93 v94 v88
  let c0_i32_48 : BitVec 32 := 0#32
  let v96 : BitVec 1 := Scalar.cmpi .eq v95 c0_i32_48
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_49 : BitVec 32 := 1#32
  let v97 : BitVec 32 := Scalar.subi c1_i32_49 v69
  let v98 : BitVec 32 := Scalar.select v96 v69 v97
  let v102 : BitVec 32 := Scalar.addi v101 v98
  let c1_i32_53 : BitVec 32 := 1#32
  let v103 : BitVec 32 := Scalar.muli v102 c1_i32_53
  let v104 : BitVec 32 := Scalar.addi c0_i32_54 v103
  v104.toNat
def k0_dev3 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_71 : BitVec 32 := 8#32
  let v130 : BitVec 32 := Scalar.muli v19 c8_i32_71
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_55 : BitVec 32 := 1#32
  let v105 : BitVec 32 := Scalar.addi v46 c1_i32_55
  let c1_i32_56 : BitVec 32 := 1#32
  let v106 : BitVec 32 := Scalar.addi v105 c1_i32_56
  let c4_i32_57 : BitVec 32 := 4#32
  let c0_i32_58 : BitVec 32 := 0#32
  let v107 : BitVec 1 := Scalar.cmpi .eq c4_i32_57 c0_i32_58
  let c1_i32_59 : BitVec 32 := 1#32
  let v108 : BitVec 32 := Scalar.select v107 c1_i32_59 c4_i32_57
  let v109 : BitVec 32 := Scalar.remsi v106 v108
  let c0_i32_61 : BitVec 32 := 0#32
  let v111 : BitVec 1 := Scalar.cmpi .slt v109 c0_i32_61
  let c0_i32_62 : BitVec 32 := 0#32
  let v112 : BitVec 1 := Scalar.cmpi .slt v108 c0_i32_62
  let v113 : BitVec 1 := Scalar.xori v111 v112
  let c0_i32_60 : BitVec 32 := 0#32
  let v110 : BitVec 1 := Scalar.cmpi .ne v109 c0_i32_60
  let v114 : BitVec 1 := Scalar.andi v113 v110
  let v115 : BitVec 32 := Scalar.addi v109 v108
  let v116 : BitVec 32 := Scalar.select v114 v115 v109
  let c2_i32_72 : BitVec 32 := 2#32
  let v131 : BitVec 32 := Scalar.muli v116 c2_i32_72
  let v132 : BitVec 32 := Scalar.addi v130 v131
  let c2_i32_63 : BitVec 32 := 2#32
  let c0_i32_64 : BitVec 32 := 0#32
  let v117 : BitVec 1 := Scalar.cmpi .eq c2_i32_63 c0_i32_64
  let c1_i32_65 : BitVec 32 := 1#32
  let v118 : BitVec 32 := Scalar.select v117 c1_i32_65 c2_i32_63
  let v119 : BitVec 32 := Scalar.remsi v116 v118
  let c0_i32_67 : BitVec 32 := 0#32
  let v121 : BitVec 1 := Scalar.cmpi .slt v119 c0_i32_67
  let c0_i32_68 : BitVec 32 := 0#32
  let v122 : BitVec 1 := Scalar.cmpi .slt v118 c0_i32_68
  let v123 : BitVec 1 := Scalar.xori v121 v122
  let c0_i32_66 : BitVec 32 := 0#32
  let v120 : BitVec 1 := Scalar.cmpi .ne v119 c0_i32_66
  let v124 : BitVec 1 := Scalar.andi v123 v120
  let v125 : BitVec 32 := Scalar.addi v119 v118
  let v126 : BitVec 32 := Scalar.select v124 v125 v119
  let c0_i32_69 : BitVec 32 := 0#32
  let v127 : BitVec 1 := Scalar.cmpi .eq v126 c0_i32_69
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_70 : BitVec 32 := 1#32
  let v128 : BitVec 32 := Scalar.subi c1_i32_70 v69
  let v129 : BitVec 32 := Scalar.select v127 v69 v128
  let v133 : BitVec 32 := Scalar.addi v132 v129
  let c1_i32_74 : BitVec 32 := 1#32
  let v134 : BitVec 32 := Scalar.muli v133 c1_i32_74
  let v135 : BitVec 32 := Scalar.addi c0_i32_75 v134
  v135.toNat
def k0_dev4 (d0 : Dev nD) : Nat :=
  let c0_i32_96 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_92 : BitVec 32 := 8#32
  let v161 : BitVec 32 := Scalar.muli v19 c8_i32_92
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_76 : BitVec 32 := 1#32
  let v136 : BitVec 32 := Scalar.addi v46 c1_i32_76
  let c2_i32_77 : BitVec 32 := 2#32
  let v137 : BitVec 32 := Scalar.addi v136 c2_i32_77
  let c4_i32_78 : BitVec 32 := 4#32
  let c0_i32_79 : BitVec 32 := 0#32
  let v138 : BitVec 1 := Scalar.cmpi .eq c4_i32_78 c0_i32_79
  let c1_i32_80 : BitVec 32 := 1#32
  let v139 : BitVec 32 := Scalar.select v138 c1_i32_80 c4_i32_78
  let v140 : BitVec 32 := Scalar.remsi v137 v139
  let c0_i32_82 : BitVec 32 := 0#32
  let v142 : BitVec 1 := Scalar.cmpi .slt v140 c0_i32_82
  let c0_i32_83 : BitVec 32 := 0#32
  let v143 : BitVec 1 := Scalar.cmpi .slt v139 c0_i32_83
  let v144 : BitVec 1 := Scalar.xori v142 v143
  let c0_i32_81 : BitVec 32 := 0#32
  let v141 : BitVec 1 := Scalar.cmpi .ne v140 c0_i32_81
  let v145 : BitVec 1 := Scalar.andi v144 v141
  let v146 : BitVec 32 := Scalar.addi v140 v139
  let v147 : BitVec 32 := Scalar.select v145 v146 v140
  let c2_i32_93 : BitVec 32 := 2#32
  let v162 : BitVec 32 := Scalar.muli v147 c2_i32_93
  let v163 : BitVec 32 := Scalar.addi v161 v162
  let c2_i32_84 : BitVec 32 := 2#32
  let c0_i32_85 : BitVec 32 := 0#32
  let v148 : BitVec 1 := Scalar.cmpi .eq c2_i32_84 c0_i32_85
  let c1_i32_86 : BitVec 32 := 1#32
  let v149 : BitVec 32 := Scalar.select v148 c1_i32_86 c2_i32_84
  let v150 : BitVec 32 := Scalar.remsi v147 v149
  let c0_i32_88 : BitVec 32 := 0#32
  let v152 : BitVec 1 := Scalar.cmpi .slt v150 c0_i32_88
  let c0_i32_89 : BitVec 32 := 0#32
  let v153 : BitVec 1 := Scalar.cmpi .slt v149 c0_i32_89
  let v154 : BitVec 1 := Scalar.xori v152 v153
  let c0_i32_87 : BitVec 32 := 0#32
  let v151 : BitVec 1 := Scalar.cmpi .ne v150 c0_i32_87
  let v155 : BitVec 1 := Scalar.andi v154 v151
  let v156 : BitVec 32 := Scalar.addi v150 v149
  let v157 : BitVec 32 := Scalar.select v155 v156 v150
  let c0_i32_90 : BitVec 32 := 0#32
  let v158 : BitVec 1 := Scalar.cmpi .eq v157 c0_i32_90
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_91 : BitVec 32 := 1#32
  let v159 : BitVec 32 := Scalar.subi c1_i32_91 v69
  let v160 : BitVec 32 := Scalar.select v158 v69 v159
  let v164 : BitVec 32 := Scalar.addi v163 v160
  let c1_i32_95 : BitVec 32 := 1#32
  let v165 : BitVec 32 := Scalar.muli v164 c1_i32_95
  let v166 : BitVec 32 := Scalar.addi c0_i32_96 v165
  v166.toNat
def k0_dev5 (d0 : Dev nD) : Nat :=
  let c0_i32_108 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_97 : BitVec 32 := 1#32
  let v167 : BitVec 32 := Scalar.addi v19 c1_i32_97
  let c0_i32_98 : BitVec 32 := 0#32
  let v168 : BitVec 32 := Scalar.addi v167 c0_i32_98
  let c4_i32_99 : BitVec 32 := 4#32
  let c0_i32_100 : BitVec 32 := 0#32
  let v169 : BitVec 1 := Scalar.cmpi .eq c4_i32_99 c0_i32_100
  let c1_i32_101 : BitVec 32 := 1#32
  let v170 : BitVec 32 := Scalar.select v169 c1_i32_101 c4_i32_99
  let v171 : BitVec 32 := Scalar.remsi v168 v170
  let c0_i32_103 : BitVec 32 := 0#32
  let v173 : BitVec 1 := Scalar.cmpi .slt v171 c0_i32_103
  let c0_i32_104 : BitVec 32 := 0#32
  let v174 : BitVec 1 := Scalar.cmpi .slt v170 c0_i32_104
  let v175 : BitVec 1 := Scalar.xori v173 v174
  let c0_i32_102 : BitVec 32 := 0#32
  let v172 : BitVec 1 := Scalar.cmpi .ne v171 c0_i32_102
  let v176 : BitVec 1 := Scalar.andi v175 v172
  let v177 : BitVec 32 := Scalar.addi v171 v170
  let v178 : BitVec 32 := Scalar.select v176 v177 v171
  let c8_i32_105 : BitVec 32 := 8#32
  let v179 : BitVec 32 := Scalar.muli v178 c8_i32_105
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v180 : BitVec 32 := Scalar.addi v179 v29
  let c1_i32_107 : BitVec 32 := 1#32
  let v181 : BitVec 32 := Scalar.muli v180 c1_i32_107
  let v182 : BitVec 32 := Scalar.addi c0_i32_108 v181
  v182.toNat
def k0_dev6 (d0 : Dev nD) : Nat :=
  let c0_i32_120 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_109 : BitVec 32 := 1#32
  let v183 : BitVec 32 := Scalar.addi v19 c1_i32_109
  let c1_i32_110 : BitVec 32 := 1#32
  let v184 : BitVec 32 := Scalar.addi v183 c1_i32_110
  let c4_i32_111 : BitVec 32 := 4#32
  let c0_i32_112 : BitVec 32 := 0#32
  let v185 : BitVec 1 := Scalar.cmpi .eq c4_i32_111 c0_i32_112
  let c1_i32_113 : BitVec 32 := 1#32
  let v186 : BitVec 32 := Scalar.select v185 c1_i32_113 c4_i32_111
  let v187 : BitVec 32 := Scalar.remsi v184 v186
  let c0_i32_115 : BitVec 32 := 0#32
  let v189 : BitVec 1 := Scalar.cmpi .slt v187 c0_i32_115
  let c0_i32_116 : BitVec 32 := 0#32
  let v190 : BitVec 1 := Scalar.cmpi .slt v186 c0_i32_116
  let v191 : BitVec 1 := Scalar.xori v189 v190
  let c0_i32_114 : BitVec 32 := 0#32
  let v188 : BitVec 1 := Scalar.cmpi .ne v187 c0_i32_114
  let v192 : BitVec 1 := Scalar.andi v191 v188
  let v193 : BitVec 32 := Scalar.addi v187 v186
  let v194 : BitVec 32 := Scalar.select v192 v193 v187
  let c8_i32_117 : BitVec 32 := 8#32
  let v195 : BitVec 32 := Scalar.muli v194 c8_i32_117
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v196 : BitVec 32 := Scalar.addi v195 v29
  let c1_i32_119 : BitVec 32 := 1#32
  let v197 : BitVec 32 := Scalar.muli v196 c1_i32_119
  let v198 : BitVec 32 := Scalar.addi c0_i32_120 v197
  v198.toNat
def k0_dev7 (d0 : Dev nD) : Nat :=
  let c0_i32_132 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_121 : BitVec 32 := 1#32
  let v199 : BitVec 32 := Scalar.addi v19 c1_i32_121
  let c2_i32_122 : BitVec 32 := 2#32
  let v200 : BitVec 32 := Scalar.addi v199 c2_i32_122
  let c4_i32_123 : BitVec 32 := 4#32
  let c0_i32_124 : BitVec 32 := 0#32
  let v201 : BitVec 1 := Scalar.cmpi .eq c4_i32_123 c0_i32_124
  let c1_i32_125 : BitVec 32 := 1#32
  let v202 : BitVec 32 := Scalar.select v201 c1_i32_125 c4_i32_123
  let v203 : BitVec 32 := Scalar.remsi v200 v202
  let c0_i32_127 : BitVec 32 := 0#32
  let v205 : BitVec 1 := Scalar.cmpi .slt v203 c0_i32_127
  let c0_i32_128 : BitVec 32 := 0#32
  let v206 : BitVec 1 := Scalar.cmpi .slt v202 c0_i32_128
  let v207 : BitVec 1 := Scalar.xori v205 v206
  let c0_i32_126 : BitVec 32 := 0#32
  let v204 : BitVec 1 := Scalar.cmpi .ne v203 c0_i32_126
  let v208 : BitVec 1 := Scalar.andi v207 v204
  let v209 : BitVec 32 := Scalar.addi v203 v202
  let v210 : BitVec 32 := Scalar.select v208 v209 v203
  let c8_i32_129 : BitVec 32 := 8#32
  let v211 : BitVec 32 := Scalar.muli v210 c8_i32_129
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v212 : BitVec 32 := Scalar.addi v211 v29
  let c1_i32_131 : BitVec 32 := 1#32
  let v213 : BitVec 32 := Scalar.muli v212 c1_i32_131
  let v214 : BitVec 32 := Scalar.addi c0_i32_132 v213
  v214.toNat
def k0_off1 (d0 : Dev nD) (c0_i32_133 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v215 : BitVec 32 := Scalar.addi v19 c0_i32_133
  let c4_i32_134 : BitVec 32 := 4#32
  let c0_i32_135 : BitVec 32 := 0#32
  let v216 : BitVec 1 := Scalar.cmpi .eq c4_i32_134 c0_i32_135
  let c1_i32_136 : BitVec 32 := 1#32
  let v217 : BitVec 32 := Scalar.select v216 c1_i32_136 c4_i32_134
  let v218 : BitVec 32 := Scalar.remsi v215 v217
  let c0_i32_138 : BitVec 32 := 0#32
  let v220 : BitVec 1 := Scalar.cmpi .slt v218 c0_i32_138
  let c0_i32_139 : BitVec 32 := 0#32
  let v221 : BitVec 1 := Scalar.cmpi .slt v217 c0_i32_139
  let v222 : BitVec 1 := Scalar.xori v220 v221
  let c0_i32_137 : BitVec 32 := 0#32
  let v219 : BitVec 1 := Scalar.cmpi .ne v218 c0_i32_137
  let v223 : BitVec 1 := Scalar.andi v222 v219
  let v224 : BitVec 32 := Scalar.addi v218 v217
  let v225 : BitVec 32 := Scalar.select v223 v224 v218
  let c256_i32 : BitVec 32 := 256#32
  let v259 : BitVec 32 := Scalar.muli v225 c256_i32
  let v260 : Index := Scalar.indexCast v259
  let c0 : Index := 0#32
  ![v260.toNat, 0]
def k0_off2 (d0 : Dev nD) (c0_i32_168 : BitVec 32) : Fin 5 → Nat :=
  let c0_i32_185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_167 : BitVec 32 := 1#32
  let v297 : BitVec 32 := Scalar.addi v46 c1_i32_167
  let v298 : BitVec 32 := Scalar.addi v297 c0_i32_168
  let c4_i32_169 : BitVec 32 := 4#32
  let c0_i32_170 : BitVec 32 := 0#32
  let v299 : BitVec 1 := Scalar.cmpi .eq c4_i32_169 c0_i32_170
  let c1_i32_171 : BitVec 32 := 1#32
  let v300 : BitVec 32 := Scalar.select v299 c1_i32_171 c4_i32_169
  let v301 : BitVec 32 := Scalar.remsi v298 v300
  let c0_i32_173 : BitVec 32 := 0#32
  let v303 : BitVec 1 := Scalar.cmpi .slt v301 c0_i32_173
  let c0_i32_174 : BitVec 32 := 0#32
  let v304 : BitVec 1 := Scalar.cmpi .slt v300 c0_i32_174
  let v305 : BitVec 1 := Scalar.xori v303 v304
  let c0_i32_172 : BitVec 32 := 0#32
  let v302 : BitVec 1 := Scalar.cmpi .ne v301 c0_i32_172
  let v306 : BitVec 1 := Scalar.andi v305 v302
  let v307 : BitVec 32 := Scalar.addi v301 v300
  let v308 : BitVec 32 := Scalar.select v306 v307 v301
  let c0_i32_196 : BitVec 32 := 0#32
  let c0_i32_197 : BitVec 32 := 0#32
  ![0, v69.toNat, v308.toNat, 0, 0]
def k0_dev8 (d0 : Dev nD) : Nat :=
  let c0_i32_193 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_183 : BitVec 32 := 8#32
  let v322 : BitVec 32 := Scalar.muli v19 c8_i32_183
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_167 : BitVec 32 := 1#32
  let v297 : BitVec 32 := Scalar.addi v46 c1_i32_167
  let c0_i32_168 : BitVec 32 := 0#32
  let v298 : BitVec 32 := Scalar.addi v297 c0_i32_168
  let c4_i32_169 : BitVec 32 := 4#32
  let c0_i32_170 : BitVec 32 := 0#32
  let v299 : BitVec 1 := Scalar.cmpi .eq c4_i32_169 c0_i32_170
  let c1_i32_171 : BitVec 32 := 1#32
  let v300 : BitVec 32 := Scalar.select v299 c1_i32_171 c4_i32_169
  let v301 : BitVec 32 := Scalar.remsi v298 v300
  let c0_i32_173 : BitVec 32 := 0#32
  let v303 : BitVec 1 := Scalar.cmpi .slt v301 c0_i32_173
  let c0_i32_174 : BitVec 32 := 0#32
  let v304 : BitVec 1 := Scalar.cmpi .slt v300 c0_i32_174
  let v305 : BitVec 1 := Scalar.xori v303 v304
  let c0_i32_172 : BitVec 32 := 0#32
  let v302 : BitVec 1 := Scalar.cmpi .ne v301 c0_i32_172
  let v306 : BitVec 1 := Scalar.andi v305 v302
  let v307 : BitVec 32 := Scalar.addi v301 v300
  let v308 : BitVec 32 := Scalar.select v306 v307 v301
  let c2_i32_184 : BitVec 32 := 2#32
  let v323 : BitVec 32 := Scalar.muli v308 c2_i32_184
  let v324 : BitVec 32 := Scalar.addi v322 v323
  let c2_i32_175 : BitVec 32 := 2#32
  let c0_i32_176 : BitVec 32 := 0#32
  let v309 : BitVec 1 := Scalar.cmpi .eq c2_i32_175 c0_i32_176
  let c1_i32_177 : BitVec 32 := 1#32
  let v310 : BitVec 32 := Scalar.select v309 c1_i32_177 c2_i32_175
  let v311 : BitVec 32 := Scalar.remsi v308 v310
  let c0_i32_179 : BitVec 32 := 0#32
  let v313 : BitVec 1 := Scalar.cmpi .slt v311 c0_i32_179
  let c0_i32_180 : BitVec 32 := 0#32
  let v314 : BitVec 1 := Scalar.cmpi .slt v310 c0_i32_180
  let v315 : BitVec 1 := Scalar.xori v313 v314
  let c0_i32_178 : BitVec 32 := 0#32
  let v312 : BitVec 1 := Scalar.cmpi .ne v311 c0_i32_178
  let v316 : BitVec 1 := Scalar.andi v315 v312
  let v317 : BitVec 32 := Scalar.addi v311 v310
  let v318 : BitVec 32 := Scalar.select v316 v317 v311
  let c0_i32_181 : BitVec 32 := 0#32
  let v319 : BitVec 1 := Scalar.cmpi .eq v318 c0_i32_181
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_182 : BitVec 32 := 1#32
  let v320 : BitVec 32 := Scalar.subi c1_i32_182 v69
  let v321 : BitVec 32 := Scalar.select v319 v69 v320
  let v325 : BitVec 32 := Scalar.addi v324 v321
  let c1_i32_192 : BitVec 32 := 1#32
  let v326 : BitVec 32 := Scalar.muli v325 c1_i32_192
  let v327 : BitVec 32 := Scalar.addi c0_i32_193 v326
  v327.toNat
def k0_off3 (d0 : Dev nD) (c0_i32_168 : BitVec 32) : Fin 5 → Nat :=
  let c0_i32_199 : BitVec 32 := 0#32
  let c1_i32_198 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let v336 : BitVec 32 := Scalar.subi c1_i32_198 v69
  let c1_i32_167 : BitVec 32 := 1#32
  let v297 : BitVec 32 := Scalar.addi v46 c1_i32_167
  let v298 : BitVec 32 := Scalar.addi v297 c0_i32_168
  let c4_i32_169 : BitVec 32 := 4#32
  let c0_i32_170 : BitVec 32 := 0#32
  let v299 : BitVec 1 := Scalar.cmpi .eq c4_i32_169 c0_i32_170
  let c1_i32_171 : BitVec 32 := 1#32
  let v300 : BitVec 32 := Scalar.select v299 c1_i32_171 c4_i32_169
  let v301 : BitVec 32 := Scalar.remsi v298 v300
  let c0_i32_173 : BitVec 32 := 0#32
  let v303 : BitVec 1 := Scalar.cmpi .slt v301 c0_i32_173
  let c0_i32_174 : BitVec 32 := 0#32
  let v304 : BitVec 1 := Scalar.cmpi .slt v300 c0_i32_174
  let v305 : BitVec 1 := Scalar.xori v303 v304
  let c0_i32_172 : BitVec 32 := 0#32
  let v302 : BitVec 1 := Scalar.cmpi .ne v301 c0_i32_172
  let v306 : BitVec 1 := Scalar.andi v305 v302
  let v307 : BitVec 32 := Scalar.addi v301 v300
  let v308 : BitVec 32 := Scalar.select v306 v307 v301
  let c0_i32_207 : BitVec 32 := 0#32
  let c0_i32_208 : BitVec 32 := 0#32
  ![0, v336.toNat, v308.toNat, 0, 0]
def k0_dev9 (d0 : Dev nD) : Nat :=
  let c0_i32_204 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_183 : BitVec 32 := 8#32
  let v322 : BitVec 32 := Scalar.muli v19 c8_i32_183
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_167 : BitVec 32 := 1#32
  let v297 : BitVec 32 := Scalar.addi v46 c1_i32_167
  let c0_i32_168 : BitVec 32 := 0#32
  let v298 : BitVec 32 := Scalar.addi v297 c0_i32_168
  let c4_i32_169 : BitVec 32 := 4#32
  let c0_i32_170 : BitVec 32 := 0#32
  let v299 : BitVec 1 := Scalar.cmpi .eq c4_i32_169 c0_i32_170
  let c1_i32_171 : BitVec 32 := 1#32
  let v300 : BitVec 32 := Scalar.select v299 c1_i32_171 c4_i32_169
  let v301 : BitVec 32 := Scalar.remsi v298 v300
  let c0_i32_173 : BitVec 32 := 0#32
  let v303 : BitVec 1 := Scalar.cmpi .slt v301 c0_i32_173
  let c0_i32_174 : BitVec 32 := 0#32
  let v304 : BitVec 1 := Scalar.cmpi .slt v300 c0_i32_174
  let v305 : BitVec 1 := Scalar.xori v303 v304
  let c0_i32_172 : BitVec 32 := 0#32
  let v302 : BitVec 1 := Scalar.cmpi .ne v301 c0_i32_172
  let v306 : BitVec 1 := Scalar.andi v305 v302
  let v307 : BitVec 32 := Scalar.addi v301 v300
  let v308 : BitVec 32 := Scalar.select v306 v307 v301
  let c2_i32_184 : BitVec 32 := 2#32
  let v323 : BitVec 32 := Scalar.muli v308 c2_i32_184
  let v324 : BitVec 32 := Scalar.addi v322 v323
  let c2_i32_175 : BitVec 32 := 2#32
  let c0_i32_176 : BitVec 32 := 0#32
  let v309 : BitVec 1 := Scalar.cmpi .eq c2_i32_175 c0_i32_176
  let c1_i32_177 : BitVec 32 := 1#32
  let v310 : BitVec 32 := Scalar.select v309 c1_i32_177 c2_i32_175
  let v311 : BitVec 32 := Scalar.remsi v308 v310
  let c0_i32_179 : BitVec 32 := 0#32
  let v313 : BitVec 1 := Scalar.cmpi .slt v311 c0_i32_179
  let c0_i32_180 : BitVec 32 := 0#32
  let v314 : BitVec 1 := Scalar.cmpi .slt v310 c0_i32_180
  let v315 : BitVec 1 := Scalar.xori v313 v314
  let c0_i32_178 : BitVec 32 := 0#32
  let v312 : BitVec 1 := Scalar.cmpi .ne v311 c0_i32_178
  let v316 : BitVec 1 := Scalar.andi v315 v312
  let v317 : BitVec 32 := Scalar.addi v311 v310
  let v318 : BitVec 32 := Scalar.select v316 v317 v311
  let c0_i32_181 : BitVec 32 := 0#32
  let v319 : BitVec 1 := Scalar.cmpi .eq v318 c0_i32_181
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_182 : BitVec 32 := 1#32
  let v320 : BitVec 32 := Scalar.subi c1_i32_182 v69
  let v321 : BitVec 32 := Scalar.select v319 v69 v320
  let v325 : BitVec 32 := Scalar.addi v324 v321
  let c1_i32_203 : BitVec 32 := 1#32
  let v337 : BitVec 32 := Scalar.muli v325 c1_i32_203
  let v338 : BitVec 32 := Scalar.addi c0_i32_204 v337
  v338.toNat
def k0_dev10 (d0 : Dev nD) : Nat :=
  let c0_i32_235 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_225 : BitVec 32 := 8#32
  let v372 : BitVec 32 := Scalar.muli v19 c8_i32_225
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_209 : BitVec 32 := 1#32
  let v347 : BitVec 32 := Scalar.addi v46 c1_i32_209
  let c1_i32_210 : BitVec 32 := 1#32
  let v348 : BitVec 32 := Scalar.addi v347 c1_i32_210
  let c4_i32_211 : BitVec 32 := 4#32
  let c0_i32_212 : BitVec 32 := 0#32
  let v349 : BitVec 1 := Scalar.cmpi .eq c4_i32_211 c0_i32_212
  let c1_i32_213 : BitVec 32 := 1#32
  let v350 : BitVec 32 := Scalar.select v349 c1_i32_213 c4_i32_211
  let v351 : BitVec 32 := Scalar.remsi v348 v350
  let c0_i32_215 : BitVec 32 := 0#32
  let v353 : BitVec 1 := Scalar.cmpi .slt v351 c0_i32_215
  let c0_i32_216 : BitVec 32 := 0#32
  let v354 : BitVec 1 := Scalar.cmpi .slt v350 c0_i32_216
  let v355 : BitVec 1 := Scalar.xori v353 v354
  let c0_i32_214 : BitVec 32 := 0#32
  let v352 : BitVec 1 := Scalar.cmpi .ne v351 c0_i32_214
  let v356 : BitVec 1 := Scalar.andi v355 v352
  let v357 : BitVec 32 := Scalar.addi v351 v350
  let v358 : BitVec 32 := Scalar.select v356 v357 v351
  let c2_i32_226 : BitVec 32 := 2#32
  let v373 : BitVec 32 := Scalar.muli v358 c2_i32_226
  let v374 : BitVec 32 := Scalar.addi v372 v373
  let c2_i32_217 : BitVec 32 := 2#32
  let c0_i32_218 : BitVec 32 := 0#32
  let v359 : BitVec 1 := Scalar.cmpi .eq c2_i32_217 c0_i32_218
  let c1_i32_219 : BitVec 32 := 1#32
  let v360 : BitVec 32 := Scalar.select v359 c1_i32_219 c2_i32_217
  let v361 : BitVec 32 := Scalar.remsi v358 v360
  let c0_i32_221 : BitVec 32 := 0#32
  let v363 : BitVec 1 := Scalar.cmpi .slt v361 c0_i32_221
  let c0_i32_222 : BitVec 32 := 0#32
  let v364 : BitVec 1 := Scalar.cmpi .slt v360 c0_i32_222
  let v365 : BitVec 1 := Scalar.xori v363 v364
  let c0_i32_220 : BitVec 32 := 0#32
  let v362 : BitVec 1 := Scalar.cmpi .ne v361 c0_i32_220
  let v366 : BitVec 1 := Scalar.andi v365 v362
  let v367 : BitVec 32 := Scalar.addi v361 v360
  let v368 : BitVec 32 := Scalar.select v366 v367 v361
  let c0_i32_223 : BitVec 32 := 0#32
  let v369 : BitVec 1 := Scalar.cmpi .eq v368 c0_i32_223
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_224 : BitVec 32 := 1#32
  let v370 : BitVec 32 := Scalar.subi c1_i32_224 v69
  let v371 : BitVec 32 := Scalar.select v369 v69 v370
  let v375 : BitVec 32 := Scalar.addi v374 v371
  let c1_i32_234 : BitVec 32 := 1#32
  let v376 : BitVec 32 := Scalar.muli v375 c1_i32_234
  let v377 : BitVec 32 := Scalar.addi c0_i32_235 v376
  v377.toNat
def k0_dev11 (d0 : Dev nD) : Nat :=
  let c0_i32_246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_225 : BitVec 32 := 8#32
  let v372 : BitVec 32 := Scalar.muli v19 c8_i32_225
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_209 : BitVec 32 := 1#32
  let v347 : BitVec 32 := Scalar.addi v46 c1_i32_209
  let c1_i32_210 : BitVec 32 := 1#32
  let v348 : BitVec 32 := Scalar.addi v347 c1_i32_210
  let c4_i32_211 : BitVec 32 := 4#32
  let c0_i32_212 : BitVec 32 := 0#32
  let v349 : BitVec 1 := Scalar.cmpi .eq c4_i32_211 c0_i32_212
  let c1_i32_213 : BitVec 32 := 1#32
  let v350 : BitVec 32 := Scalar.select v349 c1_i32_213 c4_i32_211
  let v351 : BitVec 32 := Scalar.remsi v348 v350
  let c0_i32_215 : BitVec 32 := 0#32
  let v353 : BitVec 1 := Scalar.cmpi .slt v351 c0_i32_215
  let c0_i32_216 : BitVec 32 := 0#32
  let v354 : BitVec 1 := Scalar.cmpi .slt v350 c0_i32_216
  let v355 : BitVec 1 := Scalar.xori v353 v354
  let c0_i32_214 : BitVec 32 := 0#32
  let v352 : BitVec 1 := Scalar.cmpi .ne v351 c0_i32_214
  let v356 : BitVec 1 := Scalar.andi v355 v352
  let v357 : BitVec 32 := Scalar.addi v351 v350
  let v358 : BitVec 32 := Scalar.select v356 v357 v351
  let c2_i32_226 : BitVec 32 := 2#32
  let v373 : BitVec 32 := Scalar.muli v358 c2_i32_226
  let v374 : BitVec 32 := Scalar.addi v372 v373
  let c2_i32_217 : BitVec 32 := 2#32
  let c0_i32_218 : BitVec 32 := 0#32
  let v359 : BitVec 1 := Scalar.cmpi .eq c2_i32_217 c0_i32_218
  let c1_i32_219 : BitVec 32 := 1#32
  let v360 : BitVec 32 := Scalar.select v359 c1_i32_219 c2_i32_217
  let v361 : BitVec 32 := Scalar.remsi v358 v360
  let c0_i32_221 : BitVec 32 := 0#32
  let v363 : BitVec 1 := Scalar.cmpi .slt v361 c0_i32_221
  let c0_i32_222 : BitVec 32 := 0#32
  let v364 : BitVec 1 := Scalar.cmpi .slt v360 c0_i32_222
  let v365 : BitVec 1 := Scalar.xori v363 v364
  let c0_i32_220 : BitVec 32 := 0#32
  let v362 : BitVec 1 := Scalar.cmpi .ne v361 c0_i32_220
  let v366 : BitVec 1 := Scalar.andi v365 v362
  let v367 : BitVec 32 := Scalar.addi v361 v360
  let v368 : BitVec 32 := Scalar.select v366 v367 v361
  let c0_i32_223 : BitVec 32 := 0#32
  let v369 : BitVec 1 := Scalar.cmpi .eq v368 c0_i32_223
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_224 : BitVec 32 := 1#32
  let v370 : BitVec 32 := Scalar.subi c1_i32_224 v69
  let v371 : BitVec 32 := Scalar.select v369 v69 v370
  let v375 : BitVec 32 := Scalar.addi v374 v371
  let c1_i32_245 : BitVec 32 := 1#32
  let v387 : BitVec 32 := Scalar.muli v375 c1_i32_245
  let v388 : BitVec 32 := Scalar.addi c0_i32_246 v387
  v388.toNat
def k0_dev12 (d0 : Dev nD) : Nat :=
  let c0_i32_277 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_267 : BitVec 32 := 8#32
  let v422 : BitVec 32 := Scalar.muli v19 c8_i32_267
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_251 : BitVec 32 := 1#32
  let v397 : BitVec 32 := Scalar.addi v46 c1_i32_251
  let c2_i32_252 : BitVec 32 := 2#32
  let v398 : BitVec 32 := Scalar.addi v397 c2_i32_252
  let c4_i32_253 : BitVec 32 := 4#32
  let c0_i32_254 : BitVec 32 := 0#32
  let v399 : BitVec 1 := Scalar.cmpi .eq c4_i32_253 c0_i32_254
  let c1_i32_255 : BitVec 32 := 1#32
  let v400 : BitVec 32 := Scalar.select v399 c1_i32_255 c4_i32_253
  let v401 : BitVec 32 := Scalar.remsi v398 v400
  let c0_i32_257 : BitVec 32 := 0#32
  let v403 : BitVec 1 := Scalar.cmpi .slt v401 c0_i32_257
  let c0_i32_258 : BitVec 32 := 0#32
  let v404 : BitVec 1 := Scalar.cmpi .slt v400 c0_i32_258
  let v405 : BitVec 1 := Scalar.xori v403 v404
  let c0_i32_256 : BitVec 32 := 0#32
  let v402 : BitVec 1 := Scalar.cmpi .ne v401 c0_i32_256
  let v406 : BitVec 1 := Scalar.andi v405 v402
  let v407 : BitVec 32 := Scalar.addi v401 v400
  let v408 : BitVec 32 := Scalar.select v406 v407 v401
  let c2_i32_268 : BitVec 32 := 2#32
  let v423 : BitVec 32 := Scalar.muli v408 c2_i32_268
  let v424 : BitVec 32 := Scalar.addi v422 v423
  let c2_i32_259 : BitVec 32 := 2#32
  let c0_i32_260 : BitVec 32 := 0#32
  let v409 : BitVec 1 := Scalar.cmpi .eq c2_i32_259 c0_i32_260
  let c1_i32_261 : BitVec 32 := 1#32
  let v410 : BitVec 32 := Scalar.select v409 c1_i32_261 c2_i32_259
  let v411 : BitVec 32 := Scalar.remsi v408 v410
  let c0_i32_263 : BitVec 32 := 0#32
  let v413 : BitVec 1 := Scalar.cmpi .slt v411 c0_i32_263
  let c0_i32_264 : BitVec 32 := 0#32
  let v414 : BitVec 1 := Scalar.cmpi .slt v410 c0_i32_264
  let v415 : BitVec 1 := Scalar.xori v413 v414
  let c0_i32_262 : BitVec 32 := 0#32
  let v412 : BitVec 1 := Scalar.cmpi .ne v411 c0_i32_262
  let v416 : BitVec 1 := Scalar.andi v415 v412
  let v417 : BitVec 32 := Scalar.addi v411 v410
  let v418 : BitVec 32 := Scalar.select v416 v417 v411
  let c0_i32_265 : BitVec 32 := 0#32
  let v419 : BitVec 1 := Scalar.cmpi .eq v418 c0_i32_265
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_266 : BitVec 32 := 1#32
  let v420 : BitVec 32 := Scalar.subi c1_i32_266 v69
  let v421 : BitVec 32 := Scalar.select v419 v69 v420
  let v425 : BitVec 32 := Scalar.addi v424 v421
  let c1_i32_276 : BitVec 32 := 1#32
  let v426 : BitVec 32 := Scalar.muli v425 c1_i32_276
  let v427 : BitVec 32 := Scalar.addi c0_i32_277 v426
  v427.toNat
def k0_dev13 (d0 : Dev nD) : Nat :=
  let c0_i32_288 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_267 : BitVec 32 := 8#32
  let v422 : BitVec 32 := Scalar.muli v19 c8_i32_267
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_251 : BitVec 32 := 1#32
  let v397 : BitVec 32 := Scalar.addi v46 c1_i32_251
  let c2_i32_252 : BitVec 32 := 2#32
  let v398 : BitVec 32 := Scalar.addi v397 c2_i32_252
  let c4_i32_253 : BitVec 32 := 4#32
  let c0_i32_254 : BitVec 32 := 0#32
  let v399 : BitVec 1 := Scalar.cmpi .eq c4_i32_253 c0_i32_254
  let c1_i32_255 : BitVec 32 := 1#32
  let v400 : BitVec 32 := Scalar.select v399 c1_i32_255 c4_i32_253
  let v401 : BitVec 32 := Scalar.remsi v398 v400
  let c0_i32_257 : BitVec 32 := 0#32
  let v403 : BitVec 1 := Scalar.cmpi .slt v401 c0_i32_257
  let c0_i32_258 : BitVec 32 := 0#32
  let v404 : BitVec 1 := Scalar.cmpi .slt v400 c0_i32_258
  let v405 : BitVec 1 := Scalar.xori v403 v404
  let c0_i32_256 : BitVec 32 := 0#32
  let v402 : BitVec 1 := Scalar.cmpi .ne v401 c0_i32_256
  let v406 : BitVec 1 := Scalar.andi v405 v402
  let v407 : BitVec 32 := Scalar.addi v401 v400
  let v408 : BitVec 32 := Scalar.select v406 v407 v401
  let c2_i32_268 : BitVec 32 := 2#32
  let v423 : BitVec 32 := Scalar.muli v408 c2_i32_268
  let v424 : BitVec 32 := Scalar.addi v422 v423
  let c2_i32_259 : BitVec 32 := 2#32
  let c0_i32_260 : BitVec 32 := 0#32
  let v409 : BitVec 1 := Scalar.cmpi .eq c2_i32_259 c0_i32_260
  let c1_i32_261 : BitVec 32 := 1#32
  let v410 : BitVec 32 := Scalar.select v409 c1_i32_261 c2_i32_259
  let v411 : BitVec 32 := Scalar.remsi v408 v410
  let c0_i32_263 : BitVec 32 := 0#32
  let v413 : BitVec 1 := Scalar.cmpi .slt v411 c0_i32_263
  let c0_i32_264 : BitVec 32 := 0#32
  let v414 : BitVec 1 := Scalar.cmpi .slt v410 c0_i32_264
  let v415 : BitVec 1 := Scalar.xori v413 v414
  let c0_i32_262 : BitVec 32 := 0#32
  let v412 : BitVec 1 := Scalar.cmpi .ne v411 c0_i32_262
  let v416 : BitVec 1 := Scalar.andi v415 v412
  let v417 : BitVec 32 := Scalar.addi v411 v410
  let v418 : BitVec 32 := Scalar.select v416 v417 v411
  let c0_i32_265 : BitVec 32 := 0#32
  let v419 : BitVec 1 := Scalar.cmpi .eq v418 c0_i32_265
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_266 : BitVec 32 := 1#32
  let v420 : BitVec 32 := Scalar.subi c1_i32_266 v69
  let v421 : BitVec 32 := Scalar.select v419 v69 v420
  let v425 : BitVec 32 := Scalar.addi v424 v421
  let c1_i32_287 : BitVec 32 := 1#32
  let v437 : BitVec 32 := Scalar.muli v425 c1_i32_287
  let v438 : BitVec 32 := Scalar.addi c0_i32_288 v437
  v438.toNat
def k0_off4 (d0 : Dev nD) : Fin 5 → Nat :=
  let c1_i32_304 : BitVec 32 := 1#32
  let c1_i32_302 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let v485 : BitVec 32 := Scalar.subi c1_i32_302 v69
  let c0_i32_313 : BitVec 32 := 0#32
  let c0_i32_314 : BitVec 32 := 0#32
  let c0_i32_315 : BitVec 32 := 0#32
  ![1, v485.toNat, 0, 0, 0]
def k0_dev14 (d0 : Dev nD) : Nat :=
  let c0_i32_309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_303 : BitVec 32 := 1#32
  let v486 : BitVec 32 := Scalar.xori v2 c1_i32_303
  let c1_i32_308 : BitVec 32 := 1#32
  let v487 : BitVec 32 := Scalar.muli v486 c1_i32_308
  let v488 : BitVec 32 := Scalar.addi c0_i32_309 v487
  v488.toNat
def k0_off5 (d0 : Dev nD) : Fin 5 → Nat :=
  let c2_i32_327 : BitVec 32 := 2#32
  let c1_i32_325 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let v535 : BitVec 32 := Scalar.subi c1_i32_325 v69
  let c0_i32_336 : BitVec 32 := 0#32
  let c0_i32_337 : BitVec 32 := 0#32
  let c0_i32_338 : BitVec 32 := 0#32
  ![2, v535.toNat, 0, 0, 0]
def k0_dev15 (d0 : Dev nD) : Nat :=
  let c0_i32_332 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_326 : BitVec 32 := 1#32
  let v536 : BitVec 32 := Scalar.xori v2 c1_i32_326
  let c1_i32_331 : BitVec 32 := 1#32
  let v537 : BitVec 32 := Scalar.muli v536 c1_i32_331
  let v538 : BitVec 32 := Scalar.addi c0_i32_332 v537
  v538.toNat
def k0_off6 (d0 : Dev nD) : Fin 5 → Nat :=
  let c3_i32_350 : BitVec 32 := 3#32
  let c1_i32_348 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let v585 : BitVec 32 := Scalar.subi c1_i32_348 v69
  let c0_i32_359 : BitVec 32 := 0#32
  let c0_i32_360 : BitVec 32 := 0#32
  let c0_i32_361 : BitVec 32 := 0#32
  ![3, v585.toNat, 0, 0, 0]
def k0_dev16 (d0 : Dev nD) : Nat :=
  let c0_i32_355 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_349 : BitVec 32 := 1#32
  let v586 : BitVec 32 := Scalar.xori v2 c1_i32_349
  let c1_i32_354 : BitVec 32 := 1#32
  let v587 : BitVec 32 := Scalar.muli v586 c1_i32_354
  let v588 : BitVec 32 := Scalar.addi c0_i32_355 v587
  v588.toNat
def k0_off7 (d0 : Dev nD) : Fin 5 → Nat :=
  let c0_362 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let v597 : Index := Scalar.indexCast v69
  let v598 : Index := Scalar.indexCast v46
  let c0_363 : Index := 0#32
  let c0_364 : Index := 0#32
  ![0, v597.toNat, v598.toNat, 0, 0]
def k0_off8 (d0 : Dev nD) : Fin 5 → Nat :=
  let c0_366 : Index := 0#32
  let c1_i32_365 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let v602 : BitVec 32 := Scalar.subi c1_i32_365 v69
  let v603 : Index := Scalar.indexCast v602
  let v604 : Index := Scalar.indexCast v46
  let c0_367 : Index := 0#32
  let c0_368 : Index := 0#32
  ![0, v603.toNat, v604.toNat, 0, 0]
def k0_dev17 (d0 : Dev nD) : Nat :=
  let c0_i32_465 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_461 : BitVec 32 := 1#32
  let v684 : BitVec 32 := Scalar.xori v2 c1_i32_461
  let c1_i32_464 : BitVec 32 := 1#32
  let v685 : BitVec 32 := Scalar.muli v684 c1_i32_464
  let v686 : BitVec 32 := Scalar.addi c0_i32_465 v685
  v686.toNat
def k0_off9 (d0 : Dev nD) : Fin 5 → Nat :=
  let c1_478 : Index := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let v699 : Index := Scalar.indexCast v69
  let c0_479 : Index := 0#32
  let c0_480 : Index := 0#32
  let c0_481 : Index := 0#32
  ![1, v699.toNat, 0, 0, 0]
def k0_off10 (d0 : Dev nD) (c0_i32_491 : BitVec 32) : Fin 4 → Nat :=
  let c0_i32_508 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_490 : BitVec 32 := 1#32
  let v708 : BitVec 32 := Scalar.addi v46 c1_i32_490
  let v709 : BitVec 32 := Scalar.addi v708 c0_i32_491
  let c4_i32_492 : BitVec 32 := 4#32
  let c0_i32_493 : BitVec 32 := 0#32
  let v710 : BitVec 1 := Scalar.cmpi .eq c4_i32_492 c0_i32_493
  let c1_i32_494 : BitVec 32 := 1#32
  let v711 : BitVec 32 := Scalar.select v710 c1_i32_494 c4_i32_492
  let v712 : BitVec 32 := Scalar.remsi v709 v711
  let c0_i32_496 : BitVec 32 := 0#32
  let v714 : BitVec 1 := Scalar.cmpi .slt v712 c0_i32_496
  let c0_i32_497 : BitVec 32 := 0#32
  let v715 : BitVec 1 := Scalar.cmpi .slt v711 c0_i32_497
  let v716 : BitVec 1 := Scalar.xori v714 v715
  let c0_i32_495 : BitVec 32 := 0#32
  let v713 : BitVec 1 := Scalar.cmpi .ne v712 c0_i32_495
  let v717 : BitVec 1 := Scalar.andi v716 v713
  let v718 : BitVec 32 := Scalar.addi v712 v711
  let v719 : BitVec 32 := Scalar.select v717 v718 v712
  let c0_i32_519 : BitVec 32 := 0#32
  let c0_i32_520 : BitVec 32 := 0#32
  ![0, v719.toNat, 0, 0]
def k0_dev18 (d0 : Dev nD) : Nat :=
  let c0_i32_516 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_506 : BitVec 32 := 8#32
  let v733 : BitVec 32 := Scalar.muli v19 c8_i32_506
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_490 : BitVec 32 := 1#32
  let v708 : BitVec 32 := Scalar.addi v46 c1_i32_490
  let c0_i32_491 : BitVec 32 := 0#32
  let v709 : BitVec 32 := Scalar.addi v708 c0_i32_491
  let c4_i32_492 : BitVec 32 := 4#32
  let c0_i32_493 : BitVec 32 := 0#32
  let v710 : BitVec 1 := Scalar.cmpi .eq c4_i32_492 c0_i32_493
  let c1_i32_494 : BitVec 32 := 1#32
  let v711 : BitVec 32 := Scalar.select v710 c1_i32_494 c4_i32_492
  let v712 : BitVec 32 := Scalar.remsi v709 v711
  let c0_i32_496 : BitVec 32 := 0#32
  let v714 : BitVec 1 := Scalar.cmpi .slt v712 c0_i32_496
  let c0_i32_497 : BitVec 32 := 0#32
  let v715 : BitVec 1 := Scalar.cmpi .slt v711 c0_i32_497
  let v716 : BitVec 1 := Scalar.xori v714 v715
  let c0_i32_495 : BitVec 32 := 0#32
  let v713 : BitVec 1 := Scalar.cmpi .ne v712 c0_i32_495
  let v717 : BitVec 1 := Scalar.andi v716 v713
  let v718 : BitVec 32 := Scalar.addi v712 v711
  let v719 : BitVec 32 := Scalar.select v717 v718 v712
  let c2_i32_507 : BitVec 32 := 2#32
  let v734 : BitVec 32 := Scalar.muli v719 c2_i32_507
  let v735 : BitVec 32 := Scalar.addi v733 v734
  let c2_i32_498 : BitVec 32 := 2#32
  let c0_i32_499 : BitVec 32 := 0#32
  let v720 : BitVec 1 := Scalar.cmpi .eq c2_i32_498 c0_i32_499
  let c1_i32_500 : BitVec 32 := 1#32
  let v721 : BitVec 32 := Scalar.select v720 c1_i32_500 c2_i32_498
  let v722 : BitVec 32 := Scalar.remsi v719 v721
  let c0_i32_502 : BitVec 32 := 0#32
  let v724 : BitVec 1 := Scalar.cmpi .slt v722 c0_i32_502
  let c0_i32_503 : BitVec 32 := 0#32
  let v725 : BitVec 1 := Scalar.cmpi .slt v721 c0_i32_503
  let v726 : BitVec 1 := Scalar.xori v724 v725
  let c0_i32_501 : BitVec 32 := 0#32
  let v723 : BitVec 1 := Scalar.cmpi .ne v722 c0_i32_501
  let v727 : BitVec 1 := Scalar.andi v726 v723
  let v728 : BitVec 32 := Scalar.addi v722 v721
  let v729 : BitVec 32 := Scalar.select v727 v728 v722
  let c0_i32_504 : BitVec 32 := 0#32
  let v730 : BitVec 1 := Scalar.cmpi .eq v729 c0_i32_504
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_505 : BitVec 32 := 1#32
  let v731 : BitVec 32 := Scalar.subi c1_i32_505 v69
  let v732 : BitVec 32 := Scalar.select v730 v69 v731
  let v736 : BitVec 32 := Scalar.addi v735 v732
  let c1_i32_515 : BitVec 32 := 1#32
  let v737 : BitVec 32 := Scalar.muli v736 c1_i32_515
  let v738 : BitVec 32 := Scalar.addi c0_i32_516 v737
  v738.toNat
def k0_dev19 (d0 : Dev nD) : Nat :=
  let c0_i32_547 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_537 : BitVec 32 := 8#32
  let v772 : BitVec 32 := Scalar.muli v19 c8_i32_537
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_521 : BitVec 32 := 1#32
  let v747 : BitVec 32 := Scalar.addi v46 c1_i32_521
  let c1_i32_522 : BitVec 32 := 1#32
  let v748 : BitVec 32 := Scalar.addi v747 c1_i32_522
  let c4_i32_523 : BitVec 32 := 4#32
  let c0_i32_524 : BitVec 32 := 0#32
  let v749 : BitVec 1 := Scalar.cmpi .eq c4_i32_523 c0_i32_524
  let c1_i32_525 : BitVec 32 := 1#32
  let v750 : BitVec 32 := Scalar.select v749 c1_i32_525 c4_i32_523
  let v751 : BitVec 32 := Scalar.remsi v748 v750
  let c0_i32_527 : BitVec 32 := 0#32
  let v753 : BitVec 1 := Scalar.cmpi .slt v751 c0_i32_527
  let c0_i32_528 : BitVec 32 := 0#32
  let v754 : BitVec 1 := Scalar.cmpi .slt v750 c0_i32_528
  let v755 : BitVec 1 := Scalar.xori v753 v754
  let c0_i32_526 : BitVec 32 := 0#32
  let v752 : BitVec 1 := Scalar.cmpi .ne v751 c0_i32_526
  let v756 : BitVec 1 := Scalar.andi v755 v752
  let v757 : BitVec 32 := Scalar.addi v751 v750
  let v758 : BitVec 32 := Scalar.select v756 v757 v751
  let c2_i32_538 : BitVec 32 := 2#32
  let v773 : BitVec 32 := Scalar.muli v758 c2_i32_538
  let v774 : BitVec 32 := Scalar.addi v772 v773
  let c2_i32_529 : BitVec 32 := 2#32
  let c0_i32_530 : BitVec 32 := 0#32
  let v759 : BitVec 1 := Scalar.cmpi .eq c2_i32_529 c0_i32_530
  let c1_i32_531 : BitVec 32 := 1#32
  let v760 : BitVec 32 := Scalar.select v759 c1_i32_531 c2_i32_529
  let v761 : BitVec 32 := Scalar.remsi v758 v760
  let c0_i32_533 : BitVec 32 := 0#32
  let v763 : BitVec 1 := Scalar.cmpi .slt v761 c0_i32_533
  let c0_i32_534 : BitVec 32 := 0#32
  let v764 : BitVec 1 := Scalar.cmpi .slt v760 c0_i32_534
  let v765 : BitVec 1 := Scalar.xori v763 v764
  let c0_i32_532 : BitVec 32 := 0#32
  let v762 : BitVec 1 := Scalar.cmpi .ne v761 c0_i32_532
  let v766 : BitVec 1 := Scalar.andi v765 v762
  let v767 : BitVec 32 := Scalar.addi v761 v760
  let v768 : BitVec 32 := Scalar.select v766 v767 v761
  let c0_i32_535 : BitVec 32 := 0#32
  let v769 : BitVec 1 := Scalar.cmpi .eq v768 c0_i32_535
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_536 : BitVec 32 := 1#32
  let v770 : BitVec 32 := Scalar.subi c1_i32_536 v69
  let v771 : BitVec 32 := Scalar.select v769 v69 v770
  let v775 : BitVec 32 := Scalar.addi v774 v771
  let c1_i32_546 : BitVec 32 := 1#32
  let v776 : BitVec 32 := Scalar.muli v775 c1_i32_546
  let v777 : BitVec 32 := Scalar.addi c0_i32_547 v776
  v777.toNat
def k0_dev20 (d0 : Dev nD) : Nat :=
  let c0_i32_578 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_568 : BitVec 32 := 8#32
  let v811 : BitVec 32 := Scalar.muli v19 c8_i32_568
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_552 : BitVec 32 := 1#32
  let v786 : BitVec 32 := Scalar.addi v46 c1_i32_552
  let c2_i32_553 : BitVec 32 := 2#32
  let v787 : BitVec 32 := Scalar.addi v786 c2_i32_553
  let c4_i32_554 : BitVec 32 := 4#32
  let c0_i32_555 : BitVec 32 := 0#32
  let v788 : BitVec 1 := Scalar.cmpi .eq c4_i32_554 c0_i32_555
  let c1_i32_556 : BitVec 32 := 1#32
  let v789 : BitVec 32 := Scalar.select v788 c1_i32_556 c4_i32_554
  let v790 : BitVec 32 := Scalar.remsi v787 v789
  let c0_i32_558 : BitVec 32 := 0#32
  let v792 : BitVec 1 := Scalar.cmpi .slt v790 c0_i32_558
  let c0_i32_559 : BitVec 32 := 0#32
  let v793 : BitVec 1 := Scalar.cmpi .slt v789 c0_i32_559
  let v794 : BitVec 1 := Scalar.xori v792 v793
  let c0_i32_557 : BitVec 32 := 0#32
  let v791 : BitVec 1 := Scalar.cmpi .ne v790 c0_i32_557
  let v795 : BitVec 1 := Scalar.andi v794 v791
  let v796 : BitVec 32 := Scalar.addi v790 v789
  let v797 : BitVec 32 := Scalar.select v795 v796 v790
  let c2_i32_569 : BitVec 32 := 2#32
  let v812 : BitVec 32 := Scalar.muli v797 c2_i32_569
  let v813 : BitVec 32 := Scalar.addi v811 v812
  let c2_i32_560 : BitVec 32 := 2#32
  let c0_i32_561 : BitVec 32 := 0#32
  let v798 : BitVec 1 := Scalar.cmpi .eq c2_i32_560 c0_i32_561
  let c1_i32_562 : BitVec 32 := 1#32
  let v799 : BitVec 32 := Scalar.select v798 c1_i32_562 c2_i32_560
  let v800 : BitVec 32 := Scalar.remsi v797 v799
  let c0_i32_564 : BitVec 32 := 0#32
  let v802 : BitVec 1 := Scalar.cmpi .slt v800 c0_i32_564
  let c0_i32_565 : BitVec 32 := 0#32
  let v803 : BitVec 1 := Scalar.cmpi .slt v799 c0_i32_565
  let v804 : BitVec 1 := Scalar.xori v802 v803
  let c0_i32_563 : BitVec 32 := 0#32
  let v801 : BitVec 1 := Scalar.cmpi .ne v800 c0_i32_563
  let v805 : BitVec 1 := Scalar.andi v804 v801
  let v806 : BitVec 32 := Scalar.addi v800 v799
  let v807 : BitVec 32 := Scalar.select v805 v806 v800
  let c0_i32_566 : BitVec 32 := 0#32
  let v808 : BitVec 1 := Scalar.cmpi .eq v807 c0_i32_566
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_567 : BitVec 32 := 1#32
  let v809 : BitVec 32 := Scalar.subi c1_i32_567 v69
  let v810 : BitVec 32 := Scalar.select v808 v69 v809
  let v814 : BitVec 32 := Scalar.addi v813 v810
  let c1_i32_577 : BitVec 32 := 1#32
  let v815 : BitVec 32 := Scalar.muli v814 c1_i32_577
  let v816 : BitVec 32 := Scalar.addi c0_i32_578 v815
  v816.toNat
def k0_off11 (d0 : Dev nD) : Fin 5 → Nat :=
  let c2_595 : Index := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let v833 : Index := Scalar.indexCast v69
  let c0_596 : Index := 0#32
  let c0_597 : Index := 0#32
  let c0_598 : Index := 0#32
  ![2, v833.toNat, 0, 0, 0]
def k0_off12 (d0 : Dev nD) (c0_i32_608 : BitVec 32) : Fin 4 → Nat :=
  let c1_i32_625 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_607 : BitVec 32 := 1#32
  let v842 : BitVec 32 := Scalar.addi v46 c1_i32_607
  let v843 : BitVec 32 := Scalar.addi v842 c0_i32_608
  let c4_i32_609 : BitVec 32 := 4#32
  let c0_i32_610 : BitVec 32 := 0#32
  let v844 : BitVec 1 := Scalar.cmpi .eq c4_i32_609 c0_i32_610
  let c1_i32_611 : BitVec 32 := 1#32
  let v845 : BitVec 32 := Scalar.select v844 c1_i32_611 c4_i32_609
  let v846 : BitVec 32 := Scalar.remsi v843 v845
  let c0_i32_613 : BitVec 32 := 0#32
  let v848 : BitVec 1 := Scalar.cmpi .slt v846 c0_i32_613
  let c0_i32_614 : BitVec 32 := 0#32
  let v849 : BitVec 1 := Scalar.cmpi .slt v845 c0_i32_614
  let v850 : BitVec 1 := Scalar.xori v848 v849
  let c0_i32_612 : BitVec 32 := 0#32
  let v847 : BitVec 1 := Scalar.cmpi .ne v846 c0_i32_612
  let v851 : BitVec 1 := Scalar.andi v850 v847
  let v852 : BitVec 32 := Scalar.addi v846 v845
  let v853 : BitVec 32 := Scalar.select v851 v852 v846
  let c0_i32_636 : BitVec 32 := 0#32
  let c0_i32_637 : BitVec 32 := 0#32
  ![1, v853.toNat, 0, 0]
def k0_dev21 (d0 : Dev nD) : Nat :=
  let c0_i32_633 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_623 : BitVec 32 := 8#32
  let v867 : BitVec 32 := Scalar.muli v19 c8_i32_623
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_607 : BitVec 32 := 1#32
  let v842 : BitVec 32 := Scalar.addi v46 c1_i32_607
  let c0_i32_608 : BitVec 32 := 0#32
  let v843 : BitVec 32 := Scalar.addi v842 c0_i32_608
  let c4_i32_609 : BitVec 32 := 4#32
  let c0_i32_610 : BitVec 32 := 0#32
  let v844 : BitVec 1 := Scalar.cmpi .eq c4_i32_609 c0_i32_610
  let c1_i32_611 : BitVec 32 := 1#32
  let v845 : BitVec 32 := Scalar.select v844 c1_i32_611 c4_i32_609
  let v846 : BitVec 32 := Scalar.remsi v843 v845
  let c0_i32_613 : BitVec 32 := 0#32
  let v848 : BitVec 1 := Scalar.cmpi .slt v846 c0_i32_613
  let c0_i32_614 : BitVec 32 := 0#32
  let v849 : BitVec 1 := Scalar.cmpi .slt v845 c0_i32_614
  let v850 : BitVec 1 := Scalar.xori v848 v849
  let c0_i32_612 : BitVec 32 := 0#32
  let v847 : BitVec 1 := Scalar.cmpi .ne v846 c0_i32_612
  let v851 : BitVec 1 := Scalar.andi v850 v847
  let v852 : BitVec 32 := Scalar.addi v846 v845
  let v853 : BitVec 32 := Scalar.select v851 v852 v846
  let c2_i32_624 : BitVec 32 := 2#32
  let v868 : BitVec 32 := Scalar.muli v853 c2_i32_624
  let v869 : BitVec 32 := Scalar.addi v867 v868
  let c2_i32_615 : BitVec 32 := 2#32
  let c0_i32_616 : BitVec 32 := 0#32
  let v854 : BitVec 1 := Scalar.cmpi .eq c2_i32_615 c0_i32_616
  let c1_i32_617 : BitVec 32 := 1#32
  let v855 : BitVec 32 := Scalar.select v854 c1_i32_617 c2_i32_615
  let v856 : BitVec 32 := Scalar.remsi v853 v855
  let c0_i32_619 : BitVec 32 := 0#32
  let v858 : BitVec 1 := Scalar.cmpi .slt v856 c0_i32_619
  let c0_i32_620 : BitVec 32 := 0#32
  let v859 : BitVec 1 := Scalar.cmpi .slt v855 c0_i32_620
  let v860 : BitVec 1 := Scalar.xori v858 v859
  let c0_i32_618 : BitVec 32 := 0#32
  let v857 : BitVec 1 := Scalar.cmpi .ne v856 c0_i32_618
  let v861 : BitVec 1 := Scalar.andi v860 v857
  let v862 : BitVec 32 := Scalar.addi v856 v855
  let v863 : BitVec 32 := Scalar.select v861 v862 v856
  let c0_i32_621 : BitVec 32 := 0#32
  let v864 : BitVec 1 := Scalar.cmpi .eq v863 c0_i32_621
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_622 : BitVec 32 := 1#32
  let v865 : BitVec 32 := Scalar.subi c1_i32_622 v69
  let v866 : BitVec 32 := Scalar.select v864 v69 v865
  let v870 : BitVec 32 := Scalar.addi v869 v866
  let c1_i32_632 : BitVec 32 := 1#32
  let v871 : BitVec 32 := Scalar.muli v870 c1_i32_632
  let v872 : BitVec 32 := Scalar.addi c0_i32_633 v871
  v872.toNat
def k0_dev22 (d0 : Dev nD) : Nat :=
  let c0_i32_664 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_654 : BitVec 32 := 8#32
  let v906 : BitVec 32 := Scalar.muli v19 c8_i32_654
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_638 : BitVec 32 := 1#32
  let v881 : BitVec 32 := Scalar.addi v46 c1_i32_638
  let c1_i32_639 : BitVec 32 := 1#32
  let v882 : BitVec 32 := Scalar.addi v881 c1_i32_639
  let c4_i32_640 : BitVec 32 := 4#32
  let c0_i32_641 : BitVec 32 := 0#32
  let v883 : BitVec 1 := Scalar.cmpi .eq c4_i32_640 c0_i32_641
  let c1_i32_642 : BitVec 32 := 1#32
  let v884 : BitVec 32 := Scalar.select v883 c1_i32_642 c4_i32_640
  let v885 : BitVec 32 := Scalar.remsi v882 v884
  let c0_i32_644 : BitVec 32 := 0#32
  let v887 : BitVec 1 := Scalar.cmpi .slt v885 c0_i32_644
  let c0_i32_645 : BitVec 32 := 0#32
  let v888 : BitVec 1 := Scalar.cmpi .slt v884 c0_i32_645
  let v889 : BitVec 1 := Scalar.xori v887 v888
  let c0_i32_643 : BitVec 32 := 0#32
  let v886 : BitVec 1 := Scalar.cmpi .ne v885 c0_i32_643
  let v890 : BitVec 1 := Scalar.andi v889 v886
  let v891 : BitVec 32 := Scalar.addi v885 v884
  let v892 : BitVec 32 := Scalar.select v890 v891 v885
  let c2_i32_655 : BitVec 32 := 2#32
  let v907 : BitVec 32 := Scalar.muli v892 c2_i32_655
  let v908 : BitVec 32 := Scalar.addi v906 v907
  let c2_i32_646 : BitVec 32 := 2#32
  let c0_i32_647 : BitVec 32 := 0#32
  let v893 : BitVec 1 := Scalar.cmpi .eq c2_i32_646 c0_i32_647
  let c1_i32_648 : BitVec 32 := 1#32
  let v894 : BitVec 32 := Scalar.select v893 c1_i32_648 c2_i32_646
  let v895 : BitVec 32 := Scalar.remsi v892 v894
  let c0_i32_650 : BitVec 32 := 0#32
  let v897 : BitVec 1 := Scalar.cmpi .slt v895 c0_i32_650
  let c0_i32_651 : BitVec 32 := 0#32
  let v898 : BitVec 1 := Scalar.cmpi .slt v894 c0_i32_651
  let v899 : BitVec 1 := Scalar.xori v897 v898
  let c0_i32_649 : BitVec 32 := 0#32
  let v896 : BitVec 1 := Scalar.cmpi .ne v895 c0_i32_649
  let v900 : BitVec 1 := Scalar.andi v899 v896
  let v901 : BitVec 32 := Scalar.addi v895 v894
  let v902 : BitVec 32 := Scalar.select v900 v901 v895
  let c0_i32_652 : BitVec 32 := 0#32
  let v903 : BitVec 1 := Scalar.cmpi .eq v902 c0_i32_652
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_653 : BitVec 32 := 1#32
  let v904 : BitVec 32 := Scalar.subi c1_i32_653 v69
  let v905 : BitVec 32 := Scalar.select v903 v69 v904
  let v909 : BitVec 32 := Scalar.addi v908 v905
  let c1_i32_663 : BitVec 32 := 1#32
  let v910 : BitVec 32 := Scalar.muli v909 c1_i32_663
  let v911 : BitVec 32 := Scalar.addi c0_i32_664 v910
  v911.toNat
def k0_dev23 (d0 : Dev nD) : Nat :=
  let c0_i32_695 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_685 : BitVec 32 := 8#32
  let v945 : BitVec 32 := Scalar.muli v19 c8_i32_685
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_669 : BitVec 32 := 1#32
  let v920 : BitVec 32 := Scalar.addi v46 c1_i32_669
  let c2_i32_670 : BitVec 32 := 2#32
  let v921 : BitVec 32 := Scalar.addi v920 c2_i32_670
  let c4_i32_671 : BitVec 32 := 4#32
  let c0_i32_672 : BitVec 32 := 0#32
  let v922 : BitVec 1 := Scalar.cmpi .eq c4_i32_671 c0_i32_672
  let c1_i32_673 : BitVec 32 := 1#32
  let v923 : BitVec 32 := Scalar.select v922 c1_i32_673 c4_i32_671
  let v924 : BitVec 32 := Scalar.remsi v921 v923
  let c0_i32_675 : BitVec 32 := 0#32
  let v926 : BitVec 1 := Scalar.cmpi .slt v924 c0_i32_675
  let c0_i32_676 : BitVec 32 := 0#32
  let v927 : BitVec 1 := Scalar.cmpi .slt v923 c0_i32_676
  let v928 : BitVec 1 := Scalar.xori v926 v927
  let c0_i32_674 : BitVec 32 := 0#32
  let v925 : BitVec 1 := Scalar.cmpi .ne v924 c0_i32_674
  let v929 : BitVec 1 := Scalar.andi v928 v925
  let v930 : BitVec 32 := Scalar.addi v924 v923
  let v931 : BitVec 32 := Scalar.select v929 v930 v924
  let c2_i32_686 : BitVec 32 := 2#32
  let v946 : BitVec 32 := Scalar.muli v931 c2_i32_686
  let v947 : BitVec 32 := Scalar.addi v945 v946
  let c2_i32_677 : BitVec 32 := 2#32
  let c0_i32_678 : BitVec 32 := 0#32
  let v932 : BitVec 1 := Scalar.cmpi .eq c2_i32_677 c0_i32_678
  let c1_i32_679 : BitVec 32 := 1#32
  let v933 : BitVec 32 := Scalar.select v932 c1_i32_679 c2_i32_677
  let v934 : BitVec 32 := Scalar.remsi v931 v933
  let c0_i32_681 : BitVec 32 := 0#32
  let v936 : BitVec 1 := Scalar.cmpi .slt v934 c0_i32_681
  let c0_i32_682 : BitVec 32 := 0#32
  let v937 : BitVec 1 := Scalar.cmpi .slt v933 c0_i32_682
  let v938 : BitVec 1 := Scalar.xori v936 v937
  let c0_i32_680 : BitVec 32 := 0#32
  let v935 : BitVec 1 := Scalar.cmpi .ne v934 c0_i32_680
  let v939 : BitVec 1 := Scalar.andi v938 v935
  let v940 : BitVec 32 := Scalar.addi v934 v933
  let v941 : BitVec 32 := Scalar.select v939 v940 v934
  let c0_i32_683 : BitVec 32 := 0#32
  let v942 : BitVec 1 := Scalar.cmpi .eq v941 c0_i32_683
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_684 : BitVec 32 := 1#32
  let v943 : BitVec 32 := Scalar.subi c1_i32_684 v69
  let v944 : BitVec 32 := Scalar.select v942 v69 v943
  let v948 : BitVec 32 := Scalar.addi v947 v944
  let c1_i32_694 : BitVec 32 := 1#32
  let v949 : BitVec 32 := Scalar.muli v948 c1_i32_694
  let v950 : BitVec 32 := Scalar.addi c0_i32_695 v949
  v950.toNat
def k0_off13 (d0 : Dev nD) : Fin 5 → Nat :=
  let c3_712 : Index := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let v967 : Index := Scalar.indexCast v69
  let c0_713 : Index := 0#32
  let c0_714 : Index := 0#32
  let c0_715 : Index := 0#32
  ![3, v967.toNat, 0, 0, 0]
def k0_off14 (d0 : Dev nD) (c0_i32_725 : BitVec 32) : Fin 4 → Nat :=
  let c2_i32_742 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_724 : BitVec 32 := 1#32
  let v976 : BitVec 32 := Scalar.addi v46 c1_i32_724
  let v977 : BitVec 32 := Scalar.addi v976 c0_i32_725
  let c4_i32_726 : BitVec 32 := 4#32
  let c0_i32_727 : BitVec 32 := 0#32
  let v978 : BitVec 1 := Scalar.cmpi .eq c4_i32_726 c0_i32_727
  let c1_i32_728 : BitVec 32 := 1#32
  let v979 : BitVec 32 := Scalar.select v978 c1_i32_728 c4_i32_726
  let v980 : BitVec 32 := Scalar.remsi v977 v979
  let c0_i32_730 : BitVec 32 := 0#32
  let v982 : BitVec 1 := Scalar.cmpi .slt v980 c0_i32_730
  let c0_i32_731 : BitVec 32 := 0#32
  let v983 : BitVec 1 := Scalar.cmpi .slt v979 c0_i32_731
  let v984 : BitVec 1 := Scalar.xori v982 v983
  let c0_i32_729 : BitVec 32 := 0#32
  let v981 : BitVec 1 := Scalar.cmpi .ne v980 c0_i32_729
  let v985 : BitVec 1 := Scalar.andi v984 v981
  let v986 : BitVec 32 := Scalar.addi v980 v979
  let v987 : BitVec 32 := Scalar.select v985 v986 v980
  let c0_i32_753 : BitVec 32 := 0#32
  let c0_i32_754 : BitVec 32 := 0#32
  ![2, v987.toNat, 0, 0]
def k0_dev24 (d0 : Dev nD) : Nat :=
  let c0_i32_750 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_740 : BitVec 32 := 8#32
  let v1001 : BitVec 32 := Scalar.muli v19 c8_i32_740
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_724 : BitVec 32 := 1#32
  let v976 : BitVec 32 := Scalar.addi v46 c1_i32_724
  let c0_i32_725 : BitVec 32 := 0#32
  let v977 : BitVec 32 := Scalar.addi v976 c0_i32_725
  let c4_i32_726 : BitVec 32 := 4#32
  let c0_i32_727 : BitVec 32 := 0#32
  let v978 : BitVec 1 := Scalar.cmpi .eq c4_i32_726 c0_i32_727
  let c1_i32_728 : BitVec 32 := 1#32
  let v979 : BitVec 32 := Scalar.select v978 c1_i32_728 c4_i32_726
  let v980 : BitVec 32 := Scalar.remsi v977 v979
  let c0_i32_730 : BitVec 32 := 0#32
  let v982 : BitVec 1 := Scalar.cmpi .slt v980 c0_i32_730
  let c0_i32_731 : BitVec 32 := 0#32
  let v983 : BitVec 1 := Scalar.cmpi .slt v979 c0_i32_731
  let v984 : BitVec 1 := Scalar.xori v982 v983
  let c0_i32_729 : BitVec 32 := 0#32
  let v981 : BitVec 1 := Scalar.cmpi .ne v980 c0_i32_729
  let v985 : BitVec 1 := Scalar.andi v984 v981
  let v986 : BitVec 32 := Scalar.addi v980 v979
  let v987 : BitVec 32 := Scalar.select v985 v986 v980
  let c2_i32_741 : BitVec 32 := 2#32
  let v1002 : BitVec 32 := Scalar.muli v987 c2_i32_741
  let v1003 : BitVec 32 := Scalar.addi v1001 v1002
  let c2_i32_732 : BitVec 32 := 2#32
  let c0_i32_733 : BitVec 32 := 0#32
  let v988 : BitVec 1 := Scalar.cmpi .eq c2_i32_732 c0_i32_733
  let c1_i32_734 : BitVec 32 := 1#32
  let v989 : BitVec 32 := Scalar.select v988 c1_i32_734 c2_i32_732
  let v990 : BitVec 32 := Scalar.remsi v987 v989
  let c0_i32_736 : BitVec 32 := 0#32
  let v992 : BitVec 1 := Scalar.cmpi .slt v990 c0_i32_736
  let c0_i32_737 : BitVec 32 := 0#32
  let v993 : BitVec 1 := Scalar.cmpi .slt v989 c0_i32_737
  let v994 : BitVec 1 := Scalar.xori v992 v993
  let c0_i32_735 : BitVec 32 := 0#32
  let v991 : BitVec 1 := Scalar.cmpi .ne v990 c0_i32_735
  let v995 : BitVec 1 := Scalar.andi v994 v991
  let v996 : BitVec 32 := Scalar.addi v990 v989
  let v997 : BitVec 32 := Scalar.select v995 v996 v990
  let c0_i32_738 : BitVec 32 := 0#32
  let v998 : BitVec 1 := Scalar.cmpi .eq v997 c0_i32_738
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_739 : BitVec 32 := 1#32
  let v999 : BitVec 32 := Scalar.subi c1_i32_739 v69
  let v1000 : BitVec 32 := Scalar.select v998 v69 v999
  let v1004 : BitVec 32 := Scalar.addi v1003 v1000
  let c1_i32_749 : BitVec 32 := 1#32
  let v1005 : BitVec 32 := Scalar.muli v1004 c1_i32_749
  let v1006 : BitVec 32 := Scalar.addi c0_i32_750 v1005
  v1006.toNat
def k0_dev25 (d0 : Dev nD) : Nat :=
  let c0_i32_781 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_771 : BitVec 32 := 8#32
  let v1040 : BitVec 32 := Scalar.muli v19 c8_i32_771
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_755 : BitVec 32 := 1#32
  let v1015 : BitVec 32 := Scalar.addi v46 c1_i32_755
  let c1_i32_756 : BitVec 32 := 1#32
  let v1016 : BitVec 32 := Scalar.addi v1015 c1_i32_756
  let c4_i32_757 : BitVec 32 := 4#32
  let c0_i32_758 : BitVec 32 := 0#32
  let v1017 : BitVec 1 := Scalar.cmpi .eq c4_i32_757 c0_i32_758
  let c1_i32_759 : BitVec 32 := 1#32
  let v1018 : BitVec 32 := Scalar.select v1017 c1_i32_759 c4_i32_757
  let v1019 : BitVec 32 := Scalar.remsi v1016 v1018
  let c0_i32_761 : BitVec 32 := 0#32
  let v1021 : BitVec 1 := Scalar.cmpi .slt v1019 c0_i32_761
  let c0_i32_762 : BitVec 32 := 0#32
  let v1022 : BitVec 1 := Scalar.cmpi .slt v1018 c0_i32_762
  let v1023 : BitVec 1 := Scalar.xori v1021 v1022
  let c0_i32_760 : BitVec 32 := 0#32
  let v1020 : BitVec 1 := Scalar.cmpi .ne v1019 c0_i32_760
  let v1024 : BitVec 1 := Scalar.andi v1023 v1020
  let v1025 : BitVec 32 := Scalar.addi v1019 v1018
  let v1026 : BitVec 32 := Scalar.select v1024 v1025 v1019
  let c2_i32_772 : BitVec 32 := 2#32
  let v1041 : BitVec 32 := Scalar.muli v1026 c2_i32_772
  let v1042 : BitVec 32 := Scalar.addi v1040 v1041
  let c2_i32_763 : BitVec 32 := 2#32
  let c0_i32_764 : BitVec 32 := 0#32
  let v1027 : BitVec 1 := Scalar.cmpi .eq c2_i32_763 c0_i32_764
  let c1_i32_765 : BitVec 32 := 1#32
  let v1028 : BitVec 32 := Scalar.select v1027 c1_i32_765 c2_i32_763
  let v1029 : BitVec 32 := Scalar.remsi v1026 v1028
  let c0_i32_767 : BitVec 32 := 0#32
  let v1031 : BitVec 1 := Scalar.cmpi .slt v1029 c0_i32_767
  let c0_i32_768 : BitVec 32 := 0#32
  let v1032 : BitVec 1 := Scalar.cmpi .slt v1028 c0_i32_768
  let v1033 : BitVec 1 := Scalar.xori v1031 v1032
  let c0_i32_766 : BitVec 32 := 0#32
  let v1030 : BitVec 1 := Scalar.cmpi .ne v1029 c0_i32_766
  let v1034 : BitVec 1 := Scalar.andi v1033 v1030
  let v1035 : BitVec 32 := Scalar.addi v1029 v1028
  let v1036 : BitVec 32 := Scalar.select v1034 v1035 v1029
  let c0_i32_769 : BitVec 32 := 0#32
  let v1037 : BitVec 1 := Scalar.cmpi .eq v1036 c0_i32_769
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_770 : BitVec 32 := 1#32
  let v1038 : BitVec 32 := Scalar.subi c1_i32_770 v69
  let v1039 : BitVec 32 := Scalar.select v1037 v69 v1038
  let v1043 : BitVec 32 := Scalar.addi v1042 v1039
  let c1_i32_780 : BitVec 32 := 1#32
  let v1044 : BitVec 32 := Scalar.muli v1043 c1_i32_780
  let v1045 : BitVec 32 := Scalar.addi c0_i32_781 v1044
  v1045.toNat
def k0_dev26 (d0 : Dev nD) : Nat :=
  let c0_i32_812 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_802 : BitVec 32 := 8#32
  let v1079 : BitVec 32 := Scalar.muli v19 c8_i32_802
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_786 : BitVec 32 := 1#32
  let v1054 : BitVec 32 := Scalar.addi v46 c1_i32_786
  let c2_i32_787 : BitVec 32 := 2#32
  let v1055 : BitVec 32 := Scalar.addi v1054 c2_i32_787
  let c4_i32_788 : BitVec 32 := 4#32
  let c0_i32_789 : BitVec 32 := 0#32
  let v1056 : BitVec 1 := Scalar.cmpi .eq c4_i32_788 c0_i32_789
  let c1_i32_790 : BitVec 32 := 1#32
  let v1057 : BitVec 32 := Scalar.select v1056 c1_i32_790 c4_i32_788
  let v1058 : BitVec 32 := Scalar.remsi v1055 v1057
  let c0_i32_792 : BitVec 32 := 0#32
  let v1060 : BitVec 1 := Scalar.cmpi .slt v1058 c0_i32_792
  let c0_i32_793 : BitVec 32 := 0#32
  let v1061 : BitVec 1 := Scalar.cmpi .slt v1057 c0_i32_793
  let v1062 : BitVec 1 := Scalar.xori v1060 v1061
  let c0_i32_791 : BitVec 32 := 0#32
  let v1059 : BitVec 1 := Scalar.cmpi .ne v1058 c0_i32_791
  let v1063 : BitVec 1 := Scalar.andi v1062 v1059
  let v1064 : BitVec 32 := Scalar.addi v1058 v1057
  let v1065 : BitVec 32 := Scalar.select v1063 v1064 v1058
  let c2_i32_803 : BitVec 32 := 2#32
  let v1080 : BitVec 32 := Scalar.muli v1065 c2_i32_803
  let v1081 : BitVec 32 := Scalar.addi v1079 v1080
  let c2_i32_794 : BitVec 32 := 2#32
  let c0_i32_795 : BitVec 32 := 0#32
  let v1066 : BitVec 1 := Scalar.cmpi .eq c2_i32_794 c0_i32_795
  let c1_i32_796 : BitVec 32 := 1#32
  let v1067 : BitVec 32 := Scalar.select v1066 c1_i32_796 c2_i32_794
  let v1068 : BitVec 32 := Scalar.remsi v1065 v1067
  let c0_i32_798 : BitVec 32 := 0#32
  let v1070 : BitVec 1 := Scalar.cmpi .slt v1068 c0_i32_798
  let c0_i32_799 : BitVec 32 := 0#32
  let v1071 : BitVec 1 := Scalar.cmpi .slt v1067 c0_i32_799
  let v1072 : BitVec 1 := Scalar.xori v1070 v1071
  let c0_i32_797 : BitVec 32 := 0#32
  let v1069 : BitVec 1 := Scalar.cmpi .ne v1068 c0_i32_797
  let v1073 : BitVec 1 := Scalar.andi v1072 v1069
  let v1074 : BitVec 32 := Scalar.addi v1068 v1067
  let v1075 : BitVec 32 := Scalar.select v1073 v1074 v1068
  let c0_i32_800 : BitVec 32 := 0#32
  let v1076 : BitVec 1 := Scalar.cmpi .eq v1075 c0_i32_800
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_801 : BitVec 32 := 1#32
  let v1077 : BitVec 32 := Scalar.subi c1_i32_801 v69
  let v1078 : BitVec 32 := Scalar.select v1076 v69 v1077
  let v1082 : BitVec 32 := Scalar.addi v1081 v1078
  let c1_i32_811 : BitVec 32 := 1#32
  let v1083 : BitVec 32 := Scalar.muli v1082 c1_i32_811
  let v1084 : BitVec 32 := Scalar.addi c0_i32_812 v1083
  v1084.toNat
def k0_off15 (d0 : Dev nD) : Fin 5 → Nat :=
  let c1_817 : Index := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let v1093 : Index := Scalar.indexCast v69
  let v1094 : Index := Scalar.indexCast v46
  let c0_818 : Index := 0#32
  let c0_819 : Index := 0#32
  ![1, v1093.toNat, v1094.toNat, 0, 0]
def k0_off16 (d0 : Dev nD) : Fin 4 → Nat :=
  let c0_820 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v1098 : Index := Scalar.indexCast v46
  let c0_821 : Index := 0#32
  let c0_822 : Index := 0#32
  ![0, v1098.toNat, 0, 0]
def k0_dev27 (d0 : Dev nD) : Nat :=
  let c0_i32_883 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_140 : BitVec 32 := 1#32
  let v226 : BitVec 32 := Scalar.addi v19 c1_i32_140
  let c4_i32_141 : BitVec 32 := 4#32
  let c0_i32_142 : BitVec 32 := 0#32
  let v227 : BitVec 1 := Scalar.cmpi .eq c4_i32_141 c0_i32_142
  let c1_i32_143 : BitVec 32 := 1#32
  let v228 : BitVec 32 := Scalar.select v227 c1_i32_143 c4_i32_141
  let v229 : BitVec 32 := Scalar.remsi v226 v228
  let c0_i32_145 : BitVec 32 := 0#32
  let v231 : BitVec 1 := Scalar.cmpi .slt v229 c0_i32_145
  let c0_i32_146 : BitVec 32 := 0#32
  let v232 : BitVec 1 := Scalar.cmpi .slt v228 c0_i32_146
  let v233 : BitVec 1 := Scalar.xori v231 v232
  let c0_i32_144 : BitVec 32 := 0#32
  let v230 : BitVec 1 := Scalar.cmpi .ne v229 c0_i32_144
  let v234 : BitVec 1 := Scalar.andi v233 v230
  let v235 : BitVec 32 := Scalar.addi v229 v228
  let v236 : BitVec 32 := Scalar.select v234 v235 v229
  let c8_i32_877 : BitVec 32 := 8#32
  let v1143 : BitVec 32 := Scalar.muli v236 c8_i32_877
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v1144 : BitVec 32 := Scalar.addi v1143 v29
  let c1_i32_882 : BitVec 32 := 1#32
  let v1145 : BitVec 32 := Scalar.muli v1144 c1_i32_882
  let v1146 : BitVec 32 := Scalar.addi c0_i32_883 v1145
  v1146.toNat
def k0_off17 (d0 : Dev nD) : Fin 5 → Nat :=
  let c2_888 : Index := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let v1155 : Index := Scalar.indexCast v69
  let v1156 : Index := Scalar.indexCast v46
  let c0_889 : Index := 0#32
  let c0_890 : Index := 0#32
  ![2, v1155.toNat, v1156.toNat, 0, 0]
def k0_off18 (d0 : Dev nD) : Fin 4 → Nat :=
  let c1_891 : Index := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v1160 : Index := Scalar.indexCast v46
  let c0_892 : Index := 0#32
  let c0_893 : Index := 0#32
  ![1, v1160.toNat, 0, 0]
def k0_dev28 (d0 : Dev nD) : Nat :=
  let c0_i32_954 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_147 : BitVec 32 := 2#32
  let v237 : BitVec 32 := Scalar.addi v19 c2_i32_147
  let c4_i32_148 : BitVec 32 := 4#32
  let c0_i32_149 : BitVec 32 := 0#32
  let v238 : BitVec 1 := Scalar.cmpi .eq c4_i32_148 c0_i32_149
  let c1_i32_150 : BitVec 32 := 1#32
  let v239 : BitVec 32 := Scalar.select v238 c1_i32_150 c4_i32_148
  let v240 : BitVec 32 := Scalar.remsi v237 v239
  let c0_i32_152 : BitVec 32 := 0#32
  let v242 : BitVec 1 := Scalar.cmpi .slt v240 c0_i32_152
  let c0_i32_153 : BitVec 32 := 0#32
  let v243 : BitVec 1 := Scalar.cmpi .slt v239 c0_i32_153
  let v244 : BitVec 1 := Scalar.xori v242 v243
  let c0_i32_151 : BitVec 32 := 0#32
  let v241 : BitVec 1 := Scalar.cmpi .ne v240 c0_i32_151
  let v245 : BitVec 1 := Scalar.andi v244 v241
  let v246 : BitVec 32 := Scalar.addi v240 v239
  let v247 : BitVec 32 := Scalar.select v245 v246 v240
  let c8_i32_948 : BitVec 32 := 8#32
  let v1205 : BitVec 32 := Scalar.muli v247 c8_i32_948
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v1206 : BitVec 32 := Scalar.addi v1205 v29
  let c1_i32_953 : BitVec 32 := 1#32
  let v1207 : BitVec 32 := Scalar.muli v1206 c1_i32_953
  let v1208 : BitVec 32 := Scalar.addi c0_i32_954 v1207
  v1208.toNat
def k0_off19 (d0 : Dev nD) : Fin 5 → Nat :=
  let c3_959 : Index := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let v1217 : Index := Scalar.indexCast v69
  let v1218 : Index := Scalar.indexCast v46
  let c0_960 : Index := 0#32
  let c0_961 : Index := 0#32
  ![3, v1217.toNat, v1218.toNat, 0, 0]
def k0_off20 (d0 : Dev nD) : Fin 4 → Nat :=
  let c2_962 : Index := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v1222 : Index := Scalar.indexCast v46
  let c0_963 : Index := 0#32
  let c0_964 : Index := 0#32
  ![2, v1222.toNat, 0, 0]
def k0_dev29 (d0 : Dev nD) : Nat :=
  let c0_i32_1025 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v248 : BitVec 32 := Scalar.addi v19 c3_i32
  let c4_i32_154 : BitVec 32 := 4#32
  let c0_i32_155 : BitVec 32 := 0#32
  let v249 : BitVec 1 := Scalar.cmpi .eq c4_i32_154 c0_i32_155
  let c1_i32_156 : BitVec 32 := 1#32
  let v250 : BitVec 32 := Scalar.select v249 c1_i32_156 c4_i32_154
  let v251 : BitVec 32 := Scalar.remsi v248 v250
  let c0_i32_158 : BitVec 32 := 0#32
  let v253 : BitVec 1 := Scalar.cmpi .slt v251 c0_i32_158
  let c0_i32_159 : BitVec 32 := 0#32
  let v254 : BitVec 1 := Scalar.cmpi .slt v250 c0_i32_159
  let v255 : BitVec 1 := Scalar.xori v253 v254
  let c0_i32_157 : BitVec 32 := 0#32
  let v252 : BitVec 1 := Scalar.cmpi .ne v251 c0_i32_157
  let v256 : BitVec 1 := Scalar.andi v255 v252
  let v257 : BitVec 32 := Scalar.addi v251 v250
  let v258 : BitVec 32 := Scalar.select v256 v257 v251
  let c8_i32_1019 : BitVec 32 := 8#32
  let v1267 : BitVec 32 := Scalar.muli v258 c8_i32_1019
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v1268 : BitVec 32 := Scalar.addi v1267 v29
  let c1_i32_1024 : BitVec 32 := 1#32
  let v1269 : BitVec 32 := Scalar.muli v1268 c1_i32_1024
  let v1270 : BitVec 32 := Scalar.addi c0_i32_1025 v1269
  v1270.toNat
abbrev stage0_0 : Fin 1 → Memref sig .tc .vmem S1024x32 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S1024x1024, .f32⟩
  | .hbm, ⟨3, _⟩ => ⟨S_, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S_, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S_, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S_, .f32⟩
  | .hbm, ⟨17, _⟩ => ⟨S1024x1024, .f32⟩
  | .hbm, ⟨18, _⟩ => ⟨S1024x1024, .f32⟩
  | .hbm, ⟨19, _⟩ => ⟨S1024x1024, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Mesh.lean ====
/-
  The mesh: every device by its three coordinates `z`, `y`, `x` (the device's number is `8 z + 2 y + j`, where
  `j = x` in even columns `y` and `j = 1 - x` in odd ones), the peers it exchanges with, and the closed forms of
  the device numbers and of the start coordinates the kernel computes from its own number.
-/
module

public import proofs.«01_k».proof.Proof.Gen.KernelIdeal.Skeleton

@[expose] public section

noncomputable section

namespace Cert.KernelIdeal.Gen

open Idealize.ShloMosaic Idealize.SL.Sem

/-- The plane of device `c`. -/
def zc (c : Dev nD) : Fin 4 := ⟨c.val / 8, by have := c.isLt; simp only [nD] at this; omega⟩
/-- The column of device `c` in its plane. -/
def yc (c : Dev nD) : Fin 4 := ⟨c.val % 8 / 2, by omega⟩
/-- The side of device `c` in its column. -/
def xc (c : Dev nD) : Fin 2 := ⟨if yc c % 2 = 0 then c.val % 2 else 1 - c.val % 2, by split <;> omega⟩
/-- The device at plane `z`, column `y`, side `x`. -/
def mk (z y : Fin 4) (x : Fin 2) : Dev nD :=
  ⟨z.val * 8 + y.val * 2 + (if y.val % 2 = 0 then x.val else 1 - x.val), by simp only [nD]; split <;> omega⟩

theorem zc_mk (z y : Fin 4) (x : Fin 2) : zc (mk z y x) = z := by revert z y x; decide
theorem yc_mk (z y : Fin 4) (x : Fin 2) : yc (mk z y x) = y := by revert z y x; decide
theorem xc_mk (z y : Fin 4) (x : Fin 2) : xc (mk z y x) = x := by revert z y x; decide
theorem mk_c (c : Dev nD) : mk (zc c) (yc c) (xc c) = c := by revert c; decide

/-- The other side. -/
def ox (c : Dev nD) : Fin 2 := xc c + 1
/-- The column `k + 1` further, round. -/
def ypc (c : Dev nD) (k : Fin 3) : Fin 4 := yc c + k.castSucc + 1
/-- The device on the other side of the column. -/
def xto (c : Dev nD) : Dev nD := mk (zc c) (yc c) (ox c)
/-- The device `k + 1` columns further, round. -/
def yto (c : Dev nD) (k : Fin 3) : Dev nD := mk (zc c) (ypc c k) (xc c)
/-- The device `k + 1` columns back, round. -/
def yfr (c : Dev nD) (k : Fin 3) : Dev nD := mk (zc c) (yc c - k.castSucc - 1) (xc c)
/-- The device `k + 1` planes further, round. -/
def zto (c : Dev nD) (k : Fin 3) : Dev nD := mk (zc c + k.castSucc + 1) (yc c) (xc c)
/-- The device `k + 1` planes back, round. -/
def zfr (c : Dev nD) (k : Fin 3) : Dev nD := mk (zc c - k.castSucc - 1) (yc c) (xc c)

theorem xto_xto (c : Dev nD) : xto (xto c) = c := by revert c; decide
theorem yto_yfr (c : Dev nD) (k : Fin 3) : yto (yfr c k) k = c := by revert c k; decide
theorem yfr_yto (c : Dev nD) (k : Fin 3) : yfr (yto c k) k = c := by revert c k; decide
theorem zto_zfr (c : Dev nD) (k : Fin 3) : zto (zfr c k) k = c := by revert c k; decide
theorem zfr_zto (c : Dev nD) (k : Fin 3) : zfr (zto c k) k = c := by revert c k; decide
theorem yfr_rev (c : Dev nD) (k : Fin 3) : yfr c k.rev = yto c k := by revert c k; decide
theorem zfr_rev (c : Dev nD) (k : Fin 3) : zfr c k.rev = zto c k := by revert c k; decide

/-! ## The device numbers the kernel computes -/

theorem dev1_eq (c : Dev nD) : (⟨k0_dev1 c, k0_dev1_lt c⟩ : Dev nD) = xto c := by revert c; decide +kernel
theorem dev2_eq (c : Dev nD) : (⟨k0_dev2 c, k0_dev2_lt c⟩ : Dev nD) = yto c 0 := by revert c; decide +kernel
theorem dev3_eq (c : Dev nD) : (⟨k0_dev3 c, k0_dev3_lt c⟩ : Dev nD) = yto c 1 := by revert c; decide +kernel
theorem dev4_eq (c : Dev nD) : (⟨k0_dev4 c, k0_dev4_lt c⟩ : Dev nD) = yto c 2 := by revert c; decide +kernel
theorem dev5_eq (c : Dev nD) : (⟨k0_dev5 c, k0_dev5_lt c⟩ : Dev nD) = zto c 0 := by revert c; decide +kernel
theorem dev6_eq (c : Dev nD) : (⟨k0_dev6 c, k0_dev6_lt c⟩ : Dev nD) = zto c 1 := by revert c; decide +kernel
theorem dev7_eq (c : Dev nD) : (⟨k0_dev7 c, k0_dev7_lt c⟩ : Dev nD) = zto c 2 := by revert c; decide +kernel
theorem dev8_eq (c : Dev nD) : (⟨k0_dev8 c, k0_dev8_lt c⟩ : Dev nD) = yto c 0 := by revert c; decide +kernel
theorem dev9_eq (c : Dev nD) : (⟨k0_dev9 c, k0_dev9_lt c⟩ : Dev nD) = yto c 0 := by revert c; decide +kernel
theorem dev10_eq (c : Dev nD) : (⟨k0_dev10 c, k0_dev10_lt c⟩ : Dev nD) = yto c 1 := by revert c; decide +kernel
theorem dev11_eq (c : Dev nD) : (⟨k0_dev11 c, k0_dev11_lt c⟩ : Dev nD) = yto c 1 := by revert c; decide +kernel
theorem dev12_eq (c : Dev nD) : (⟨k0_dev12 c, k0_dev12_lt c⟩ : Dev nD) = yto c 2 := by revert c; decide +kernel
theorem dev13_eq (c : Dev nD) : (⟨k0_dev13 c, k0_dev13_lt c⟩ : Dev nD) = yto c 2 := by revert c; decide +kernel
theorem dev14_eq (c : Dev nD) : (⟨k0_dev14 c, k0_dev14_lt c⟩ : Dev nD) = xto c := by revert c; decide +kernel
theorem dev15_eq (c : Dev nD) : (⟨k0_dev15 c, k0_dev15_lt c⟩ : Dev nD) = xto c := by revert c; decide +kernel
theorem dev16_eq (c : Dev nD) : (⟨k0_dev16 c, k0_dev16_lt c⟩ : Dev nD) = xto c := by revert c; decide +kernel
theorem dev17_eq (c : Dev nD) : (⟨k0_dev17 c, k0_dev17_lt c⟩ : Dev nD) = xto c := by revert c; decide +kernel
theorem dev18_eq (c : Dev nD) : (⟨k0_dev18 c, k0_dev18_lt c⟩ : Dev nD) = yto c 0 := by revert c; decide +kernel
theorem dev19_eq (c : Dev nD) : (⟨k0_dev19 c, k0_dev19_lt c⟩ : Dev nD) = yto c 1 := by revert c; decide +kernel
theorem dev20_eq (c : Dev nD) : (⟨k0_dev20 c, k0_dev20_lt c⟩ : Dev nD) = yto c 2 := by revert c; decide +kernel
theorem dev21_eq (c : Dev nD) : (⟨k0_dev21 c, k0_dev21_lt c⟩ : Dev nD) = yto c 0 := by revert c; decide +kernel
theorem dev22_eq (c : Dev nD) : (⟨k0_dev22 c, k0_dev22_lt c⟩ : Dev nD) = yto c 1 := by revert c; decide +kernel
theorem dev23_eq (c : Dev nD) : (⟨k0_dev23 c, k0_dev23_lt c⟩ : Dev nD) = yto c 2 := by revert c; decide +kernel
theorem dev24_eq (c : Dev nD) : (⟨k0_dev24 c, k0_dev24_lt c⟩ : Dev nD) = yto c 0 := by revert c; decide +kernel
theorem dev25_eq (c : Dev nD) : (⟨k0_dev25 c, k0_dev25_lt c⟩ : Dev nD) = yto c 1 := by revert c; decide +kernel
theorem dev26_eq (c : Dev nD) : (⟨k0_dev26 c, k0_dev26_lt c⟩ : Dev nD) = yto c 2 := by revert c; decide +kernel
theorem dev27_eq (c : Dev nD) : (⟨k0_dev27 c, k0_dev27_lt c⟩ : Dev nD) = zto c 0 := by revert c; decide +kernel
theorem dev28_eq (c : Dev nD) : (⟨k0_dev28 c, k0_dev28_lt c⟩ : Dev nD) = zto c 1 := by revert c; decide +kernel
theorem dev29_eq (c : Dev nD) : (⟨k0_dev29 c, k0_dev29_lt c⟩ : Dev nD) = zto c 2 := by revert c; decide +kernel

/-! ## The start coordinates the kernel computes -/

theorem off1_eq (c : Dev nD) (p : Fin 4) : k0_off1 c (BitVec.ofNat 32 p.val) = ![256 * (zc c + p).val, 0] := by revert c p; decide +kernel
theorem off2_eq (c : Dev nD) (k : Fin 3) : k0_off2 c (BitVec.ofNat 32 k.val) = ![0, (xc c).val, (ypc c k).val, 0, 0] := by revert c k; decide +kernel
theorem off3_eq (c : Dev nD) (k : Fin 3) : k0_off3 c (BitVec.ofNat 32 k.val) = ![0, (ox c).val, (ypc c k).val, 0, 0] := by revert c k; decide +kernel
theorem off4_eq (c : Dev nD) : k0_off4 c = ![1, (ox c).val, 0, 0, 0] := by revert c; decide +kernel
theorem off5_eq (c : Dev nD) : k0_off5 c = ![2, (ox c).val, 0, 0, 0] := by revert c; decide +kernel
theorem off6_eq (c : Dev nD) : k0_off6 c = ![3, (ox c).val, 0, 0, 0] := by revert c; decide +kernel
theorem off7_eq (c : Dev nD) : k0_off7 c = ![0, (xc c).val, (yc c).val, 0, 0] := by revert c; decide +kernel
theorem off8_eq (c : Dev nD) : k0_off8 c = ![0, (ox c).val, (yc c).val, 0, 0] := by revert c; decide +kernel
theorem off9_eq (c : Dev nD) : k0_off9 c = ![1, (xc c).val, 0, 0, 0] := by revert c; decide +kernel
theorem off10_eq (c : Dev nD) (k : Fin 3) : k0_off10 c (BitVec.ofNat 32 k.val) = ![0, (ypc c k).val, 0, 0] := by revert c k; decide +kernel
theorem off11_eq (c : Dev nD) : k0_off11 c = ![2, (xc c).val, 0, 0, 0] := by revert c; decide +kernel
theorem off12_eq (c : Dev nD) (k : Fin 3) : k0_off12 c (BitVec.ofNat 32 k.val) = ![1, (ypc c k).val, 0, 0] := by revert c k; decide +kernel
theorem off13_eq (c : Dev nD) : k0_off13 c = ![3, (xc c).val, 0, 0, 0] := by revert c; decide +kernel
theorem off14_eq (c : Dev nD) (k : Fin 3) : k0_off14 c (BitVec.ofNat 32 k.val) = ![2, (ypc c k).val, 0, 0] := by revert c k; decide +kernel
theorem off15_eq (c : Dev nD) : k0_off15 c = ![1, (xc c).val, (yc c).val, 0, 0] := by revert c; decide +kernel
theorem off16_eq (c : Dev nD) : k0_off16 c = ![0, (yc c).val, 0, 0] := by revert c; decide +kernel
theorem off17_eq (c : Dev nD) : k0_off17 c = ![2, (xc c).val, (yc c).val, 0, 0] := by revert c; decide +kernel
theorem off18_eq (c : Dev nD) : k0_off18 c = ![1, (yc c).val, 0, 0] := by revert c; decide +kernel
theorem off19_eq (c : Dev nD) : k0_off19 c = ![3, (xc c).val, (yc c).val, 0, 0] := by revert c; decide +kernel
theorem off20_eq (c : Dev nD) : k0_off20 c = ![2, (yc c).val, 0, 0] := by revert c; decide +kernel

end Cert.KernelIdeal.Gen

end
-- ==== Proof.Body.lean ====
/-
  The kernel's body as one sequence of blocks. The twenty-two remote copies of a device are named by `Xf`; a block is
  a copy, a wait on the receiving or the sending side of a copy, or a stretch of loads and a store; `flat` is their
  sequence, and `body_eq` says that the printed body at its buffers is that sequence.
-/
module

public import proofs.«01_k».proof.Proof.Mesh
public import proofs.«01_k».proof.Proof.Gen.KernelIdeal.Points
public import Mathlib.Tactic.DeriveFintype

@[expose] public section

noncomputable section

namespace Cert.KernelIdeal.Gen

open Idealize.ShloMosaic Idealize.SL.Sem

variable {F : FTy → Type} [FloatOps F]

/-- The remote copies a device starts: `x p` a slab of its products to the other side of the column, `y0 k` and `ym k`
    two blocks of its first slab to the device `k + 1` columns further, `y p k` a block of the `p`-th pair sum to that
    device, `z p` the `p`-th column sum to the device `p + 1` planes further, `s` the mirror sum to the other side. -/
inductive Xf where
  | x (p : Fin 3) | y0 (k : Fin 3) | ym (k : Fin 3) | y (p k : Fin 3) | z (p : Fin 3) | s
deriving DecidableEq, Fintype

/-! ## The buffers -/

abbrev xM : Memref sig .tc .vmem S1024x32 .bf16 := Memref.whole cc0_stg0_0
abbrev wM : Memref sig .tc .vmem S32x1024 .bf16 := Memref.whole cc0_stg1_0
abbrev oM : Memref sig .tc .vmem S32x1024 .f32 := Memref.whole cc0_stg2_0
abbrev partM : Memref sig .tc .vmem S4x2x4x32x1024 .bf16 := Memref.whole cc0_scratch0
abbrev xrM : Memref sig .tc .vmem S3x4x32x1024 .bf16 := Memref.whole cc0_scratch1
abbrev axM : Memref sig .tc .vmem S3x4x32x1024 .bf16 := Memref.whole cc0_scratch2
abbrev yrM : Memref sig .tc .vmem S4x3x32x1024 .bf16 := Memref.whole cc0_scratch3
abbrev ymM : Memref sig .tc .vmem S3x32x1024 .bf16 := Memref.whole cc0_scratch4
abbrev bzM : Memref sig .tc .vmem S3x32x1024 .bf16 := Memref.whole cc0_scratch5
abbrev zrM : Memref sig .tc .vmem S3x32x1024 .bf16 := Memref.whole cc0_scratch6
abbrev sbM : Memref sig .tc .vmem S32x1024 .bf16 := Memref.whole cc0_scratch7
abbrev srM : Memref sig .tc .vmem S32x1024 .bf16 := Memref.whole cc0_scratch8

/-! ## Start coordinates -/

/-- The slab a device sends to the other side, by step. -/
def offX (c : Dev nD) : Fin 3 → Fin 5 → Nat | 0 => k0_off4 c | 1 => k0_off5 c | 2 => k0_off6 c
/-- The slab a device keeps, by step. -/
def offO (c : Dev nD) : Fin 3 → Fin 5 → Nat | 0 => k0_off9 c | 1 => k0_off11 c | 2 => k0_off13 c
/-- The device's own block of the slab it keeps, by step. -/
def offP (c : Dev nD) : Fin 3 → Fin 5 → Nat | 0 => k0_off15 c | 1 => k0_off17 c | 2 => k0_off19 c
/-- The device's own block of the slab it received, by step. -/
def offR (c : Dev nD) : Fin 3 → Fin 4 → Nat | 0 => k0_off16 c | 1 => k0_off18 c | 2 => k0_off20 c
/-- The block of a pair sum sent `k + 1` columns further, by step. -/
def offA (c : Dev nD) (k : Fin 3) : Fin 3 → Fin 4 → Nat
  | 0 => k0_off10 c (BitVec.ofNat 32 k.val) | 1 => k0_off12 c (BitVec.ofNat 32 k.val) | 2 => k0_off14 c (BitVec.ofNat 32 k.val)

theorem offX_inb (c : Dev nD) : ∀ p : Fin 3, ∀ a, offX c p a + S1x1x4x32x1024.size a ≤ S4x2x4x32x1024.size a
  | 0 => k0_off4_inb c | 1 => k0_off5_inb c | 2 => k0_off6_inb c
theorem offO_inb (c : Dev nD) : ∀ p : Fin 3, ∀ a, offO c p a + S1x1x4x32x1024.size a ≤ S4x2x4x32x1024.size a
  | 0 => k0_off9_inb c | 1 => k0_off11_inb c | 2 => k0_off13_inb c
theorem offP_inb (c : Dev nD) : ∀ p : Fin 3, ∀ a, offP c p a + S1x1x1x32x1024.size a ≤ S4x2x4x32x1024.size a
  | 0 => k0_off15_inb c | 1 => k0_off17_inb c | 2 => k0_off19_inb c
theorem offR_inb (c : Dev nD) : ∀ p : Fin 3, ∀ a, offR c p a + S1x1x32x1024.size a ≤ S3x4x32x1024.size a
  | 0 => k0_off16_inb c | 1 => k0_off18_inb c | 2 => k0_off20_inb c
theorem offA_inb (c : Dev nD) (k : Fin 3) : ∀ p : Fin 3, ∀ a, offA c k p a + S1x1x32x1024.size a ≤ S3x4x32x1024.size a
  | 0 => k0_off10_inb c k | 1 => k0_off12_inb c k | 2 => k0_off14_inb c k

theorem offX_eq (c : Dev nD) : ∀ p, offX c p = ![p.val + 1, (ox c).val, 0, 0, 0]
  | 0 => off4_eq c | 1 => off5_eq c | 2 => off6_eq c
theorem offO_eq (c : Dev nD) : ∀ p, offO c p = ![p.val + 1, (xc c).val, 0, 0, 0]
  | 0 => off9_eq c | 1 => off11_eq c | 2 => off13_eq c
theorem offP_eq (c : Dev nD) : ∀ p, offP c p = ![p.val + 1, (xc c).val, (yc c).val, 0, 0]
  | 0 => off15_eq c | 1 => off17_eq c | 2 => off19_eq c
theorem offR_eq (c : Dev nD) : ∀ p, offR c p = ![p.val, (yc c).val, 0, 0]
  | 0 => off16_eq c | 1 => off18_eq c | 2 => off20_eq c
theorem offA_eq (c : Dev nD) (k : Fin 3) : ∀ p, offA c k p = ![p.val, (ypc c k).val, 0, 0]
  | 0 => off10_eq c k | 1 => off12_eq c k | 2 => off14_eq c k

theorem slab5_inb : ∀ p : Fin 4, ∀ a, (![p.val, 0, 0, 0, 0] : Fin 5 → Nat) a + S1x2x4x32x1024.size a ≤ S4x2x4x32x1024.size a := by decide
theorem slab4_inb : ∀ p : Fin 3, ∀ a, (![p.val, 0, 0, 0] : Fin 4 → Nat) a + S1x4x32x1024.size a ≤ S3x4x32x1024.size a := by decide
theorem slab3_inb : ∀ p : Fin 3, ∀ a, (![p.val, 0, 0] : Fin 3 → Nat) a + S1x32x1024.size a ≤ S3x32x1024.size a := by decide
theorem cell4_inb : ∀ (p : Fin 4) (k : Fin 3), ∀ a, (![p.val, k.val, 0, 0] : Fin 4 → Nat) a + S1x1x32x1024.size a ≤ S4x3x32x1024.size a := by decide

/-! ## The copies' ends -/

/-- The shape a copy moves. -/
@[reducible] def shp : Xf → Shape
  | .x _ => S4x32x1024 | .y0 _ => S32x1024 | .ym _ => S32x1024 | .y _ _ => S32x1024 | .z _ => S32x1024 | .s => S32x1024

abbrev slabX (c : Dev nD) (p : Fin 3) : Rect S4x2x4x32x1024 := Rect.unit (s := S4x2x4x32x1024) (offX c p) S1x1x4x32x1024.size (offX_inb c p)
abbrev slabO (c : Dev nD) (p : Fin 3) : Rect S4x2x4x32x1024 := Rect.unit (s := S4x2x4x32x1024) (offO c p) S1x1x4x32x1024.size (offO_inb c p)
abbrev blkY (c : Dev nD) (k : Fin 3) : Rect S4x2x4x32x1024 :=
  Rect.unit (s := S4x2x4x32x1024) (k0_off2 c (BitVec.ofNat 32 k.val)) S1x1x1x32x1024.size (k0_off2_inb c k)
abbrev blkM (c : Dev nD) (k : Fin 3) : Rect S4x2x4x32x1024 :=
  Rect.unit (s := S4x2x4x32x1024) (k0_off3 c (BitVec.ofNat 32 k.val)) S1x1x1x32x1024.size (k0_off3_inb c k)
abbrev blkA (c : Dev nD) (p k : Fin 3) : Rect S3x4x32x1024 := Rect.unit (s := S3x4x32x1024) (offA c k p) S1x1x32x1024.size (offA_inb c k p)
abbrev slab5 (p : Fin 4) : Rect S4x2x4x32x1024 := Rect.unit (s := S4x2x4x32x1024) ![p.val, 0, 0, 0, 0] S1x2x4x32x1024.size (slab5_inb p)
abbrev slab4 (p : Fin 3) : Rect S3x4x32x1024 := Rect.unit (s := S3x4x32x1024) ![p.val, 0, 0, 0] S1x4x32x1024.size (slab4_inb p)
abbrev slab3 (p : Fin 3) : Rect S3x32x1024 := Rect.unit (s := S3x32x1024) ![p.val, 0, 0] S1x32x1024.size (slab3_inb p)
abbrev cell4 (p : Fin 4) (k : Fin 3) : Rect S4x3x32x1024 := Rect.unit (s := S4x3x32x1024) ![p.val, k.val, 0, 0] S1x1x32x1024.size (cell4_inb p k)

/-- What a copy reads, on the device `c` that starts it. -/
def srcM (c : Dev nD) : (t : Xf) → Memref sig .tc .vmem (shp t) .bf16
  | .x p => (partM.slice (slabX c p) (fun _ => rfl)).squeeze S4x32x1024 squeezes_S1x1x4x32x1024_S4x32x1024
  | .y0 k => (partM.slice (blkY c k) (fun _ => rfl)).squeeze S32x1024 squeezes_S1x1x1x32x1024_S32x1024
  | .ym k => (partM.slice (blkM c k) (fun _ => rfl)).squeeze S32x1024 squeezes_S1x1x1x32x1024_S32x1024
  | .y p k => (axM.slice (blkA c p k) (fun _ => rfl)).squeeze S32x1024 squeezes_S1x1x32x1024_S32x1024
  | .z p => (bzM.slice (slab3 p) (fun _ => rfl)).squeeze S32x1024 squeezes_S1x32x1024_S32x1024
  | .s => sbM

/-- Where a copy lands, on the device it is addressed to. -/
def dstM : (t : Xf) → Memref sig .tc .vmem (shp t) .bf16
  | .x p => (xrM.slice (slab4 p) (fun _ => rfl)).squeeze S4x32x1024 squeezes_S1x4x32x1024_S4x32x1024
  | .y0 k => (yrM.slice (cell4 0 k) (fun _ => rfl)).squeeze S32x1024 squeezes_S1x1x32x1024_S32x1024
  | .ym k => (ymM.slice (slab3 k) (fun _ => rfl)).squeeze S32x1024 squeezes_S1x32x1024_S32x1024
  | .y p k => (yrM.slice (cell4 p.succ k) (fun _ => rfl)).squeeze S32x1024 squeezes_S1x1x32x1024_S32x1024
  | .z p => (zrM.slice (slab3 p) (fun _ => rfl)).squeeze S32x1024 squeezes_S1x32x1024_S32x1024
  | .s => srM

/-- The semaphore a copy credits where it starts. -/
def sS : Xf → DmaSem sig
  | .x p => ⟨3 + p.val, by have := p.isLt; show _ < 47; omega⟩
  | .y0 k => ⟨9 + k.val, by have := k.isLt; show _ < 47; omega⟩
  | .y p k => ⟨9 + (3 * (p.val + 1) + k.val), by have := p.isLt; have := k.isLt; show _ < 47; omega⟩
  | .ym k => ⟨33 + k.val, by have := k.isLt; show _ < 47; omega⟩
  | .z p => ⟨39 + p.val, by have := p.isLt; show _ < 47; omega⟩
  | .s => ⟨45, by show _ < 47; omega⟩
/-- The semaphore a copy credits where it lands. -/
def rS : Xf → DmaSem sig
  | .x p => ⟨6 + p.val, by have := p.isLt; show _ < 47; omega⟩
  | .y0 k => ⟨21 + k.val, by have := k.isLt; show _ < 47; omega⟩
  | .y p k => ⟨21 + (3 * (p.val + 1) + k.val), by have := p.isLt; have := k.isLt; show _ < 47; omega⟩
  | .ym k => ⟨36 + k.val, by have := k.isLt; show _ < 47; omega⟩
  | .z p => ⟨42 + p.val, by have := p.isLt; show _ < 47; omega⟩
  | .s => ⟨46, by show _ < 47; omega⟩

/-- The device a copy is addressed to, as the kernel computes it. -/
def dvR (c : Dev nD) : Xf → Dev nD
  | .x 0 => ⟨k0_dev14 c, k0_dev14_lt c⟩ | .x 1 => ⟨k0_dev15 c, k0_dev15_lt c⟩ | .x 2 => ⟨k0_dev16 c, k0_dev16_lt c⟩
  | .y0 0 => ⟨k0_dev8 c, k0_dev8_lt c⟩ | .y0 1 => ⟨k0_dev10 c, k0_dev10_lt c⟩ | .y0 2 => ⟨k0_dev12 c, k0_dev12_lt c⟩
  | .ym 0 => ⟨k0_dev9 c, k0_dev9_lt c⟩ | .ym 1 => ⟨k0_dev11 c, k0_dev11_lt c⟩ | .ym 2 => ⟨k0_dev13 c, k0_dev13_lt c⟩
  | .y 0 0 => ⟨k0_dev18 c, k0_dev18_lt c⟩ | .y 0 1 => ⟨k0_dev19 c, k0_dev19_lt c⟩ | .y 0 2 => ⟨k0_dev20 c, k0_dev20_lt c⟩
  | .y 1 0 => ⟨k0_dev21 c, k0_dev21_lt c⟩ | .y 1 1 => ⟨k0_dev22 c, k0_dev22_lt c⟩ | .y 1 2 => ⟨k0_dev23 c, k0_dev23_lt c⟩
  | .y 2 0 => ⟨k0_dev24 c, k0_dev24_lt c⟩ | .y 2 1 => ⟨k0_dev25 c, k0_dev25_lt c⟩ | .y 2 2 => ⟨k0_dev26 c, k0_dev26_lt c⟩
  | .z 0 => ⟨k0_dev27 c, k0_dev27_lt c⟩ | .z 1 => ⟨k0_dev28 c, k0_dev28_lt c⟩ | .z 2 => ⟨k0_dev29 c, k0_dev29_lt c⟩
  | .s => ⟨k0_dev17 c, k0_dev17_lt c⟩
/-- The device a copy of `c` is addressed to. -/
def tgt (c : Dev nD) : Xf → Dev nD
  | .x _ => xto c | .y0 k => yto c k | .ym k => yto c k | .y _ k => yto c k | .z p => zto c p | .s => xto c
/-- The device whose copy lands on `c`. -/
def frm (c : Dev nD) : Xf → Dev nD
  | .x _ => xto c | .y0 k => yfr c k | .ym k => yfr c k | .y _ k => yfr c k | .z p => zfr c p | .s => xto c

theorem dvR_eq (c : Dev nD) : ∀ t, dvR c t = tgt c t
  | .x 0 => dev14_eq c | .x 1 => dev15_eq c | .x 2 => dev16_eq c
  | .y0 0 => dev8_eq c | .y0 1 => dev10_eq c | .y0 2 => dev12_eq c
  | .ym 0 => dev9_eq c | .ym 1 => dev11_eq c | .ym 2 => dev13_eq c
  | .y 0 0 => dev18_eq c | .y 0 1 => dev19_eq c | .y 0 2 => dev20_eq c
  | .y 1 0 => dev21_eq c | .y 1 1 => dev22_eq c | .y 1 2 => dev23_eq c
  | .y 2 0 => dev24_eq c | .y 2 1 => dev25_eq c | .y 2 2 => dev26_eq c
  | .z 0 => dev27_eq c | .z 1 => dev28_eq c | .z 2 => dev29_eq c
  | .s => dev17_eq c

theorem frm_tgt (c : Dev nD) : ∀ t, frm (tgt c t) t = c
  | .x _ => xto_xto c | .y0 k => yfr_yto c k | .ym k => yfr_yto c k | .y _ k => yfr_yto c k | .z p => zfr_zto c p | .s => xto_xto c
theorem tgt_frm (c : Dev nD) : ∀ t, tgt (frm c t) t = c
  | .x _ => xto_xto c | .y0 k => yto_yfr c k | .ym k => yto_yfr c k | .y _ k => yto_yfr c k | .z p => zto_zfr c p | .s => xto_xto c

theorem words_offX (c : Dev nD) : ∀ p, (slabX c p).WholeWords (EltTy.packing .bf16)
  | 0 => k0_off4_wordsbf16 c | 1 => k0_off5_wordsbf16 c | 2 => k0_off6_wordsbf16 c
theorem words_blkA (c : Dev nD) (k : Fin 3) : ∀ p, (blkA c p k).WholeWords (EltTy.packing .bf16)
  | 0 => k0_off10_wordsbf16 c k | 1 => k0_off12_wordsbf16 c k | 2 => k0_off14_wordsbf16 c k
theorem words_slab4 : ∀ p, (slab4 p).WholeWords (EltTy.packing .bf16) := by decide
theorem words_slab3 : ∀ p, (slab3 p).WholeWords (EltTy.packing .bf16) := by decide
theorem words_cell4 : ∀ p k, (cell4 p k).WholeWords (EltTy.packing .bf16) := by decide

theorem srcM_we (c : Dev nD) : ∀ t, (srcM c t).view.WordExact
  | .x p => ((Memref.isWhole_whole _).wordExact_slice rfl _ (words_offX c p)).reshape _ _
  | .y0 k => ((Memref.isWhole_whole _).wordExact_slice rfl _ (k0_off2_wordsbf16 c k)).reshape _ _
  | .ym k => ((Memref.isWhole_whole _).wordExact_slice rfl _ (k0_off3_wordsbf16 c k)).reshape _ _
  | .y p k => ((Memref.isWhole_whole _).wordExact_slice rfl _ (words_blkA c k p)).reshape _ _
  | .z p => ((Memref.isWhole_whole _).wordExact_slice rfl _ (words_slab3 p)).reshape _ _
  | .s => (Memref.isWhole_whole _).wordExact
theorem dstM_we : ∀ t, (dstM t).view.WordExact
  | .x p => ((Memref.isWhole_whole _).wordExact_slice rfl _ (words_slab4 p)).reshape _ _
  | .y0 k => ((Memref.isWhole_whole _).wordExact_slice rfl _ (words_cell4 0 k)).reshape _ _
  | .ym k => ((Memref.isWhole_whole _).wordExact_slice rfl _ (words_slab3 k)).reshape _ _
  | .y p k => ((Memref.isWhole_whole _).wordExact_slice rfl _ (words_cell4 p.succ k)).reshape _ _
  | .z p => ((Memref.isWhole_whole _).wordExact_slice rfl _ (words_slab3 p)).reshape _ _
  | .s => (Memref.isWhole_whole _).wordExact
theorem dstM_sc : ∀ t, (dstM t).view.ref.isScScratch = false
  | .x _ => rfl | .y0 _ => rfl | .ym _ => rfl | .y _ _ => rfl | .z _ => rfl | .s => rfl

/-! ## The blocks -/

/-- The runtime's barrier semaphore. -/
abbrev barS : Sem sig := (SemArray.scalar (sig.barrier 0 rfl) : Sems sig S_).sem

variable (F) in
/-- Programs of the body. -/
abbrev PG := Prog (TpuEff nD τ sig (Elt F) Λ₀ .tc) PUnit

/-- One unit to the barrier semaphore of device `n`. -/
def sigP (n : Dev nD) (k : PG F) : PG F := .op (.semSignal (n, .tc) barS (1#32).toInt) fun _ => k
/-- Wait for seven units on the barrier semaphore. -/
def barP (k : PG F) : PG F := .op (.semWait barS (7#32).toInt) fun _ => k
/-- Start the copy `t`. -/
def xfP (c : Dev nD) (t : Xf) (k : PG F) : PG F :=
  .op (.enqueueDma (srcM c t) (.remote (Dev.tc (dvR c t)) (dstM t) (.dma (sS t)) (dstM_sc t)) (.dma (rS t)) (srcM_we c t) (dstM_we t)
    ⟨⟨rfl, Or.inl rfl⟩, trivial⟩) fun _ => k
/-- Wait for the copy `t` addressed to this device. -/
def wrP (c : Dev nD) (t : Xf) (k : PG F) : PG F := .op (.waitDma2 (rS t) (srcM c t) (dstM t) (srcM_we c t) (dstM_we t)) fun _ => k
/-- Wait for the copy `t` this device started to have read its source. -/
def wsP (c : Dev nD) (t : Xf) (k : PG F) : PG F := .op (.waitDma2 (sS t) (dstM t) (srcM c t) (dstM_we t) (srcM_we c t)) fun _ => k
/-- Load a rectangle. -/
def ldP {S : Shape} {e : EltTy} (M : Memref sig .tc .vmem S e) (r : Rect S) (h : 0 < r.shape.numel) (k : (r.shape.Idx → Elt F e) → PG F) : PG F :=
  .op (.load M r.toLoadRect (View.loadsAt_vmem h)) k
/-- Store a rectangle whole. -/
def stP {S : Shape} {e : EltTy} (M : Memref sig .tc .vmem S e) (r : Rect S) (v : r.shape.Idx → Elt F e)
    (h : (M.access r).Stores Finset.univ) (k : PG F) : PG F :=
  .op (.store M r v Finset.univ h (.inl rfl)) fun _ => k

theorem h_S1x2 : 0 < S1x2x4x32x1024.numel := by decide

abbrev rX (c : Dev nD) (p : Fin 4) : Rect S1024x32 := Rect.unit (s := S1024x32) (k0_off1 c (BitVec.ofNat 32 p.val)) S256x32.size (k0_off1_inb c p)
abbrev rW : Rect S32x1024 := Rect.unit (s := S32x1024) ![0, 0] S32x1024.size inb_S32x1024_S32x1024_0_0
abbrev blkO (c : Dev nD) (p : Fin 3) : Rect S4x2x4x32x1024 := Rect.unit (s := S4x2x4x32x1024) (offP c p) S1x1x1x32x1024.size (offP_inb c p)
abbrev blkR (c : Dev nD) (p : Fin 3) : Rect S3x4x32x1024 := Rect.unit (s := S3x4x32x1024) (offR c p) S1x1x32x1024.size (offR_inb c p)
abbrev blkS (c : Dev nD) : Rect S4x2x4x32x1024 := Rect.unit (s := S4x2x4x32x1024) (k0_off7 c) S1x1x1x32x1024.size (k0_off7_inb c)
abbrev blkT (c : Dev nD) : Rect S4x2x4x32x1024 := Rect.unit (s := S4x2x4x32x1024) (k0_off8 c) S1x1x1x32x1024.size (k0_off8_inb c)

theorem packed_slab5 : ∀ p, (slab5 p).PackedRows (EltTy.packing .bf16) := by decide
theorem packed_slab4 : ∀ p, (slab4 p).PackedRows (EltTy.packing .bf16) := by decide
theorem packed_slab3 : ∀ p, (slab3 p).PackedRows (EltTy.packing .bf16) := by decide

/-- The products of one plane's rows, as stored. -/
def mmV (a : Vec F S256x32 .bf16) (b : Vec F S32x1024 .bf16) : Vec F S1x2x4x32x1024 .bf16 := k0_pay2 (k0_pay1 a b)
/-- The column sum of one step, as stored: own block, the received one, the three of the column. -/
def bzV (a : Vec F S1x1x1x32x1024 .bf16) (b l0 l1 l2 : Vec F S1x1x32x1024 .bf16) : Vec F S1x32x1024 .bf16 :=
  k0_pay21 (k0_pay20 (k0_pay19 a) b l0) l1 l2
/-- The column sum of the device's own plane. -/
def smV (a : Vec F S1x1x1x32x1024 .bf16) (l0 l1 l2 : Vec F S1x1x32x1024 .bf16) : FVec F S32x1024 .f32 :=
  k0_pay14 (k0_pay12 (k0_pay10 (k0_pay8 a) l0) l1) l2
/-- The mirror column sum of the device's own plane, as stored. -/
def sbV (a : Vec F S1x1x1x32x1024 .bf16) (l0 l1 l2 : Vec F S1x32x1024 .bf16) : Vec F S32x1024 .bf16 :=
  k0_pay15 (k0_pay13 (k0_pay11 (k0_pay9 a) l0) l1) l2
/-- The result. -/
def outV (s : FVec F S32x1024 .f32) (r : Vec F S32x1024 .bf16) (l0 l1 l2 : Vec F S1x32x1024 .bf16) : Vec F S32x1024 .f32 :=
  k0_pay30 (k0_pay29 (k0_pay28 s r) l0 l1) l2

/-- Multiply one plane's rows and store the products. -/
def mmP (c : Dev nD) (p : Fin 4) (k : PG F) : PG F :=
  ldP xM (rX c p) h_S256x32 fun a => ldP wM rW h_S32x1024 fun b => ldP partM (slab5 p) h_S1x2 fun _ =>
    stP partM (slab5 p) (mmV a b) (View.stores_vmem h_S1x2 ((Memref.isWhole_whole _).storeExact_slice rfl _ (packed_slab5 p)) (fun _ => rfl)) k

/-- The two column sums of the device's own plane; the mirror one is stored and sent. -/
def smP (c : Dev nD) (k : FVec F S32x1024 .f32 → PG F) : PG F :=
  ldP partM (blkS c) h_S1x1x1x32x1024 fun a => ldP partM (blkT c) h_S1x1x1x32x1024 fun b =>
  wrP c (.y0 0) <| ldP yrM (cell4 0 0) h_S1x1x32x1024 fun l0 => wrP c (.ym 0) <| ldP ymM (slab3 0) h_S1x32x1024 fun m0 =>
  wrP c (.y0 1) <| ldP yrM (cell4 0 1) h_S1x1x32x1024 fun l1 => wrP c (.ym 1) <| ldP ymM (slab3 1) h_S1x32x1024 fun m1 =>
  wrP c (.y0 2) <| ldP yrM (cell4 0 2) h_S1x1x32x1024 fun l2 => wrP c (.ym 2) <| ldP ymM (slab3 2) h_S1x32x1024 fun m2 =>
  ldP sbM rW h_S32x1024 fun _ =>
  stP sbM rW (sbV b m0 m1 m2) (View.stores_vmem h_S32x1024 ((Memref.isWhole_whole _).storeExact_slice rfl _ packedbf16_S32x1024_S32x1024_0_0) (fun _ => rfl)) <|
  xfP c .s <| k (smV a l0 l1 l2)

/-- The pair sum of step `p`, stored and sent to the column. -/
def axP (c : Dev nD) (p : Fin 3) (k : PG F) : PG F :=
  wrP c (.x p) <| ldP partM (slabO c p) h_S1x1x4x32x1024 fun a => ldP xrM (slab4 p) h_S1x4x32x1024 fun b =>
  ldP axM (slab4 p) h_S1x4x32x1024 fun _ =>
  stP axM (slab4 p) (k0_pay16 a b) (View.stores_vmem h_S1x4x32x1024 ((Memref.isWhole_whole _).storeExact_slice rfl _ (packed_slab4 p)) (fun _ => rfl)) <|
  xfP c (.y p 0) <| xfP c (.y p 1) <| xfP c (.y p 2) k

/-- The column sum of step `p`, stored and sent to its plane. -/
def bzP (c : Dev nD) (p : Fin 3) (k : PG F) : PG F :=
  ldP partM (blkO c p) h_S1x1x1x32x1024 fun a => ldP xrM (blkR c p) h_S1x1x32x1024 fun b =>
  wrP c (.y p 0) <| ldP yrM (cell4 p.succ 0) h_S1x1x32x1024 fun l0 =>
  wrP c (.y p 1) <| ldP yrM (cell4 p.succ 1) h_S1x1x32x1024 fun l1 =>
  wrP c (.y p 2) <| ldP yrM (cell4 p.succ 2) h_S1x1x32x1024 fun l2 =>
  ldP bzM (slab3 p) h_S1x32x1024 fun _ =>
  stP bzM (slab3 p) (bzV a b l0 l1 l2) (View.stores_vmem h_S1x32x1024 ((Memref.isWhole_whole _).storeExact_slice rfl _ (packed_slab3 p)) (fun _ => rfl)) <|
  xfP c (.z p) k

/-- The total and the result. -/
def finP (c : Dev nD) (s : FVec F S32x1024 .f32) (k : PG F) : PG F :=
  wrP c .s <| ldP srM rW h_S32x1024 fun r =>
  wrP c (.z 0) <| ldP zrM (slab3 0) h_S1x32x1024 fun l0 => wrP c (.z 1) <| ldP zrM (slab3 1) h_S1x32x1024 fun l1 =>
  wrP c (.z 2) <| ldP zrM (slab3 2) h_S1x32x1024 fun l2 =>
  ldP oM rW h_S32x1024 fun _ => stP oM rW (outV s r l0 l1 l2) (View.stores_vmem_bits_univ h_S32x1024 rfl) k

/-- The copies in the order their sending sides are waited for. -/
def sends : List Xf :=
  [.x 0, .x 1, .x 2, .y0 0, .ym 0, .y0 1, .ym 1, .y0 2, .ym 2, .y 0 0, .y 0 1, .y 0 2, .y 1 0, .y 1 1, .y 1 2, .y 2 0, .y 2 1, .y 2 2, .z 0, .z 1, .z 2, .s]

/-- The waits of a list of copies' sending sides. -/
def wsAll (c : Dev nD) : List Xf → PG F → PG F
  | [], k => k
  | t :: l, k => wsP c t (wsAll c l k)

/-- The body. -/
def flat (c : Dev nD) : PG F :=
  sigP ⟨k0_dev1 c, k0_dev1_lt c⟩ <| sigP ⟨k0_dev2 c, k0_dev2_lt c⟩ <| sigP ⟨k0_dev3 c, k0_dev3_lt c⟩ <| sigP ⟨k0_dev4 c, k0_dev4_lt c⟩ <|
  sigP ⟨k0_dev5 c, k0_dev5_lt c⟩ <| sigP ⟨k0_dev6 c, k0_dev6_lt c⟩ <| sigP ⟨k0_dev7 c, k0_dev7_lt c⟩ <|
  mmP c 0 <| barP <|
  xfP c (.y0 0) <| xfP c (.ym 0) <| xfP c (.y0 1) <| xfP c (.ym 1) <| xfP c (.y0 2) <| xfP c (.ym 2) <|
  mmP c 1 <| xfP c (.x 0) <| mmP c 2 <| xfP c (.x 1) <| mmP c 3 <| xfP c (.x 2) <|
  smP c fun s => axP c 0 <| axP c 1 <| axP c 2 <| bzP c 0 <| bzP c 1 <| bzP c 2 <| finP c s <| wsAll c sends (.ret ⟨⟩)

end Cert.KernelIdeal.Gen

end
-- ==== Proof.Slots.lean ====
/-
  Pieces of a buffer held at known values. `Sl c b e v`: device `c` holds the elements of its buffer `b` named by the
  embedding `e`, and the one named by `i` is `v i`. A piece divides into pieces and is put together again; a load through a
  rectangle inside a piece reads its values; a store through a piece's own rectangle replaces them.
-/
module

public import proofs.«01_k».proof.Proof.Body
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Duties are numbered. -/
abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-- Device `c` holds the elements of buffer `b` named by `e`, at the values `v`. -/
def Sl (c : Dev nD) (b : Ref sig .tc) {s : Shape} (e : s.Idx ↪ b.ty.shape.Idx) (v : s.Idx → Elt F b.ty.elt) : sProp 𝕄 :=
  iprop(∃ f : Buf (Elt F) ((c : Thread nD τ).loc b), ⌜(fun i => f (e i)) = v⌝ ∗ (((c : Thread nD τ).loc b) ↦[Finset.univ.map e]{fullShare} f))

instance Sl_storable (c : Dev nD) (b : Ref sig .tc) {s : Shape} (e : s.Idx ↪ b.ty.shape.Idx) (v : s.Idx → Elt F b.ty.elt) :
    BI.Storable (upEmb : UEmb _ 𝕄) (Sl c b e v) := by
  unfold Sl; infer_instance

/-- Device `c` holds the elements of buffer `b` named by `e`, at some values. -/
def Own (c : Dev nD) (b : Ref sig .tc) {s : Shape} (e : s.Idx ↪ b.ty.shape.Idx) : sProp 𝕄 := iprop(∃ v, Sl (F := F) c b e v)

instance Own_storable (c : Dev nD) (b : Ref sig .tc) {s : Shape} (e : s.Idx ↪ b.ty.shape.Idx) :
    BI.Storable (upEmb : UEmb _ 𝕄) (Own (F := F) c b e) := by
  unfold Own; infer_instance

variable (c : Dev nD) (b : Ref sig .tc) {s s' : Shape}

theorem Sl_own (e : s.Idx ↪ b.ty.shape.Idx) (v : s.Idx → Elt F b.ty.elt) : Sl c b e v ⊢ (Own c b e : sProp 𝕄) := by
  unfold Own; iintro H; iexists v; iexact H

theorem Sl_congr {e e' : s.Idx ↪ b.ty.shape.Idx} {v v' : s.Idx → Elt F b.ty.elt} (he : ∀ i, e i = e' i) (hv : ∀ i, v i = v' i) :
    (Sl c b e v : sProp 𝕄) = Sl c b e' v' := by
  rw [DFunLike.ext e e' he, funext hv]

theorem Own_congr {e e' : s.Idx ↪ b.ty.shape.Idx} (he : ∀ i, e i = e' i) : (Own c b e : sProp 𝕄) = Own c b e' := by
  rw [DFunLike.ext e e' he]

theorem pts_Sl (e : s.Idx ↪ b.ty.shape.Idx) (f : Buf (Elt F) ((c : Thread nD τ).loc b)) :
    (((c : Thread nD τ).loc b) ↦[Finset.univ.map e]{fullShare} f) ⊢ (Sl c b e (fun i => f (e i)) : sProp 𝕄) := by
  unfold Sl; iintro H; iexists f; isplitr
  · ipureintro; rfl
  · iexact H

/-- A piece at an index map of another shape. -/
theorem Sl_reindex (e : s.Idx ↪ b.ty.shape.Idx) (e' : s'.Idx ↪ b.ty.shape.Idx) (φ : s'.Idx → s.Idx) (hφ : ∀ i, e' i = e (φ i))
    (hs : Function.Surjective φ) (v : s.Idx → Elt F b.ty.elt) : Sl c b e v ⊢ (Sl c b e' (fun i => v (φ i)) : sProp 𝕄) := by
  have hset : (Finset.univ.map e : Finset b.ty.shape.Idx) = Finset.univ.map e' := by
    ext x; simp only [Finset.mem_map, Finset.mem_univ, true_and]
    constructor
    · rintro ⟨i, rfl⟩; obtain ⟨j, rfl⟩ := hs i; exact ⟨j, hφ j⟩
    · rintro ⟨j, rfl⟩; exact ⟨φ j, (hφ j).symm⟩
  unfold Sl; iintro ⟨%f, %hf, H⟩; iexists f; isplitr
  · ipureintro; funext i; rw [hφ]; exact congrFun hf _
  · rw [hset]; iexact H

section Split
variable {J : Type} [Fintype J] [DecidableEq J] (e : s.Idx ↪ b.ty.shape.Idx) (e' : J → s'.Idx ↪ b.ty.shape.Idx) (φ : J → s'.Idx → s.Idx)
  (hφ : ∀ j i, e' j i = e (φ j i)) (hs : ∀ x, ∃ j i, φ j i = x) (hi : ∀ j j' i i', φ j i = φ j' i' → j = j')

include hφ hs in
theorem split_set : (Finset.univ.map e : Finset b.ty.shape.Idx) = Finset.univ.biUnion fun j => Finset.univ.map (e' j) := by
  ext x; simp only [Finset.mem_map, Finset.mem_univ, true_and, Finset.mem_biUnion]
  constructor
  · rintro ⟨i, rfl⟩; obtain ⟨j, k, rfl⟩ := hs i; exact ⟨j, k, hφ j k⟩
  · rintro ⟨j, k, rfl⟩; exact ⟨φ j k, (hφ j k).symm⟩

include hφ hi in
theorem split_disj (j j' : J) (h : j ≠ j') : Disjoint (Finset.univ.map (e' j) : Finset b.ty.shape.Idx) (Finset.univ.map (e' j')) := by
  rw [Finset.disjoint_left]; intro x hx hx'
  simp only [Finset.mem_map, Finset.mem_univ, true_and] at hx hx'
  obtain ⟨i, rfl⟩ := hx; obtain ⟨i', h'⟩ := hx'
  rw [hφ, hφ] at h'
  exact h (hi _ _ _ _ (e.injective h').symm)

include hφ hs hi in
/-- A piece divided. -/
theorem Sl_split (v : s.Idx → Elt F b.ty.elt) : Sl c b e v ⊢ (bigSep Finset.univ fun j => Sl c b (e' j) (fun i => v (φ j i)) : sProp 𝕄) := by
  have h1 : ∀ (f : Buf (Elt F) ((c : Thread nD τ).loc b)), (fun i => f (e i)) = v → ∀ j,
      (((c : Thread nD τ).loc b) ↦[Finset.univ.map (e' j)]{fullShare} f) ⊢ (Sl c b (e' j) (fun i => v (φ j i)) : sProp 𝕄) := by
    intro f hf j; unfold Sl; iintro H; iexists f; isplitr
    · ipureintro; funext i; rw [hφ]; exact congrFun hf _
    · iexact H
  refine exists_elim fun f => ?_
  iintro ⟨%hf, H⟩
  ihave H := (Entails.of_eq (by rw [split_set b e e' φ hφ hs, pointsTo_biUnion _ _ (fun j _ j' _ h => split_disj b e e' φ hφ hi j j' h)])
    |>.trans (bigSep_mono (s := Finset.univ) fun j _ => h1 f hf j)) $$ H
  iexact H

include hφ hs hi in
theorem Own_split : Own c b e ⊢ (bigSep Finset.univ fun j => Own c b (e' j) : sProp 𝕄) := by
  refine exists_elim fun v => ?_
  exact (Sl_split c b e e' φ hφ hs hi v).trans (bigSep_mono fun j _ => Sl_own c b _ _)

include hφ hs hi in
/-- The pieces put together. -/
theorem Own_join [Nonempty (Buf (Elt F) ((c : Thread nD τ).loc b))] : (bigSep Finset.univ fun j => Own c b (e' j)) ⊢ (Own c b e : sProp 𝕄) := by
  have h1 : ∀ j, (Own c b (e' j) : sProp 𝕄) ⊢ iprop(∃ f : Buf (Elt F) ((c : Thread nD τ).loc b), ((c : Thread nD τ).loc b) ↦[Finset.univ.map (e' j)]{fullShare} f) := by
    intro j; unfold Own Sl; iintro ⟨%v, %f, %hf, H⟩; iexists f; iexact H
  refine (bigSep_mono fun j _ => h1 j).trans ?_
  refine (BI.bigSep_exists_pi _ _).trans ?_
  iintro ⟨%fs, H⟩
  ihave H' := (pointsTo_biUnion_join Finset.univ (fun j => (Finset.univ.map (e' j) : Finset b.ty.shape.Idx)) fs (Classical.arbitrary _)
    (fun j _ j' _ h => split_disj b e e' φ hφ hi j j' h)) $$ H
  icases H' with ⟨%g, -, H⟩
  iapply (Sl_own c b e (fun i => g (e i)))
  iapply (pts_Sl c b e g)
  rw [split_set b e e' φ hφ hs]; iexact H
end Split

/-! ## A load and a store of a piece -/

/-- A buffer of the vector memory. -/
abbrev vm (i : Fin (sig.nNear .tc .vmem)) (h : sig.names .tc .vmem i = true) : Ref sig .tc := ⟨.vmem, i, h⟩

/-- The rest of device `c`'s program, to `Kt`. -/
abbrev WP (c : Dev nD) (k : PG F) (Kt : PUnit → sProp 𝕄) : sProp 𝕄 := wp frame (wpE (defs₀ (F := F)) 𝒱₀ (c : Thread nD τ) none) Set.univ k Kt

variable {i : Fin (sig.nNear .tc .vmem)} {h : sig.names .tc .vmem i = true}

/-- A load through a rectangle inside a piece reads the piece's values there. -/
theorem wp_ld {e : s.Idx ↪ (vm i h).ty.shape.Idx} {v : s.Idx → Elt F (vm i h).ty.elt} {r : Rect (vm i h).ty.shape} {hr : 0 < r.shape.numel}
    {k : (r.shape.Idx → Elt F (vm i h).ty.elt) → PG F} {Kt : PUnit → sProp 𝕄} (φ : r.shape.Idx → s.Idx) (hφ : ∀ x, r.emb x = e (φ x)) :
    iprop(Sl c (vm i h) e v ∗ (Sl c (vm i h) e v -∗ WP c (k fun x => v (φ x)) Kt)) ⊢ WP c (ldP (Memref.whole (vm i h)) r hr k) Kt := by
  unfold Sl ldP
  iintro ⟨⟨%f, %hf, H⟩, Hk⟩
  iapply (wp_load_rect 𝒱₀ (c : Thread nD τ) none Set.univ (m := Memref.whole (vm i h)) (r := r) (S := Finset.univ.map e) (f := f) ?_) $$ H
  · intro x hx
    obtain ⟨y, -, rfl⟩ := Finset.mem_map.mp hx
    exact Finset.mem_map.mpr ⟨φ y, Finset.mem_univ _, (hφ y).symm⟩
  iintro H
  have hv : ((Memref.whole (vm i h)).access r).read (Elt F) f = fun x => v (φ x) := by
    funext x; rw [← hf]; dsimp only; rw [← hφ]; rfl
  rw [hv]
  iapply Hk; iexists f; isplitr
  · ipureintro; exact hf
  · iexact H

/-- A load of a piece whose values do not matter. -/
theorem wp_ld_own {r : Rect (vm i h).ty.shape} {hr : 0 < r.shape.numel}
    {k : (r.shape.Idx → Elt F (vm i h).ty.elt) → PG F} {Kt : PUnit → sProp 𝕄} (e : s.Idx ↪ (vm i h).ty.shape.Idx)
    (φ : r.shape.Idx → s.Idx) (hφ : ∀ x, r.emb x = e (φ x)) :
    iprop(Own c (vm i h) e ∗ (Own c (vm i h) e -∗ ∀ w, WP c (k w) Kt)) ⊢ WP c (ldP (Memref.whole (vm i h)) r hr k) Kt := by
  unfold Own
  iintro ⟨⟨%v, H⟩, Hk⟩
  iapply (wp_ld c φ hφ) $$ [H Hk]
  isplitl [H]; · iexact H
  iintro H
  ispecialize Hk $$ [H]
  · iexists v; iexact H
  iapply Hk

/-- A store through a piece's own rectangle replaces the piece's values. -/
theorem wp_st {r : Rect (vm i h).ty.shape} {w : r.shape.Idx → Elt F (vm i h).ty.elt}
    {hs : ((Memref.whole (vm i h)).access r).Stores Finset.univ} {k : PG F} {Kt : PUnit → sProp 𝕄} :
    iprop(Own c (vm i h) r.emb ∗ (Sl c (vm i h) r.emb w -∗ WP c k Kt)) ⊢ WP c (stP (Memref.whole (vm i h)) r w hs k) Kt := by
  unfold Own Sl stP
  iintro ⟨⟨%v, %f, %hf, H⟩, Hk⟩
  iapply (wp_store 𝒱₀ (c : Thread nD τ) none Set.univ (m := Memref.whole (vm i h)) (r := r) (Mk := Finset.univ) (S := Finset.univ.map r.emb) (f := f) ?_) $$ H
  · exact Finset.Subset.refl _
  iintro H
  iapply Hk; iexists _; isplitr
  · ipureintro; funext x
    exact View.write_emb_of_mem (v := (Memref.whole (vm i h)).access r) f w (Finset.mem_univ x)
  · iexact H

end Cert.KernelIdeal.Gen

end
-- ==== Proof.Values.lean ====
/-
  The values the blocks of Body.lean compute, from the operands `X d` (1024×32) and `W d` (32×1024) every device `d`
  holds, and where the copies' ends lie in their buffers.
-/
module

public import proofs.«01_k».proof.Proof.Slots
public import Idealize.ShloMosaic.Lib.ValueIdxCore

@[expose] public section

noncomputable section

namespace Cert.KernelIdeal.Gen

open Idealize.ShloMosaic Idealize.ShloMosaic.TcCoe Idealize.SL.Sem
open Idealize.ShloMosaic.ValueIdx (ix2 ix3 ix4 ix5)

variable {F : FTy → Type} [FloatOps F]

/-! ## Values -/

section Vals
variable (X : Dev nD → Vec F S1024x32 .bf16) (W : Dev nD → Vec F S32x1024 .bf16)

/-- Device `c`'s products of step `p`: the rows of plane `zc c + p`, by side and column. -/
def PV (c : Dev nD) (p : Fin 4) : Vec F S1x2x4x32x1024 .bf16 := mmV (fun i => X c ((rX c p).emb i)) (fun i => W c i)

/-- The pair sum of step `p`: the slab device `c` keeps plus the one the other side sent. -/
def AXv (c : Dev nD) (p : Fin 3) : Vec F S1x4x32x1024 .bf16 :=
  k0_pay16 (fun i : S1x1x4x32x1024.Idx => PV X W c p.succ (ix5 0 (xc c) (i 2) (i 3) (i 4)))
    (fun i : S1x4x32x1024.Idx => PV X W (xto c) p.succ (ix5 0 (ox (xto c)) (i 1) (i 2) (i 3)))

/-- What device `d` sends `k + 1` columns further of its own plane's products, on side `x`. -/
def Y0v (d : Dev nD) (x : Fin 2) (k : Fin 3) : Vec F S32x1024 .bf16 := fun i => PV X W d 0 (ix5 0 x (ypc d k) (i 0) (i 1))

/-- The column sum of device `c`'s own plane, on its side. -/
def SMv (c : Dev nD) : FVec F S32x1024 .f32 :=
  smV (fun i : S1x1x1x32x1024.Idx => PV X W c 0 (ix5 0 (xc c) (yc c) (i 3) (i 4)))
    (fun i : S1x1x32x1024.Idx => Y0v X W (yfr c 0) (xc (yfr c 0)) 0 (ix2 (i 2) (i 3)))
    (fun i : S1x1x32x1024.Idx => Y0v X W (yfr c 1) (xc (yfr c 1)) 1 (ix2 (i 2) (i 3)))
    (fun i : S1x1x32x1024.Idx => Y0v X W (yfr c 2) (xc (yfr c 2)) 2 (ix2 (i 2) (i 3)))

/-- The column sum of device `c`'s own plane, on the other side. -/
def SBv (c : Dev nD) : Vec F S32x1024 .bf16 :=
  sbV (fun i : S1x1x1x32x1024.Idx => PV X W c 0 (ix5 0 (ox c) (yc c) (i 3) (i 4)))
    (fun i : S1x32x1024.Idx => Y0v X W (yfr c 0) (ox (yfr c 0)) 0 (ix2 (i 1) (i 2)))
    (fun i : S1x32x1024.Idx => Y0v X W (yfr c 1) (ox (yfr c 1)) 1 (ix2 (i 1) (i 2)))
    (fun i : S1x32x1024.Idx => Y0v X W (yfr c 2) (ox (yfr c 2)) 2 (ix2 (i 1) (i 2)))

/-- The column sum of step `p`. -/
def BZv (c : Dev nD) (p : Fin 3) : Vec F S1x32x1024 .bf16 :=
  bzV (fun i : S1x1x1x32x1024.Idx => PV X W c p.succ (ix5 0 (xc c) (yc c) (i 3) (i 4)))
    (fun i : S1x1x32x1024.Idx => PV X W (xto c) p.succ (ix5 0 (ox (xto c)) (yc c) (i 2) (i 3)))
    (fun i : S1x1x32x1024.Idx => AXv X W (yfr c 0) p (ix4 0 (ypc (yfr c 0) 0) (i 2) (i 3)))
    (fun i : S1x1x32x1024.Idx => AXv X W (yfr c 1) p (ix4 0 (ypc (yfr c 1) 1) (i 2) (i 3)))
    (fun i : S1x1x32x1024.Idx => AXv X W (yfr c 2) p (ix4 0 (ypc (yfr c 2) 2) (i 2) (i 3)))

/-- What device `c` sends by the copy `t`. -/
def SV (c : Dev nD) : (t : Xf) → Vec F (shp t) .bf16
  | .x p => fun i => PV X W c p.succ (ix5 0 (ox c) (i 0) (i 1) (i 2))
  | .y0 k => Y0v X W c (xc c) k
  | .ym k => Y0v X W c (ox c) k
  | .y p k => fun i => AXv X W c p (ix4 0 (ypc c k) (i 0) (i 1))
  | .z p => fun i => BZv X W c p (ix3 0 (i 0) (i 1))
  | .s => SBv X W c

/-- Device `c`'s result. -/
def OUTv (c : Dev nD) : Vec F S32x1024 .f32 :=
  outV (SMv X W c) (fun i => SV X W (xto c) .s i)
    (fun i : S1x32x1024.Idx => SV X W (zfr c 0) (.z 0) (ix2 (i 1) (i 2)))
    (fun i : S1x32x1024.Idx => SV X W (zfr c 1) (.z 1) (ix2 (i 1) (i 2)))
    (fun i : S1x32x1024.Idx => SV X W (zfr c 2) (.z 2) (ix2 (i 1) (i 2)))

end Vals

/-! ## Where the pieces lie -/

/-- Block `(p, x, y)` of the products. -/
def pE (p : Fin 4) (x : Fin 2) (y : Fin 4) : S32x1024.Idx ↪ (cc0_scratch0 : Ref sig .tc).ty.shape.Idx :=
  ⟨fun i => (ix5 p x y (i 0) (i 1) : S4x2x4x32x1024.Idx), fun i j h => by
    funext a
    have h3 := congrFun h (3 : Fin 5); have h4 := congrFun h (4 : Fin 5)
    fin_cases a
    · exact h3
    · exact h4⟩
/-- Side `x` of slab `p` of the products. -/
def pH (p : Fin 4) (x : Fin 2) : S4x32x1024.Idx ↪ (cc0_scratch0 : Ref sig .tc).ty.shape.Idx :=
  ⟨fun i => (ix5 p x (i 0) (i 1) (i 2) : S4x2x4x32x1024.Idx), fun i j h => by
    funext a
    have h2 := congrFun h (2 : Fin 5); have h3 := congrFun h (3 : Fin 5); have h4 := congrFun h (4 : Fin 5)
    fin_cases a
    · exact h2
    · exact h3
    · exact h4⟩
/-- Block `(p, y)` of the pair sums. -/
def aE (p : Fin 3) (y : Fin 4) : S32x1024.Idx ↪ (cc0_scratch2 : Ref sig .tc).ty.shape.Idx :=
  ⟨fun i => (ix4 p y (i 0) (i 1) : S3x4x32x1024.Idx), fun i j h => by
    funext a
    have h2 := congrFun h (2 : Fin 4); have h3 := congrFun h (3 : Fin 4)
    fin_cases a
    · exact h2
    · exact h3⟩

section Unsqueeze
open Shape

theorem unsq5 (hn : S32x1024.numel = S1x1x1x32x1024.numel) (i : S32x1024.Idx) :
    Shape.reshapeEquiv hn i = (ix5 0 0 0 (i 0) (i 1) : S1x1x1x32x1024.Idx) :=
  Shape.reshapeEquiv_eq_of_rowMajor hn (by
    rw [Shape.rowMajor_val_five, Shape.rowMajor_val_two]
    show ((((0 * 1 + 0) * 1 + 0) * 32 + (i 0).val) * 1024 + (i 1).val) = (i 0).val * 1024 + (i 1).val
    omega)
theorem unsq4 (hn : S32x1024.numel = S1x1x32x1024.numel) (i : S32x1024.Idx) :
    Shape.reshapeEquiv hn i = (ix4 0 0 (i 0) (i 1) : S1x1x32x1024.Idx) :=
  Shape.reshapeEquiv_eq_of_rowMajor hn (by
    rw [Shape.rowMajor_val_four, Shape.rowMajor_val_two]
    show (((0 * 1 + 0) * 32 + (i 0).val) * 1024 + (i 1).val) = (i 0).val * 1024 + (i 1).val
    omega)
theorem unsq3 (hn : S32x1024.numel = S1x32x1024.numel) (i : S32x1024.Idx) :
    Shape.reshapeEquiv hn i = (ix3 0 (i 0) (i 1) : S1x32x1024.Idx) :=
  Shape.reshapeEquiv_eq_of_rowMajor hn (by
    rw [Shape.rowMajor_val_three, Shape.rowMajor_val_two]
    show ((0 * 32 + (i 0).val) * 1024 + (i 1).val) = (i 0).val * 1024 + (i 1).val
    omega)
theorem unsq35 (hn : S4x32x1024.numel = S1x1x4x32x1024.numel) (i : S4x32x1024.Idx) :
    Shape.reshapeEquiv hn i = (ix5 0 0 (i 0) (i 1) (i 2) : S1x1x4x32x1024.Idx) :=
  Shape.reshapeEquiv_eq_of_rowMajor hn (by
    rw [Shape.rowMajor_val_five, Shape.rowMajor_val_three]
    show ((((0 * 1 + 0) * 4 + (i 0).val) * 32 + (i 1).val) * 1024 + (i 2).val) = ((i 0).val * 32 + (i 1).val) * 1024 + (i 2).val
    omega)
theorem unsq34 (hn : S4x32x1024.numel = S1x4x32x1024.numel) (i : S4x32x1024.Idx) :
    Shape.reshapeEquiv hn i = (ix4 0 (i 0) (i 1) (i 2) : S1x4x32x1024.Idx) :=
  Shape.reshapeEquiv_eq_of_rowMajor hn (by
    rw [Shape.rowMajor_val_four, Shape.rowMajor_val_three]
    show (((0 * 4 + (i 0).val) * 32 + (i 1).val) * 1024 + (i 2).val) = ((i 0).val * 32 + (i 1).val) * 1024 + (i 2).val
    omega)

end Unsqueeze

section Where
variable (c : Dev nD)

/-- A rectangle of unit steps at coordinate `a`. -/
theorem unit_val {s : Shape} {off size : Fin s.rank → Nat} {inb : ∀ a, off a + size a ≤ s.size a} {o : Fin s.rank → Nat} (ho : off = o)
    (j : (Rect.unit off size inb).shape.Idx) (a : Fin s.rank) : ((Rect.unit off size inb).emb j a).val = o a + (j a).val := by
  subst ho; show off a + 1 * (j a).val = _; rw [Nat.one_mul]

theorem add_unit (n : Nat) (x : Fin 1) : n + x.val = n := by omega

theorem srcM_x (p : Fin 3) (i : S4x32x1024.Idx) : (srcM c (.x p)).view.emb i = pH p.succ (ox c) i := by
  have h : (srcM c (.x p)).view.emb i = (slabX c p).emb (Shape.reshapeEquiv squeezes_S1x1x4x32x1024_S4x32x1024.numel_eq i) := rfl
  rw [h, unsq35]
  funext a; apply Fin.ext; rw [unit_val (offX_eq c p)]
  fin_cases a <;> first | exact Nat.zero_add _ | rfl | exact (Nat.zero_add _).symm | exact add_unit _ _
theorem srcM_y0 (k : Fin 3) (i : S32x1024.Idx) : (srcM c (.y0 k)).view.emb i = pE 0 (xc c) (ypc c k) i := by
  have h : (srcM c (.y0 k)).view.emb i = (blkY c k).emb (Shape.reshapeEquiv squeezes_S1x1x1x32x1024_S32x1024.numel_eq i) := rfl
  rw [h, unsq5]
  funext a; apply Fin.ext; rw [unit_val (off2_eq c k)]
  fin_cases a <;> first | exact Nat.zero_add _ | rfl | exact (Nat.zero_add _).symm | exact add_unit _ _
theorem srcM_ym (k : Fin 3) (i : S32x1024.Idx) : (srcM c (.ym k)).view.emb i = pE 0 (ox c) (ypc c k) i := by
  have h : (srcM c (.ym k)).view.emb i = (blkM c k).emb (Shape.reshapeEquiv squeezes_S1x1x1x32x1024_S32x1024.numel_eq i) := rfl
  rw [h, unsq5]
  funext a; apply Fin.ext; rw [unit_val (off3_eq c k)]
  fin_cases a <;> first | exact Nat.zero_add _ | rfl | exact (Nat.zero_add _).symm | exact add_unit _ _
theorem srcM_y (p k : Fin 3) (i : S32x1024.Idx) : (srcM c (.y p k)).view.emb i = aE p (ypc c k) i := by
  have h : (srcM c (.y p k)).view.emb i = (blkA c p k).emb (Shape.reshapeEquiv squeezes_S1x1x32x1024_S32x1024.numel_eq i) := rfl
  rw [h, unsq4]
  funext a; apply Fin.ext; rw [unit_val (offA_eq c k p)]
  fin_cases a <;> first | exact Nat.zero_add _ | rfl | exact (Nat.zero_add _).symm | exact add_unit _ _
theorem srcM_z (p : Fin 3) (i : S32x1024.Idx) : (srcM c (.z p)).view.emb i = (slab3 p).emb (ix3 0 (i 0) (i 1) : S1x32x1024.Idx) := by
  have h : (srcM c (.z p)).view.emb i = (slab3 p).emb (Shape.reshapeEquiv squeezes_S1x32x1024_S32x1024.numel_eq i) := rfl
  rw [h, unsq3]
theorem dstM_x (p : Fin 3) (i : S4x32x1024.Idx) : (dstM (.x p)).view.emb i = (slab4 p).emb (ix4 0 (i 0) (i 1) (i 2) : S1x4x32x1024.Idx) := by
  have h : (dstM (.x p)).view.emb i = (slab4 p).emb (Shape.reshapeEquiv squeezes_S1x4x32x1024_S4x32x1024.numel_eq i) := rfl
  rw [h, unsq34]
theorem dstM_y0 (k : Fin 3) (i : S32x1024.Idx) : (dstM (.y0 k)).view.emb i = (cell4 0 k).emb (ix4 0 0 (i 0) (i 1) : S1x1x32x1024.Idx) := by
  have h : (dstM (.y0 k)).view.emb i = (cell4 0 k).emb (Shape.reshapeEquiv squeezes_S1x1x32x1024_S32x1024.numel_eq i) := rfl
  rw [h, unsq4]
theorem dstM_y (p k : Fin 3) (i : S32x1024.Idx) : (dstM (.y p k)).view.emb i = (cell4 p.succ k).emb (ix4 0 0 (i 0) (i 1) : S1x1x32x1024.Idx) := by
  have h : (dstM (.y p k)).view.emb i = (cell4 p.succ k).emb (Shape.reshapeEquiv squeezes_S1x1x32x1024_S32x1024.numel_eq i) := rfl
  rw [h, unsq4]
theorem dstM_ym (k : Fin 3) (i : S32x1024.Idx) : (dstM (.ym k)).view.emb i = (slab3 k).emb (ix3 0 (i 0) (i 1) : S1x32x1024.Idx) := by
  have h : (dstM (.ym k)).view.emb i = (slab3 k).emb (Shape.reshapeEquiv squeezes_S1x32x1024_S32x1024.numel_eq i) := rfl
  rw [h, unsq3]
theorem dstM_z (k : Fin 3) (i : S32x1024.Idx) : (dstM (.z k)).view.emb i = (slab3 k).emb (ix3 0 (i 0) (i 1) : S1x32x1024.Idx) := by
  have h : (dstM (.z k)).view.emb i = (slab3 k).emb (Shape.reshapeEquiv squeezes_S1x32x1024_S32x1024.numel_eq i) := rfl
  rw [h, unsq3]

/-! The rectangles loaded, inside the pieces held. -/

theorem blkS_emb (i : S1x1x1x32x1024.Idx) : (blkS c).emb i = pE 0 (xc c) (yc c) (ix2 (i 3) (i 4) : S32x1024.Idx) := by
  funext a; apply Fin.ext; rw [unit_val (off7_eq c)]
  fin_cases a <;> first | exact Nat.zero_add _ | rfl | exact (Nat.zero_add _).symm | exact add_unit _ _
theorem blkT_emb (i : S1x1x1x32x1024.Idx) : (blkT c).emb i = pE 0 (ox c) (yc c) (ix2 (i 3) (i 4) : S32x1024.Idx) := by
  funext a; apply Fin.ext; rw [unit_val (off8_eq c)]
  fin_cases a <;> first | exact Nat.zero_add _ | rfl | exact (Nat.zero_add _).symm | exact add_unit _ _
theorem slabO_emb (p : Fin 3) (i : S1x1x4x32x1024.Idx) : (slabO c p).emb i = pH p.succ (xc c) (ix3 (i 2) (i 3) (i 4) : S4x32x1024.Idx) := by
  funext a; apply Fin.ext; rw [unit_val (offO_eq c p)]
  fin_cases a <;> first | exact Nat.zero_add _ | rfl | exact (Nat.zero_add _).symm | exact add_unit _ _
theorem blkO_emb (p : Fin 3) (i : S1x1x1x32x1024.Idx) : (blkO c p).emb i = pH p.succ (xc c) (ix3 (yc c) (i 3) (i 4) : S4x32x1024.Idx) := by
  funext a; apply Fin.ext; rw [unit_val (offP_eq c p)]
  fin_cases a <;> first | exact Nat.zero_add _ | rfl | exact (Nat.zero_add _).symm | exact add_unit _ _
theorem slab4_dst (p : Fin 3) (i : S1x4x32x1024.Idx) : (slab4 p).emb i = (dstM (.x p)).view.emb (ix3 (i 1) (i 2) (i 3) : S4x32x1024.Idx) := by
  rw [dstM_x]; congr 1; funext a; fin_cases a <;> first | rfl | exact Subsingleton.elim (α := Fin 1) _ _
theorem blkR_dst (p : Fin 3) (i : S1x1x32x1024.Idx) : (blkR c p).emb i = (dstM (.x p)).view.emb (ix3 (yc c) (i 2) (i 3) : S4x32x1024.Idx) := by
  rw [dstM_x]; funext a; apply Fin.ext; rw [unit_val (offR_eq c p), unit_val rfl]
  fin_cases a <;> first | rfl | exact add_unit _ _ | exact (add_unit _ _).trans (Nat.zero_add _).symm
theorem cell4_y0 (k : Fin 3) (i : S1x1x32x1024.Idx) : (cell4 0 k).emb i = (dstM (.y0 k)).view.emb (ix2 (i 2) (i 3) : S32x1024.Idx) := by
  rw [dstM_y0]; congr 1; funext a; fin_cases a <;> first | rfl | exact Subsingleton.elim (α := Fin 1) _ _
theorem cell4_y (p k : Fin 3) (i : S1x1x32x1024.Idx) : (cell4 p.succ k).emb i = (dstM (.y p k)).view.emb (ix2 (i 2) (i 3) : S32x1024.Idx) := by
  rw [dstM_y]; congr 1; funext a; fin_cases a <;> first | rfl | exact Subsingleton.elim (α := Fin 1) _ _
theorem slab3_ym (k : Fin 3) (i : S1x32x1024.Idx) : (slab3 k).emb i = (dstM (.ym k)).view.emb (ix2 (i 1) (i 2) : S32x1024.Idx) := by
  rw [dstM_ym]; congr 1; funext a; fin_cases a <;> first | rfl | exact Subsingleton.elim (α := Fin 1) _ _
theorem slab3_z (k : Fin 3) (i : S1x32x1024.Idx) : (slab3 k).emb i = (dstM (.z k)).view.emb (ix2 (i 1) (i 2) : S32x1024.Idx) := by
  rw [dstM_z]; congr 1; funext a; fin_cases a <;> first | rfl | exact Subsingleton.elim (α := Fin 1) _ _
theorem rW_emb (i : S32x1024.Idx) : rW.emb i = i := by
  funext a; apply Fin.ext; rw [unit_val rfl]
  fin_cases a <;> exact Nat.zero_add _

/-! The pieces of a slab. -/

theorem pE_slab (p : Fin 4) (x : Fin 2) (y : Fin 4) (i : S32x1024.Idx) : pE p x y i = (slab5 p).emb (ix5 0 x y (i 0) (i 1) : S1x2x4x32x1024.Idx) := by
  funext a; apply Fin.ext; rw [unit_val rfl]
  fin_cases a <;> first | exact Nat.zero_add _ | rfl | exact (Nat.zero_add _).symm | exact add_unit _ _
theorem pH_slab (p : Fin 4) (x : Fin 2) (i : S4x32x1024.Idx) : pH p x i = (slab5 p).emb (ix5 0 x (i 0) (i 1) (i 2) : S1x2x4x32x1024.Idx) := by
  funext a; apply Fin.ext; rw [unit_val rfl]
  fin_cases a <;> first | exact Nat.zero_add _ | rfl | exact (Nat.zero_add _).symm | exact add_unit _ _
theorem aE_slab (p : Fin 3) (y : Fin 4) (i : S32x1024.Idx) : aE p y i = (slab4 p).emb (ix4 0 y (i 0) (i 1) : S1x4x32x1024.Idx) := by
  funext a; apply Fin.ext; rw [unit_val rfl]
  fin_cases a <;> first | exact Nat.zero_add _ | rfl | exact (Nat.zero_add _).symm | exact add_unit _ _

end Where

end Cert.KernelIdeal.Gen

end
-- ==== Proof.Sched.lean ====
/-
  The protocol of the body. A device has one barrier cell, and for each of its twenty-two copies a sending and a receiving
  cell, each with one round. Its barrier cell has seven duties of one unit, paid by the seven devices its copies go to;
  with its unit a device hands over the landing places of the copies that come from the cell's device. A receiving cell has
  the duty of its copy's size, with the landed values; a sending cell the same, with the place read. The levels: barrier
  cells below the receiving cells of the first copies, those below the receiving cells of the pair sums, those below the
  receiving cells of the column sums.
-/
module

public import proofs.«01_k».proof.Proof.Values

@[expose] public section

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Cells -/

abbrev barCell (c : Dev nD) : GSem nD τ sig := ((c : Thread nD τ), .reg barS)
abbrev sCell (c : Dev nD) (t : Xf) : GSem nD τ sig := ((c : Thread nD τ), .dma (sS t))
abbrev rCell (c : Dev nD) (t : Xf) : GSem nD τ sig := ((c : Thread nD τ), .dma (rS t))

/-- The copy whose receiving semaphore this is. -/
def decR (q : SemLoc sig) : Option Xf := sends.find? fun t => decide (SemLoc.dma (rS t) = q)
/-- The copy whose sending semaphore this is. -/
def decS (q : SemLoc sig) : Option Xf := sends.find? fun t => decide (SemLoc.dma (sS t) = q)

theorem decR_rS : ∀ t, decR (.dma (rS t)) = some t := by decide
theorem decR_sS : ∀ t, decR (.dma (sS t)) = none := by decide
theorem decS_sS : ∀ t, decS (.dma (sS t)) = some t := by decide
theorem rS_inj {t t' : Xf} (h : rS t = rS t') : t = t' := Option.some.inj ((decR_rS t).symm.trans ((congrArg (fun q => decR (.dma q)) h).trans (decR_rS t')))
theorem sS_inj {t t' : Xf} (h : sS t = sS t') : t = t' := Option.some.inj ((decS_sS t).symm.trans ((congrArg (fun q => decS (.dma q)) h).trans (decS_sS t')))
theorem sS_ne_rS (t t' : Xf) : sS t ≠ rS t' := fun h => by
  have h1 := decR_sS t; rw [h, decR_rS] at h1; cases h1

/-- What a copy credits. -/
def NN (t : Xf) : ℕ := (dstM t).view.dmaCredit
theorem shp_pos : ∀ t, 0 < (shp t).numel := by decide
theorem NN_pos (t : Xf) : 0 < NN t := View.dmaCredit_pos _ (shp_pos t)
theorem NN_src (c : Dev nD) (t : Xf) : (srcM c t).view.dmaCredit = NN t := by cases t <;> rfl

/-! ## The barrier's duties -/

/-- The device a device's `j`-th signal goes to; also the device that pays duty `j` of its own barrier cell. -/
def bdst (c : Dev nD) : Fin 7 → Dev nD
  | 0 => xto c | 1 => yto c 0 | 2 => yto c 1 | 3 => yto c 2 | 4 => zto c 0 | 5 => zto c 1 | 6 => zto c 2
/-- The duty a device's `j`-th signal pays. -/
def bdut : Fin 7 → Fin 7 | 0 => 0 | 1 => 3 | 2 => 2 | 3 => 1 | 4 => 6 | 5 => 5 | 6 => 4
/-- The duty whose payload holds the landing place of a copy. -/
def grp : Xf → Fin 7
  | .x _ => 0 | .s => 0
  | .y0 0 => 1 | .y0 1 => 2 | .y0 2 => 3 | .ym 0 => 1 | .ym 1 => 2 | .ym 2 => 3
  | .y _ 0 => 1 | .y _ 1 => 2 | .y _ 2 => 3
  | .z 0 => 4 | .z 1 => 5 | .z 2 => 6

theorem bdut_bdut (j : Fin 7) : bdut (bdut j) = j := by revert j; decide
theorem bdst_bdst (c : Dev nD) (j : Fin 7) : bdst (bdst c j) (bdut j) = c := by revert c j; decide
theorem tgt_grp (c : Dev nD) : ∀ t, tgt c t = bdst c (grp t)
  | .x _ => rfl | .s => rfl
  | .y0 0 => rfl | .y0 1 => rfl | .y0 2 => rfl | .ym 0 => rfl | .ym 1 => rfl | .ym 2 => rfl
  | .y _ 0 => rfl | .y _ 1 => rfl | .y _ 2 => rfl
  | .z 0 => rfl | .z 1 => rfl | .z 2 => rfl
theorem bdst_inj (c : Dev nD) (j j' : Fin 7) (h : bdst c j = bdst c j') : j = j' := by revert c j j'; decide

/-! ## Landing places and places read -/

/-- Device `c`'s landing place of the copy `t`, at some values. -/
def ownD (c : Dev nD) (t : Xf) : sProp 𝕄 := iprop(∃ v, owns (c : Thread nD τ) (dstM t) fullShare v)
/-- The place device `c`'s copy `t` reads, at some values. -/
def ownS (c : Dev nD) (t : Xf) : sProp 𝕄 := iprop(∃ v, owns (c : Thread nD τ) (srcM c t) fullShare v)

instance ownD_storable (c : Dev nD) (t : Xf) : BI.Storable (upEmb : UEmb _ 𝕄) (ownD (F := F) c t) := by unfold ownD; infer_instance
instance ownS_storable (c : Dev nD) (t : Xf) : BI.Storable (upEmb : UEmb _ 𝕄) (ownS (F := F) c t) := by unfold ownS; infer_instance

/-- What duty `d` of device `c`'s barrier cell hands `c`: where `c`'s copies to the payer land. -/
def barPay (c : Dev nD) (d : Fin 7) : sProp 𝕄 := bigSep (Finset.univ.filter fun t => grp t = d) fun t => ownD (tgt c t) t

instance barPay_storable (c : Dev nD) (d : Fin 7) : BI.Storable (upEmb : UEmb _ 𝕄) (barPay (F := F) c d) := by unfold barPay; infer_instance

section Schedule
variable (X : Dev nD → Vec F S1024x32 .bf16) (W : Dev nD → Vec F S32x1024 .bf16)

/-- What has landed with the copy `t` on device `c`. -/
def recvPay (c : Dev nD) (t : Xf) : sProp 𝕄 := owns (c : Thread nD τ) (dstM t) fullShare (SV X W (frm c t) t)

instance recvPay_storable (c : Dev nD) (t : Xf) : BI.Storable (upEmb : UEmb _ 𝕄) (recvPay X W c t) := by unfold recvPay; infer_instance

/-- The payloads of a cell. -/
def payOf (c : Dev nD) (d : Fin 7) : Option Xf → Option Xf → sProp 𝕄
  | some t, _ => recvPay X W c t
  | none, some t => ownS c t
  | none, none => barPay c d

instance payOf_storable (c : Dev nD) (d : Fin 7) (o o' : Option Xf) : BI.Storable (upEmb : UEmb _ 𝕄) (payOf X W c d o o') := by
  cases o <;> cases o' <;> (unfold payOf; infer_instance)

/-- The amounts of a cell. -/
def amtOf : Option Xf → Option Xf → ℕ
  | some t, _ => NN t
  | none, some t => NN t
  | none, none => 1

/-- The duties of a cell. -/
def dutOf (bar : Bool) : Option Xf → Option Xf → Finset (Fin 7)
  | some _, _ => {0}
  | none, some _ => {0}
  | none, none => if bar then Finset.univ else ∅

/-- One round: seven duties at a barrier cell, one at a sending or receiving cell. -/
def Rd : Rounds.Schedule (GSem nD τ sig) (Fin 7) 𝕄 where
  duties g r := if r = 0 ∧ g.1.2 = .tc then dutOf (decide (g.2 = .reg barS)) (decR g.2) (decS g.2) else ∅
  unitless _ := False
  amount g _ _ := amtOf (decR g.2) (decS g.2)
  payload g _ d := payOf X W g.1.1 d (decR g.2) (decS g.2)
  amount_pos g _ _ _ := by
    cases h : decR g.2 with
    | some t => exact NN_pos t
    | none => cases h' : decS g.2 with
      | some t => exact NN_pos t
      | none => exact Nat.one_pos

instance Rd_payload_storable (g : GSem nD τ sig) (r : ℕ) (d : Fin 7) : BI.Storable (upEmb : UEmb _ 𝕄) ((Rd X W).payload g r d) := by
  show BI.Storable upEmb (payOf X W g.1.1 d (decR g.2) (decS g.2)); infer_instance

variable (c : Dev nD) (t : Xf)

theorem decR_bar : decR (.reg barS) = none := by decide
theorem decS_bar : decS (.reg barS) = none := by decide

theorem duties_bar : (Rd X W).duties (barCell c) 0 = Finset.univ := by
  dsimp only [Rd]; rw [if_pos ⟨rfl, rfl⟩, decR_bar, decS_bar]; rfl
theorem duties_s : (Rd X W).duties (sCell c t) 0 = {0} := by
  dsimp only [Rd]; rw [if_pos ⟨rfl, rfl⟩, decR_sS, decS_sS]; rfl
theorem duties_r : (Rd X W).duties (rCell c t) 0 = {0} := by
  dsimp only [Rd]; rw [if_pos ⟨rfl, rfl⟩, decR_rS]; rfl
theorem duties_later (g : GSem nD τ sig) : ∀ r, 1 ≤ r → (Rd X W).duties g r = ∅ :=
  fun r hr => by dsimp only [Rd]; exact if_neg fun h => by omega
theorem amount_bar (d : Fin 7) : (Rd X W).amount (barCell c) 0 d = 1 := by dsimp only [Rd]; rw [decR_bar, decS_bar]; rfl
theorem amount_s (d : Fin 7) : (Rd X W).amount (sCell c t) 0 d = NN t := by dsimp only [Rd]; rw [decR_sS, decS_sS]; rfl
theorem amount_r (d : Fin 7) : (Rd X W).amount (rCell c t) 0 d = NN t := by dsimp only [Rd]; rw [decR_rS]; rfl
theorem expect_bar : (Rd X W).expect (barCell c) 0 = 7 := by
  unfold Rounds.Schedule.expect Rounds.Schedule.amountOf; rw [duties_bar, Finset.sum_congr rfl fun d _ => amount_bar X W c d]; decide
theorem expect_s : (Rd X W).expect (sCell c t) 0 = NN t := by
  unfold Rounds.Schedule.expect Rounds.Schedule.amountOf; rw [duties_s, Finset.sum_singleton, amount_s]
theorem expect_r : (Rd X W).expect (rCell c t) 0 = NN t := by
  unfold Rounds.Schedule.expect Rounds.Schedule.amountOf; rw [duties_r, Finset.sum_singleton, amount_r]
theorem payload_bar (d : Fin 7) : (Rd X W).payload (barCell c) 0 d = barPay c d := by dsimp only [Rd]; rw [decR_bar, decS_bar]; rfl
theorem payload_s (d : Fin 7) : (Rd X W).payload (sCell c t) 0 d = ownS c t := by dsimp only [Rd]; rw [decR_sS, decS_sS]; rfl
theorem payload_r (d : Fin 7) : (Rd X W).payload (rCell c t) 0 d = recvPay X W c t := by dsimp only [Rd]; rw [decR_rS]; rfl

theorem rest_s : bigSep ((Rd X W).duties (sCell c t) 0 \ ∅) (fun d => (Rd X W).payload (sCell c t) 0 d) = ownS c t := by
  rw [Finset.sdiff_empty, duties_s, bigSep_singleton, payload_s]
theorem rest_r : bigSep ((Rd X W).duties (rCell c t) 0 \ ∅) (fun d => (Rd X W).payload (rCell c t) 0 d) = recvPay X W c t := by
  rw [Finset.sdiff_empty, duties_r, bigSep_singleton, payload_r]
/-- All seven payloads of the barrier together: where all of `c`'s copies land. -/
theorem rest_bar : bigSep ((Rd X W).duties (barCell c) 0 \ ∅) (fun d => (Rd X W).payload (barCell c) 0 d)
    = (bigSep Finset.univ fun t => ownD (tgt c t) t : sProp 𝕄) := by
  rw [Finset.sdiff_empty, duties_bar, bigSep_fiberwise Finset.univ grp]
  have h : Finset.univ.image grp = Finset.univ := by decide
  rw [h]; exact bigSep_congr fun d _ => payload_bar X W c d

end Schedule

/-! ## Tallies owed and levels -/

/-- The copies in the order a device starts them. -/
def issue : List Xf :=
  [.y0 0, .ym 0, .y0 1, .ym 1, .y0 2, .ym 2, .x 0, .x 1, .x 2, .s, .y 0 0, .y 0 1, .y 0 2, .y 1 0, .y 1 1, .y 1 2, .y 2 0, .y 2 1, .y 2 2, .z 0, .z 1, .z 2]
/-- The copies in the order a device waits for those addressed to it. -/
def recvs : List Xf :=
  [.y0 0, .ym 0, .y0 1, .ym 1, .y0 2, .ym 2, .x 0, .x 1, .x 2, .y 0 0, .y 0 1, .y 0 2, .y 1 0, .y 1 1, .y 1 2, .y 2 0, .y 2 1, .y 2 2, .s, .z 0, .z 1, .z 2]
/-- The signals in order. -/
def sgs : List (Fin 7) := [0, 1, 2, 3, 4, 5, 6]

theorem issue_all : (Finset.univ : Finset Xf) = issue.toFinset := by decide
theorem issue_nodup : issue.Nodup := by decide
theorem recvs_all : (Finset.univ : Finset Xf) = recvs.toFinset := by decide
theorem recvs_nodup : recvs.Nodup := by decide
theorem sends_all : (Finset.univ : Finset Xf) = sends.toFinset := by decide
theorem sends_nodup : sends.Nodup := by decide

/-- What a device owes the receiving cells of copies still to start. -/
def Ol (c : Dev nD) : List Xf → CellTallies nD τ sig Unit
  | [] => 0
  | t :: l => Ol c l + tallyAt (rCell (tgt c t) t) () (NN t)
/-- What it owes with signals still to make. -/
def Ob (c : Dev nD) : List (Fin 7) → CellTallies nD τ sig Unit
  | [] => Ol c issue
  | j :: l => Ob c l + tallyAt (barCell (bdst c j)) () 1

/-- The level of a copy's receiving cell. -/
def lvX : Xf → ℕ | .x _ => 2 | .y0 _ => 2 | .ym _ => 2 | .y _ _ => 3 | .z _ => 4 | .s => 4

def L (g : GSem nD τ sig) : Finset Unit := if g.1.2 = .tc then {()} else ∅
def lv (g : GSem nD τ sig) (_ : Unit) : ℕ := if g.2 = .reg barS then 1 else match decR g.2 with | some t => lvX t | none => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := if_pos rfl
theorem lv_r (c : Dev nD) (t : Xf) : lv (rCell c t) () = lvX t := by
  unfold lv; rw [if_neg (fun h => by cases h), decR_rS]
theorem lvX_gt : ∀ t, 1 < lvX t := by decide

theorem tally_pos {g g' : GSem nD τ sig} {n : ℕ} {u : Unit} (h : 0 < tallyAt g' () n g u) : g = g' := by
  rw [tallyAt_apply] at h
  by_contra hn
  rw [if_neg fun h' => hn h'.1] at h; exact Nat.lt_irrefl 0 h

theorem Ol_pos (c : Dev nD) {g : GSem nD τ sig} {u : Unit} : ∀ l, 0 < Ol c l g u → ∃ t ∈ l, g = rCell (tgt c t) t
  | [], h => absurd h (by unfold Ol; exact Nat.lt_irrefl 0)
  | t :: l, h => by
    unfold Ol at h
    rw [Pi.add_apply, Finsupp.add_apply] at h
    rcases Nat.add_pos_iff_pos_or_pos.mp h with h | h
    · obtain ⟨t', ht, e⟩ := Ol_pos c l h; exact ⟨t', List.mem_cons_of_mem _ ht, e⟩
    · exact ⟨t, List.mem_cons_self, tally_pos h⟩

theorem Ob_pos (c : Dev nD) {g : GSem nD τ sig} {u : Unit} : ∀ l, 0 < Ob c l g u →
    (∃ t, g = rCell (tgt c t) t) ∨ ∃ j, g = barCell (bdst c j)
  | [], h => by obtain ⟨t, _, e⟩ := Ol_pos c issue h; exact Or.inl ⟨t, e⟩
  | j :: l, h => by
    unfold Ob at h
    rw [Pi.add_apply, Finsupp.add_apply] at h
    rcases Nat.add_pos_iff_pos_or_pos.mp h with h | h
    · exact Ob_pos c l h
    · exact Or.inr ⟨j, tally_pos h⟩

/-- A wait at a cell of level at most `n`, owing only copies whose receiving cells are above. -/
theorem mayWait_Ol (c : Dev nD) (sm : SemLoc sig) (n : ℕ) (l : List Xf) (hn : lv ((c : Thread nD τ), sm) () ≤ n) (hl : ∀ t ∈ l, n < lvX t) :
    (levAts L lv : sProp 𝕄) ⊢ MayWait (c : Thread nD τ) sm () (Ol c l) :=
  MayOwe.of_cut (L := L) (lev := lv) n (fun p hp => by rw [Finset.mem_singleton.mp hp, L_tc]; exact Finset.mem_singleton_self _)
    (fun g u hg => by obtain ⟨t, _, rfl⟩ := Ol_pos c l hg; rw [L_tc]; exact Finset.mem_singleton_self _)
    (fun p hp => by rw [Finset.mem_singleton.mp hp]; exact hn)
    (fun g u hg => by obtain ⟨t, ht, rfl⟩ := Ol_pos c l hg; rw [lv_r]; exact hl t ht)

/-- A wait at a cell of level zero, owing everything. -/
theorem mayWait_Ob (c : Dev nD) (sm : SemLoc sig) (hn : lv ((c : Thread nD τ), sm) () ≤ 0) (l : List (Fin 7)) :
    (levAts L lv : sProp 𝕄) ⊢ MayWait (c : Thread nD τ) sm () (Ob c l) :=
  MayOwe.of_cut (L := L) (lev := lv) 0 (fun p hp => by rw [Finset.mem_singleton.mp hp, L_tc]; exact Finset.mem_singleton_self _)
    (fun g u hg => by rcases Ob_pos c l hg with ⟨t, rfl⟩ | ⟨j, rfl⟩ <;> (rw [L_tc]; exact Finset.mem_singleton_self _))
    (fun p hp => by rw [Finset.mem_singleton.mp hp]; exact hn)
    (fun g u hg => by
      rcases Ob_pos c l hg with ⟨t, rfl⟩ | ⟨j, rfl⟩
      · rw [lv_r]; exact Nat.lt_of_lt_of_le (by decide) (lvX_gt t).le
      · rw [lv_bar]; decide)

end Cert.KernelIdeal.Gen

end
-- ==== Proof.Rules.lean ====
/-
  One rule for each protocol step of the body: a signal, the barrier's wait, the start of a copy, a wait on its receiving
  side and one on its sending side — each stated once, for every copy. `St c l r d e` is a device's protocol state: the
  copies `l` are still to start and `r` still to come in, `d` are those started, `e` those that have come in.
-/
module

public import proofs.«01_k».proof.Proof.Sched
public import Idealize.ShloMosaic.Lib.Pipeline.BigSepL

@[expose] public section

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- A device's cells: its barrier's, and each copy's sending (`false`) and receiving (`true`) one. -/
abbrev CI := Option (Xf × Bool)
/-- Their semaphores. -/
def csem : CI → SemLoc sig
  | none => .reg barS | some (t, false) => .dma (sS t) | some (t, true) => .dma (rS t)
abbrev kcell (ck : Dev nD × CI) : GSem nD τ sig := ((ck.1 : Thread nD τ), csem ck.2)

section
variable (X : Dev nD → Vec F S1024x32 .bf16) (W : Dev nD → Vec F S32x1024 .bf16) (K : Dev nD × CI → ℕ)

/-- The levels of all the cells. -/
@[irreducible] def levs : sProp 𝕄 := levAts L lv
theorem levs_eq : levs (F := F) = levAts L lv := by unfold levs; rfl
instance levs_persistent : BI.Persistent (levs (F := F)) := by rw [levs_eq]; infer_instance

/-- What every device knows: every cell's invariant, that every cell's first round is open, and the levels. -/
def recs : sProp 𝕄 :=
  iprop((bigSep Finset.univ fun ck : Dev nD × CI => cellInv ER (Rd X W) (K ck) (kcell ck))
    ∗ (bigSep Finset.univ fun ck : Dev nD × CI => reached ER (kcell ck) 0) ∗ levs)

instance recs_persistent : BI.Persistent (recs X W K) := by unfold recs; infer_instance

theorem recs_inv (ck : Dev nD × CI) : recs X W K ⊢ cellInv ER (Rd X W) (K ck) (kcell ck) := by
  have h : (bigSep Finset.univ fun ck : Dev nD × CI => cellInv ER (Rd X W) (K ck) (kcell ck)) ⊢ (cellInv ER (Rd X W) (K ck) (kcell ck) : sProp 𝕄) :=
    bigSep_elim (Finset.mem_univ ck)
  unfold recs; iintro ⟨H, -, -⟩; iapply h; iexact H
theorem recs_reached (ck : Dev nD × CI) : recs X W K ⊢ reached ER (kcell ck) 0 := by
  have h : (bigSep Finset.univ fun ck : Dev nD × CI => reached ER (kcell ck) 0) ⊢ (reached ER (kcell ck) 0 : sProp 𝕄) :=
    bigSep_elim (Finset.mem_univ ck)
  unfold recs; iintro ⟨-, H, -⟩; iapply h; iexact H
theorem recs_lev : recs X W K ⊢ levs := by
  unfold recs; iintro ⟨-, -, H⟩; iexact H

variable (c : Dev nD)

/-- The tokens of a copy's two duties. -/
def TK (t : Xf) : sProp 𝕄 := iprop(dutyTok ER (rCell (tgt c t) t) 0 0 ∗ dutyTok ER (sCell c t) 0 0)
/-- What starting a copy takes. -/
def TX (t : Xf) : sProp 𝕄 := iprop(ownD (tgt c t) t ∗ TK (F := F) c t)
/-- What waiting for a copy to come in takes. -/
def RX (t : Xf) : sProp 𝕄 := iprop(cred (tallyAt (rCell c t) () (NN t)) ∗ atPos ER (rCell c t) 0 ∅ 0)
/-- The right to wait for a started copy's sending side. -/
def CX (t : Xf) : sProp 𝕄 := cred (tallyAt (sCell c t) () (NN t))
/-- The receiving semaphore of a copy that has come in. -/
def ZX (t : Xf) : sProp 𝕄 := semVal (rCell c t) 0
/-- What a device owes, at some set of waits made. -/
def owesL (l : List Xf) : sProp 𝕄 := iprop(∃ Ws, owes (c : Thread nD τ) (Ol c l) Ws)

/-- The protocol state. -/
def St (l r d e : List Xf) : sProp 𝕄 :=
  iprop(owesL c l ∗ bigSepL l (TX (F := F) c) ∗ bigSepL r (RX (F := F) c) ∗ bigSepL d (CX (F := F) c) ∗ bigSepL e (ZX (F := F) c))

/-- Starting the copy `t`, addressed to a device known to be its target. -/
theorem wp_xf_at {t : Xf} {n : Dev nD} (hn : n = tgt c t)
    {hsem : DmaTarget.Typed .vmem (.dma (rS t)) (.remote (Dev.tc n : Thread nD τ) (dstM t) (.dma (sS t)) (dstM_sc t))}
    {l r d e : List Xf} {k : PG F} {Kt : PUnit → sProp 𝕄} :
    iprop(recs X W K ∗ St c (t :: l) r d e ∗ owns (c : Thread nD τ) (srcM c t) fullShare (SV X W c t) ∗ (St c l r (t :: d) e -∗ WP c k Kt))
      ⊢ WP c (.op (.enqueueDma (srcM c t) (.remote (Dev.tc n : Thread nD τ) (dstM t) (.dma (sS t)) (dstM_sc t)) (.dma (rS t)) (srcM_we c t) (dstM_we t) hsem)
          fun _ => k) Kt := by
  subst hn
  unfold St owesL
  rw [bigSepL_cons', bigSepL_cons']
  unfold TX TK ownD owns
  iintro ⟨#HR, ⟨⟨%Ws, HO⟩, ⟨⟨⟨%v, %fd, %hfd, Hd⟩, Hr, Hs⟩, Hl⟩, Hrx, Hcx, Hzx⟩, ⟨%fs, %hfs, Hsrc⟩, Hk⟩
  iapply (Rounds.wp_send_pointsTo 𝒱₀ ER (Rd X W) (c : Thread nD τ) none (κ₁ := K (c, some (t, false))) (κ₂ := K (tgt c t, some (t, true)))
    (r₁ := 0) (r₂ := 0) (d₁ := 0) (d₂ := 0) (fs := fs) (fd := fd)
    (by rw [duties_s]; exact Finset.mem_singleton_self _) (by rw [duties_r]; exact Finset.mem_singleton_self _)
    () () (NN t) rfl (amount_s X W c t 0) (amount_r X W (tgt c t) t 0) (Ol c l) rfl (W := Ws)
    (by rw [payload_s]; unfold ownS owns; iintro H; iexists _; iexists fs; isplitr; · (ipureintro; rfl)
        iexact H)
    (by
      rw [payload_r]; unfold recvPay owns; iintro H; iexists _; isplitr
      rotate_left
      · iexact H
      · ipureintro; rw [View.read_write_univ, hfs, frm_tgt])) $$ [HO Hd Hr Hs Hsrc]
  · isplitr; · iapply (recs_inv X W K (c, some (t, false))); iexact HR
    isplitr; · iapply (recs_inv X W K (tgt c t, some (t, true))); iexact HR
    isplitl [Hsrc]; · iexact Hsrc
    isplitl [Hd]; · iexact Hd
    isplitl [HO]; · iexact HO
    isplitl [Hs]; · iexact Hs
    isplitr; · iapply (recs_reached X W K (c, some (t, false))); iexact HR
    isplitl [Hr]; · iexact Hr
    iapply (recs_reached X W K (tgt c t, some (t, true))); iexact HR
  iintro ⟨HC, HO⟩
  iapply Hk
  isplitl [HO]; · iexists _; iexact HO
  isplitl [Hl]; · iexact Hl
  isplitl [Hrx]; · iexact Hrx
  isplitl [HC Hcx]
  · isplitl [HC]; · unfold CX; iexact HC
    iexact Hcx
  iexact Hzx

/-- Starting the copy `t`. -/
theorem wp_xf {t : Xf} {l r d e : List Xf} {k : PG F} {Kt : PUnit → sProp 𝕄} :
    iprop(recs X W K ∗ St c (t :: l) r d e ∗ owns (c : Thread nD τ) (srcM c t) fullShare (SV X W c t) ∗ (St c l r (t :: d) e -∗ WP c k Kt))
      ⊢ WP c (xfP c t k) Kt := wp_xf_at X W K c (dvR_eq c t)

/-- Waiting for a copy to come in is allowed while every copy still to be started has a higher level. -/
theorem mayWait_recv {t : Xf} (l : List Xf) (hl : ∀ t' ∈ l, lvX t < lvX t') :
    recs X W K ⊢ MayWait (c : Thread nD τ) (.dma (rS t)) () (Ol c l) := by
  refine (recs_lev X W K).trans ?_
  rw [levs_eq]
  exact mayWait_Ol c (.dma (rS t)) (lvX t) l (Nat.le_of_eq (lv_r c t)) hl
/-- Waiting on the barrier is allowed while every copy is still to be started. -/
theorem mayWait_bar : recs X W K ⊢ MayWait (c : Thread nD τ) (.reg barS) () (Ol c issue) := by
  refine (recs_lev X W K).trans ?_
  rw [levs_eq]
  exact mayWait_Ol c (.reg barS) 1 issue (Nat.le_of_eq (lv_bar c)) fun t _ => lvX_gt t

/-- Waiting for the copy `t` to come in: what has landed is the device's, and the semaphore's count with it. -/
theorem wp_wr {t : Xf} {l r d e : List Xf} {k : PG F} {Kt : PUnit → sProp 𝕄} (hl : ∀ t' ∈ l, lvX t < lvX t') :
    iprop(recs X W K ∗ St c l (t :: r) d e ∗ ((St c l r d (t :: e) ∗ recvPay X W c t) -∗ WP c k Kt)) ⊢ WP c (wrP c t k) Kt := by
  unfold St owesL wrP
  rw [bigSepL_cons', bigSepL_cons']
  unfold RX
  iintro ⟨#HR, ⟨⟨%Ws, HO⟩, Htx, ⟨⟨HC, Hat⟩, Hrx⟩, Hcx, Hzx⟩, Hk⟩
  iapply (Rounds.wp_wait_rest_token 𝒱₀ ER (Rd X W) (c : Thread nD τ) none (κ := K (c, some (t, true)))
      (wpE_waitDma2_eq 𝒱₀ (c : Thread nD τ) none Set.univ) (Set.mem_univ _) () (O := Ol c l) (W := Ws) (R := 0) (m := 0) (T := ∅)
      (by rw [Nat.zero_add]; exact (expect_r X W c t).symm)) $$ [HC HO Hat]
  · isplitr; · iapply (recs_inv X W K (c, some (t, true))); iexact HR
    isplitl [HC]; · iexact HC
    isplitl [HO]; · iexact HO
    isplitr
    · iapply (mayWait_recv X W K c l hl); iexact HR
    iexact Hat
  iintro ⟨HO, Hat, -, Hpay⟩
  ihave Hp := (Entails.of_eq (rest_r X W c t)) $$ Hpay
  imod (Rounds.cell_close ER (Rd X W) (Set.mem_univ (K (c, some (t, true)))) (fun h => h) (R := 0 + 1) (duties_later X W (rCell c t))) $$ [Hat] with Hz
  · isplitr; · iapply (recs_inv X W K (c, some (t, true))); iexact HR
    iexact Hat
  iapply Hk
  isplitr [Hp]
  · isplitl [HO]; · iexists _; iexact HO
    isplitl [Htx]; · iexact Htx
    isplitl [Hrx]; · iexact Hrx
    isplitl [Hcx]; · iexact Hcx
    isplitl [Hz]; · unfold ZX; iexact Hz
    iexact Hzx
  iexact Hp

/-- What waiting for a started copy's sending side takes, and what it gives. -/
def SX (t : Xf) : sProp 𝕄 := iprop(CX (F := F) c t ∗ atPos ER (sCell c t) 0 ∅ 0)
def DX (t : Xf) : sProp 𝕄 := iprop(semVal (sCell c t) 0 ∗ ownS (F := F) c t)

/-- Waiting for all the copies' sending sides, owing nothing. -/
theorem wp_ws {k : PG F} {Kt : PUnit → sProp 𝕄} : ∀ l : List Xf,
    iprop(recs X W K ∗ owesL c [] ∗ bigSepL l (SX (F := F) c) ∗ ((owesL c [] ∗ bigSepL l (DX (F := F) c)) -∗ WP c k Kt)) ⊢ WP c (wsAll c l k) Kt
  | [] => by
    iintro ⟨-, HO, -, Hk⟩
    iapply Hk
    isplitl [HO]; · iexact HO
    rw [bigSepL_nil]; iempintro
  | t :: l => by
    have ih := wp_ws (k := k) (Kt := Kt) l
    show _ ⊢ WP c (wsP c t (wsAll c l k)) Kt
    rw [bigSepL_cons', bigSepL_cons']
    iintro ⟨#HR, HO, ⟨Ht, Hl⟩, Hk⟩
    unfold SX CX owesL wsP
    icases HO with ⟨%Ws, HO⟩
    icases Ht with ⟨HC, Hat⟩
    iapply (Rounds.wp_wait_rest_token 𝒱₀ ER (Rd X W) (c : Thread nD τ) none (κ := K (c, some (t, false)))
        (wpE_waitDma2_eq 𝒱₀ (c : Thread nD τ) none Set.univ) (Set.mem_univ _) () (O := Ol c []) (W := Ws) (R := 0) (m := 0) (T := ∅)
        (by rw [Nat.zero_add, NN_src]; exact (expect_s X W c t).symm)) $$ [HC HO Hat]
    · isplitr; · iapply (recs_inv X W K (c, some (t, false))); iexact HR
      isplitl [HC]; · rw [NN_src]; iexact HC
      isplitl [HO]; · iexact HO
      isplitr; · rw [show Ol c [] = 0 from rfl, MayWait_zero]; iempintro
      iexact Hat
    iintro ⟨HO, Hat, -, Hpay⟩
    ihave Hp := (Entails.of_eq (rest_s X W c t)) $$ Hpay
    imod (Rounds.cell_close ER (Rd X W) (Set.mem_univ (K (c, some (t, false)))) (fun h => h) (R := 0 + 1) (duties_later X W (sCell c t))) $$ [Hat] with Hz
    · isplitr; · iapply (recs_inv X W K (c, some (t, false))); iexact HR
      iexact Hat
    unfold SX CX owesL at ih
    iapply ih
    isplitr; · iexact HR
    isplitl [HO]; · iexists _; iexact HO
    isplitl [Hl]; · iexact Hl
    iintro ⟨HO, Hl⟩
    iapply Hk
    isplitl [HO]; · iexact HO
    unfold DX
    isplitl [Hz Hp]
    · isplitl [Hz] <;> iassumption
    iexact Hl

/-- What the `j`-th signal takes: the token of the duty it pays, and the landing places it hands over. -/
def BX (j : Fin 7) : sProp 𝕄 := iprop(dutyTok ER (barCell (bdst c j)) 0 (bdut j) ∗ barPay (F := F) (bdst c j) (bdut j))
/-- What a device owes with the signals `l` still to make. -/
def owesB (l : List (Fin 7)) : sProp 𝕄 := iprop(∃ Ws, owes (c : Thread nD τ) (Ob c l) Ws)

/-- A signal. -/
theorem wp_sig {n : Dev nD} {j : Fin 7} (hn : n = bdst c j) {l : List (Fin 7)} {k : PG F} {Kt : PUnit → sProp 𝕄} :
    iprop(recs X W K ∗ owesB c (j :: l) ∗ bigSepL (j :: l) (BX (F := F) c) ∗ ((owesB c l ∗ bigSepL l (BX (F := F) c)) -∗ WP c k Kt))
      ⊢ WP c (sigP n k) Kt := by
  subst hn
  unfold owesB sigP
  rw [bigSepL_cons']
  unfold BX
  iintro ⟨#HR, ⟨%Ws, HO⟩, ⟨⟨Ht, Hp⟩, Hl⟩, Hk⟩
  iapply (Rounds.wp_signal 𝒱₀ ER (Rd X W) (c : Thread nD τ) none (dst := (bdst c j : Thread nD τ)) (κ := K (bdst c j, none))
      (d := bdut j) (r := 0) (by rw [duties_bar]; exact Finset.mem_univ _) ((amount_bar X W (bdst c j) (bdut j)).trans (by decide)) () (Ob c l) rfl)
    $$ [HO Ht Hp]
  · isplitr; · iapply (recs_inv X W K (bdst c j, none)); iexact HR
    isplitl [HO]; · iexact HO
    isplitl [Ht]; · iexact Ht
    isplitl [Hp]; · rw [payload_bar]; iexact Hp
    iapply (recs_reached X W K (bdst c j, none)); iexact HR
  iintro HO
  iapply Hk
  isplitl [HO]; · iexists _; iexact HO
  iexact Hl

/-- The wait on the barrier: the landing places of all the device's copies, and the semaphore's count. -/
theorem wp_bar {k : PG F} {Kt : PUnit → sProp 𝕄} :
    iprop(recs X W K ∗ owesB c [] ∗ cred (tallyAt (barCell c) () 7) ∗ atPos ER (barCell c) 0 ∅ 0
        ∗ bigSepL issue (TK (F := F) c) ∗ bigSepL recvs (RX (F := F) c) ∗ ((St c issue recvs [] [] ∗ semVal (barCell c) 0) -∗ WP c k Kt))
      ⊢ WP c (barP k) Kt := by
  unfold owesB barP
  iintro ⟨#HR, ⟨%Ws, HO⟩, HC, Hat, Htk, Hrx, Hk⟩
  iapply (Rounds.wp_wait_rest_token 𝒱₀ ER (Rd X W) (c : Thread nD τ) none (κ := K (c, none))
      (wpE_semWait_eq 𝒱₀ (c : Thread nD τ) none Set.univ) (Set.mem_univ _) () (O := Ob c []) (W := Ws) (R := 0) (m := 0) (T := ∅)
      (by rw [expect_bar]; decide)) $$ [HC HO Hat]
  · isplitr; · iapply (recs_inv X W K (c, none)); iexact HR
    isplitl [HC]; · iexact HC
    isplitl [HO]; · iexact HO
    isplitr
    · iapply (mayWait_bar X W K c); iexact HR
    iexact Hat
  iintro ⟨HO, Hat, -, Hpay⟩
  ihave Hp := (Entails.of_eq ((rest_bar X W c).trans (bigSep_univ_eq_bigSepL issue issue_all issue_nodup _))) $$ Hpay
  imod (Rounds.cell_close ER (Rd X W) (Set.mem_univ (K (c, none))) (fun h => h) (R := 0 + 1) (duties_later X W (barCell c))) $$ [Hat] with Hz
  · isplitr; · iapply (recs_inv X W K (c, none)); iexact HR
    iexact Hat
  iapply Hk
  isplitr [Hz]
  · unfold St owesL
    isplitl [HO]; · iexists _; iexact HO
    isplitl [Hp Htk]
    · have h : iprop(bigSepL issue (fun t => ownD (tgt c t) t) ∗ bigSepL issue (TK (F := F) c)) ⊢ (bigSepL issue (TX (F := F) c) : sProp 𝕄) := by
        unfold TX
        rw [← bigSep_univ_eq_bigSepL issue issue_all issue_nodup, ← bigSep_univ_eq_bigSepL issue issue_all issue_nodup,
          ← bigSep_univ_eq_bigSepL issue issue_all issue_nodup, bigSep_sep']
      iapply h
      isplitl [Hp] <;> iassumption
    isplitl [Hrx]; · iexact Hrx
    isplitr
    · rw [bigSepL_nil]; iempintro
    · rw [bigSepL_nil]; iempintro
  iexact Hz

end

end Cert.KernelIdeal.Gen

end
-- ==== Proof.Pieces.lean ====
/-
  How the scratch buffers divide into the pieces the copies read and write. A `Cut` says that the pieces named by `e'` are
  the piece named by `e`, divided; the cuts below go from the whole buffers down to the ends of the copies. `owns_src_*` and
  `owns_dst_*` say that holding an end of a copy is holding such a piece.
-/
module

public import proofs.«01_k».proof.Proof.Rules
public import Idealize.ShloMosaic.Lib.Ring

@[expose] public section

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 ix4 ix5)

variable {F : FTy → Type} [FloatOps F]

local notation "𝕄" => MT nD τ sig Unit (Elt F) ℕ UU ℕ

/-! ## Cuts -/

/-- The pieces `e'` are the piece `e`, divided. -/
structure Cut {s s' S : Shape} {J : Type} (e : s.Idx ↪ S.Idx) (e' : J → s'.Idx ↪ S.Idx) where
  φ : J → s'.Idx → s.Idx
  hφ : ∀ j i, e' j i = e (φ j i)
  hs : ∀ x, ∃ j i, φ j i = x
  hi : ∀ j j' i i', φ j i = φ j' i' → j = j'

section Use
variable (c : Dev nD) (b : Ref sig .tc) {s s' : Shape} {J : Type} [Fintype J] [DecidableEq J]
  {e : s.Idx ↪ b.ty.shape.Idx} {e' : J → s'.Idx ↪ b.ty.shape.Idx} (C : Cut e e')

/-- A piece held divides at its values … -/
theorem Cut.sl (v : s.Idx → Elt F b.ty.elt) : Sl c b e v ⊢ (bigSep Finset.univ fun j => Sl c b (e' j) (fun i => v (C.φ j i)) : sProp 𝕄) :=
  Sl_split c b e e' C.φ C.hφ C.hs C.hi v
include C
/-- … and at unknown ones, -/
theorem Cut.own : Own c b e ⊢ (bigSep Finset.univ fun j => Own c b (e' j) : sProp 𝕄) := Own_split c b e e' C.φ C.hφ C.hs C.hi
/-- and its pieces make it again. -/
theorem Cut.join : (bigSep Finset.univ fun j => Own c b (e' j)) ⊢ (Own c b e : sProp 𝕄) :=
  haveI : Nonempty (Buf (Elt F) ((c : Thread nD τ).loc b)) := ⟨fun _ => Classical.arbitrary _⟩
  Own_join c b e e' C.φ C.hφ C.hs C.hi
end Use

/-- The same cut, its pieces named by other indices. -/
def Cut.re {s s' s'' S : Shape} {J : Type} {e : s.Idx ↪ S.Idx} {e' : J → s'.Idx ↪ S.Idx} (C : Cut e e') {e'' : J → s''.Idx ↪ S.Idx}
    (ψ : J → s''.Idx → s'.Idx) (h : ∀ j i, e'' j i = e' j (ψ j i)) (hψ : ∀ j, Function.Surjective (ψ j)) : Cut e e'' where
  φ j i := C.φ j (ψ j i)
  hφ j i := (h j i).trans (C.hφ j _)
  hs x := by
    obtain ⟨j, i, h⟩ := C.hs x
    obtain ⟨i', rfl⟩ := hψ j i
    exact ⟨j, i', h⟩
  hi j j' i i' := C.hi j j' _ _

/-! ## The sides and columns of a device, its own first -/

def sd (c : Dev nD) (j : Fin 2) : Fin 2 := if j = 0 then xc c else ox c
def cl (c : Dev nD) (j : Fin 4) : Fin 4 := Fin.cases (yc c) (ypc c) j

theorem sd_surj (c : Dev nD) (x : Fin 2) : ∃ j, sd c j = x := by revert c x; decide
theorem sd_inj (c : Dev nD) (j j' : Fin 2) (h : sd c j = sd c j') : j = j' := by revert c j j'; decide
theorem cl_surj (c : Dev nD) (y : Fin 4) : ∃ j, cl c j = y := by revert c y; decide
theorem cl_inj (c : Dev nD) (j j' : Fin 4) (h : cl c j = cl c j') : j = j' := by revert c j j'; decide

/-! ## The cuts of this kernel -/

/-- The products, by slab. -/
def cutP : Cut (s' := S1x2x4x32x1024) (Function.Embedding.refl S4x2x4x32x1024.Idx) (fun p : Fin 4 => (slab5 p).emb) where
  φ p i := (ix5 p (i 1) (i 2) (i 3) (i 4) : S4x2x4x32x1024.Idx)
  hφ p i := by
    funext a; apply Fin.ext; rw [unit_val rfl]
    fin_cases a <;> first | exact add_unit _ _ | exact Nat.zero_add _
  hs x := ⟨x 0, (ix5 0 (x 1) (x 2) (x 3) (x 4) : S1x2x4x32x1024.Idx), by funext a; fin_cases a <;> rfl⟩
  hi p p' i i' h := congrFun h (0 : Fin 5)

/-- The first slab of the products, by side and column. -/
def cut0 (c : Dev nD) : Cut (slab5 0).emb (fun j : Fin 2 × Fin 4 => pE 0 (sd c j.1) (cl c j.2)) where
  φ j i := (ix5 0 (sd c j.1) (cl c j.2) (i 0) (i 1) : S1x2x4x32x1024.Idx)
  hφ j i := pE_slab 0 _ _ i
  hs x := by
    obtain ⟨j, hj⟩ := sd_surj c (x 1)
    obtain ⟨k, hk⟩ := cl_surj c (x 2)
    refine ⟨(j, k), (ix2 (x 3) (x 4) : S32x1024.Idx), ?_⟩
    dsimp only
    rw [hj, hk]
    funext a; fin_cases a <;> first | rfl | exact Subsingleton.elim (α := Fin 1) _ _
  hi j j' i i' h := Prod.ext (sd_inj c _ _ (congrFun h (1 : Fin 5))) (cl_inj c _ _ (congrFun h (2 : Fin 5)))

/-- Another slab of the products, by side. -/
def cutH (c : Dev nD) (p : Fin 3) : Cut (slab5 p.succ).emb (fun j : Fin 2 => pH p.succ (sd c j)) where
  φ j i := (ix5 0 (sd c j) (i 0) (i 1) (i 2) : S1x2x4x32x1024.Idx)
  hφ j i := pH_slab p.succ _ i
  hs x := by
    obtain ⟨j, hj⟩ := sd_surj c (x 1)
    refine ⟨j, (ix3 (x 2) (x 3) (x 4) : S4x32x1024.Idx), ?_⟩
    rw [hj]
    funext a; fin_cases a <;> first | rfl | exact Subsingleton.elim (α := Fin 1) _ _
  hi j j' i i' h := sd_inj c _ _ (congrFun h (1 : Fin 5))

/-- Three slabs of four blocks, by slab. -/
def cut4 : Cut (s' := S1x4x32x1024) (Function.Embedding.refl S3x4x32x1024.Idx) (fun p : Fin 3 => (slab4 p).emb) where
  φ p i := (ix4 p (i 1) (i 2) (i 3) : S3x4x32x1024.Idx)
  hφ p i := by
    funext a; apply Fin.ext; rw [unit_val rfl]
    fin_cases a <;> first | exact add_unit _ _ | exact Nat.zero_add _
  hs x := ⟨x 0, (ix4 0 (x 1) (x 2) (x 3) : S1x4x32x1024.Idx), by funext a; fin_cases a <;> rfl⟩
  hi p p' i i' h := congrFun h (0 : Fin 4)

/-- The landing slabs of the copies across the column. -/
def cutX : Cut (Function.Embedding.refl S3x4x32x1024.Idx) (fun p : Fin 3 => (dstM (.x p)).view.emb) :=
  cut4.re (fun _ i => (ix4 0 (i 0) (i 1) (i 2) : S1x4x32x1024.Idx)) (fun p i => dstM_x p i) fun _ x =>
    ⟨(ix3 (x 1) (x 2) (x 3) : S4x32x1024.Idx), by funext a; fin_cases a <;> first | rfl | exact Subsingleton.elim (α := Fin 1) _ _⟩

/-- A slab of the pair sums, by column. -/
def cutA (c : Dev nD) (p : Fin 3) : Cut (slab4 p).emb (fun j : Fin 4 => aE p (cl c j)) where
  φ j i := (ix4 0 (cl c j) (i 0) (i 1) : S1x4x32x1024.Idx)
  hφ j i := aE_slab p _ i
  hs x := by
    obtain ⟨j, hj⟩ := cl_surj c (x 1)
    refine ⟨j, (ix2 (x 2) (x 3) : S32x1024.Idx), ?_⟩
    rw [hj]
    funext a; fin_cases a <;> first | rfl | exact Subsingleton.elim (α := Fin 1) _ _
  hi j j' i i' h := cl_inj c _ _ (congrFun h (1 : Fin 4))

/-- Three blocks, by block. -/
def cut3 : Cut (s' := S1x32x1024) (Function.Embedding.refl S3x32x1024.Idx) (fun p : Fin 3 => (slab3 p).emb) where
  φ p i := (ix3 p (i 1) (i 2) : S3x32x1024.Idx)
  hφ p i := by
    funext a; apply Fin.ext; rw [unit_val rfl]
    fin_cases a <;> first | exact add_unit _ _ | exact Nat.zero_add _
  hs x := ⟨x 0, (ix3 0 (x 1) (x 2) : S1x32x1024.Idx), by funext a; fin_cases a <;> rfl⟩
  hi p p' i i' h := congrFun h (0 : Fin 3)

theorem ix3_surj : Function.Surjective fun i : S32x1024.Idx => (ix3 0 (i 0) (i 1) : S1x32x1024.Idx) := fun x =>
  ⟨(ix2 (x 1) (x 2) : S32x1024.Idx), by funext a; fin_cases a <;> first | rfl | exact Subsingleton.elim (α := Fin 1) _ _⟩

/-- The landing blocks of the mirror copies. -/
def cutM : Cut (Function.Embedding.refl S3x32x1024.Idx) (fun p : Fin 3 => (dstM (.ym p)).view.emb) :=
  cut3.re (fun _ i => (ix3 0 (i 0) (i 1) : S1x32x1024.Idx)) (fun p i => dstM_ym p i) fun _ => ix3_surj
/-- The landing blocks of the copies across the planes. -/
def cutZ : Cut (Function.Embedding.refl S3x32x1024.Idx) (fun p : Fin 3 => (dstM (.z p)).view.emb) :=
  cut3.re (fun _ i => (ix3 0 (i 0) (i 1) : S1x32x1024.Idx)) (fun p i => dstM_z p i) fun _ => ix3_surj
/-- The blocks the copies across the planes read. -/
def cutB (c : Dev nD) : Cut (Function.Embedding.refl S3x32x1024.Idx) (fun p : Fin 3 => (srcM c (.z p)).view.emb) :=
  cut3.re (fun _ i => (ix3 0 (i 0) (i 1) : S1x32x1024.Idx)) (fun p i => srcM_z c p i) fun _ => ix3_surj

/-- Block `(p, k)` of the landing buffer of the column copies. -/
def cE (p : Fin 4) (k : Fin 3) : S32x1024.Idx ↪ (cc0_scratch3 : Ref sig .tc).ty.shape.Idx :=
  ⟨fun i => (ix4 p k (i 0) (i 1) : S4x3x32x1024.Idx), fun i j h => by
    funext a
    have h2 := congrFun h (2 : Fin 4); have h3 := congrFun h (3 : Fin 4)
    fin_cases a
    · exact h2
    · exact h3⟩
theorem cE_cell (p : Fin 4) (k : Fin 3) (i : S32x1024.Idx) : (cell4 p k).emb (ix4 0 0 (i 0) (i 1) : S1x1x32x1024.Idx) = cE p k i := by
  funext a; apply Fin.ext; rw [unit_val rfl]
  fin_cases a <;> first | exact Nat.zero_add _ | rfl | exact add_unit _ _
theorem cE_y0 (k : Fin 3) (i : S32x1024.Idx) : (dstM (.y0 k)).view.emb i = cE 0 k i := (dstM_y0 k i).trans (cE_cell 0 k i)
theorem cE_y (p k : Fin 3) (i : S32x1024.Idx) : (dstM (.y p k)).view.emb i = cE p.succ k i := (dstM_y p k i).trans (cE_cell p.succ k i)
/-- The landing buffer of the column copies, by block. -/
def cutC : Cut (Function.Embedding.refl S4x3x32x1024.Idx) (fun j : Fin 4 × Fin 3 => cE j.1 j.2) where
  φ j i := (ix4 j.1 j.2 (i 0) (i 1) : S4x3x32x1024.Idx)
  hφ j i := rfl
  hs x := ⟨(x 0, x 1), (ix2 (x 2) (x 3) : S32x1024.Idx), by funext a; fin_cases a <;> rfl⟩
  hi j j' i i' h := Prod.ext (congrFun h (0 : Fin 4)) (congrFun h (1 : Fin 4))

/-! ## The ends of the copies as pieces -/

section Ends
variable (c : Dev nD)

theorem owns_src_x (p : Fin 3) (v : Vec F S4x32x1024 .bf16) :
    (owns (c : Thread nD τ) (srcM c (.x p)) fullShare v : sProp 𝕄) = Sl c cc0_scratch0 (pH p.succ (ox c)) v :=
  (rfl : _ = Sl c cc0_scratch0 (srcM c (.x p)).view.emb v).trans (Sl_congr c _ (srcM_x c p) fun _ => rfl)
theorem owns_src_y0 (k : Fin 3) (v : Vec F S32x1024 .bf16) :
    (owns (c : Thread nD τ) (srcM c (.y0 k)) fullShare v : sProp 𝕄) = Sl c cc0_scratch0 (pE 0 (xc c) (ypc c k)) v :=
  (rfl : _ = Sl c cc0_scratch0 (srcM c (.y0 k)).view.emb v).trans (Sl_congr c _ (srcM_y0 c k) fun _ => rfl)
theorem owns_src_ym (k : Fin 3) (v : Vec F S32x1024 .bf16) :
    (owns (c : Thread nD τ) (srcM c (.ym k)) fullShare v : sProp 𝕄) = Sl c cc0_scratch0 (pE 0 (ox c) (ypc c k)) v :=
  (rfl : _ = Sl c cc0_scratch0 (srcM c (.ym k)).view.emb v).trans (Sl_congr c _ (srcM_ym c k) fun _ => rfl)
theorem owns_src_y (p k : Fin 3) (v : Vec F S32x1024 .bf16) :
    (owns (c : Thread nD τ) (srcM c (.y p k)) fullShare v : sProp 𝕄) = Sl c cc0_scratch2 (aE p (ypc c k)) v :=
  (rfl : _ = Sl c cc0_scratch2 (srcM c (.y p k)).view.emb v).trans (Sl_congr c _ (srcM_y c p k) fun _ => rfl)
theorem owns_src_z (p : Fin 3) (v : Vec F S32x1024 .bf16) :
    (owns (c : Thread nD τ) (srcM c (.z p)) fullShare v : sProp 𝕄) = Sl c cc0_scratch5 (srcM c (.z p)).view.emb v := rfl
theorem owns_src_s (v : Vec F S32x1024 .bf16) :
    (owns (c : Thread nD τ) (srcM c .s) fullShare v : sProp 𝕄) = Sl c cc0_scratch7 (Function.Embedding.refl S32x1024.Idx) v := rfl
theorem owns_dst_x (p : Fin 3) (v : Vec F S4x32x1024 .bf16) :
    (owns (c : Thread nD τ) (dstM (.x p)) fullShare v : sProp 𝕄) = Sl c cc0_scratch1 (dstM (.x p)).view.emb v := rfl
theorem owns_dst_y0 (k : Fin 3) (v : Vec F S32x1024 .bf16) :
    (owns (c : Thread nD τ) (dstM (.y0 k)) fullShare v : sProp 𝕄) = Sl c cc0_scratch3 (dstM (.y0 k)).view.emb v := rfl
theorem owns_dst_y (p k : Fin 3) (v : Vec F S32x1024 .bf16) :
    (owns (c : Thread nD τ) (dstM (.y p k)) fullShare v : sProp 𝕄) = Sl c cc0_scratch3 (dstM (.y p k)).view.emb v := rfl
theorem owns_dst_ym (k : Fin 3) (v : Vec F S32x1024 .bf16) :
    (owns (c : Thread nD τ) (dstM (.ym k)) fullShare v : sProp 𝕄) = Sl c cc0_scratch4 (dstM (.ym k)).view.emb v := rfl
theorem owns_dst_z (p : Fin 3) (v : Vec F S32x1024 .bf16) :
    (owns (c : Thread nD τ) (dstM (.z p)) fullShare v : sProp 𝕄) = Sl c cc0_scratch6 (dstM (.z p)).view.emb v := rfl
theorem owns_dst_s (v : Vec F S32x1024 .bf16) :
    (owns (c : Thread nD τ) (dstM .s) fullShare v : sProp 𝕄) = Sl c cc0_scratch8 (Function.Embedding.refl S32x1024.Idx) v := rfl

theorem ownS_x (p : Fin 3) : (ownS c (.x p) : sProp 𝕄) = Own c cc0_scratch0 (pH p.succ (ox c)) := by
  unfold ownS Own; simp only [owns_src_x]; rfl
theorem ownS_y0 (k : Fin 3) : (ownS c (.y0 k) : sProp 𝕄) = Own c cc0_scratch0 (pE 0 (xc c) (ypc c k)) := by
  unfold ownS Own; simp only [owns_src_y0]; rfl
theorem ownS_ym (k : Fin 3) : (ownS c (.ym k) : sProp 𝕄) = Own c cc0_scratch0 (pE 0 (ox c) (ypc c k)) := by
  unfold ownS Own; simp only [owns_src_ym]; rfl
theorem ownS_y (p k : Fin 3) : (ownS c (.y p k) : sProp 𝕄) = Own c cc0_scratch2 (aE p (ypc c k)) := by
  unfold ownS Own; simp only [owns_src_y]; rfl
theorem ownS_z (p : Fin 3) : (ownS c (.z p) : sProp 𝕄) = Own c cc0_scratch5 (srcM c (.z p)).view.emb := rfl
theorem ownS_s : (ownS c .s : sProp 𝕄) = Own c cc0_scratch7 (Function.Embedding.refl S32x1024.Idx) := rfl
theorem ownD_x (p : Fin 3) : (ownD c (.x p) : sProp 𝕄) = Own c cc0_scratch1 (dstM (.x p)).view.emb := rfl
theorem ownD_y0 (k : Fin 3) : (ownD c (.y0 k) : sProp 𝕄) = Own c cc0_scratch3 (cE 0 k) :=
  (rfl : _ = Own c cc0_scratch3 (dstM (.y0 k)).view.emb).trans (Own_congr c _ (cE_y0 k))
theorem ownD_y (p k : Fin 3) : (ownD c (.y p k) : sProp 𝕄) = Own c cc0_scratch3 (cE p.succ k) :=
  (rfl : _ = Own c cc0_scratch3 (dstM (.y p k)).view.emb).trans (Own_congr c _ (cE_y p k))
theorem ownD_ym (k : Fin 3) : (ownD c (.ym k) : sProp 𝕄) = Own c cc0_scratch4 (dstM (.ym k)).view.emb := rfl
theorem ownD_z (p : Fin 3) : (ownD c (.z p) : sProp 𝕄) = Own c cc0_scratch6 (dstM (.z p)).view.emb := rfl
theorem ownD_s : (ownD c .s : sProp 𝕄) = Own c cc0_scratch8 (Function.Embedding.refl S32x1024.Idx) := rfl

theorem bigSep_fin4 (Φ : Fin 4 → sProp 𝕄) : bigSep Finset.univ Φ = iprop(Φ 0 ∗ Φ 1 ∗ Φ 2 ∗ Φ 3) := by
  rw [bigSep_univ_eq_bigSepL [0, 1, 2, 3] (by decide) (by decide)]
  rw [bigSepL_cons', bigSepL_cons', bigSepL_cons', bigSepL_cons', bigSepL_nil]
  exact congrArg (fun t => iprop(Φ 0 ∗ Φ 1 ∗ Φ 2 ∗ t)) (sep_emp_eq (Φ 3))
end Ends

end Cert.KernelIdeal.Gen

end
-- ==== Proof.Phases.lean ====
/-
  The blocks of the body, one theorem each: what a block takes (the protocol state before it and the pieces it reads and
  writes) and what it gives back. The values the blocks leave are those of `Values`.
-/
module

public import proofs.«01_k».proof.Proof.Pieces

@[expose] public section

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 ix4 ix5)

variable {F : FTy → Type} [FloatOps F]

local notation "𝕄" => MT nD τ sig Unit (Elt F) ℕ UU ℕ

theorem bigSep_three (Φ : Fin 3 → sProp 𝕄) : bigSep Finset.univ Φ = iprop(Φ 0 ∗ Φ 1 ∗ Φ 2) :=
  bigSep_univ_eq_bigSepL [0, 1, 2] (by decide) (by decide) Φ
theorem bigSep_two (Φ : Fin 2 → sProp 𝕄) : bigSep Finset.univ Φ = iprop(Φ 0 ∗ Φ 1) :=
  bigSep_univ_eq_bigSepL [0, 1] (by decide) (by decide) Φ

variable (X : Dev nD → Vec F S1024x32 .bf16) (W : Dev nD → Vec F S32x1024 .bf16) (K : Dev nD × CI → ℕ) (c : Dev nD)

/-! ## The values of the pieces -/

/-- Block `(x, y)` of the device's own plane's products. -/
def PEv (x : Fin 2) (y : Fin 4) : Vec F S32x1024 .bf16 := fun i => PV X W c 0 (ix5 0 x y (i 0) (i 1))
/-- The side of slab `p + 1` the device keeps. -/
def PHv (p : Fin 3) : Vec F S4x32x1024 .bf16 := fun i => PV X W c p.succ (ix5 0 (xc c) (i 0) (i 1) (i 2))

/-- The arguments of the device, staged. -/
def ARGS : sProp 𝕄 :=
  iprop(Sl c cc0_stg0_0 (Function.Embedding.refl S1024x32.Idx) (X c) ∗ Sl c cc0_stg1_0 (Function.Embedding.refl S32x1024.Idx) (W c))

/-- The end a copy reads, at what it sends. -/
def srcV (t : Xf) : sProp 𝕄 := owns (c : Thread nD τ) (srcM c t) fullShare (SV X W c t)

theorem srcV_own (t : Xf) : srcV X W c t ⊢ ownS c t := by
  unfold srcV ownS; iintro H; iexists _; iexact H
theorem recvPay_own (t : Xf) : recvPay X W c t ⊢ ownD c t := by
  unfold recvPay ownD; iintro H; iexists _; iexact H

/-- The first slab of products: the two blocks the device keeps and the six it sends. -/
theorem split_P0 : Sl c cc0_scratch0 (slab5 0).emb (PV X W c 0)
    ⊢ (iprop(Sl c cc0_scratch0 (pE 0 (xc c) (yc c)) (PEv X W c (xc c) (yc c)) ∗ Sl c cc0_scratch0 (pE 0 (ox c) (yc c)) (PEv X W c (ox c) (yc c))
      ∗ (srcV X W c (.y0 0) ∗ srcV X W c (.y0 1) ∗ srcV X W c (.y0 2)) ∗ (srcV X W c (.ym 0) ∗ srcV X W c (.ym 1) ∗ srcV X W c (.ym 2))) : sProp 𝕄) := by
  refine ((cut0 c).sl c cc0_scratch0 (PV X W c 0)).trans ?_
  rw [bigSep_univ_prod, bigSep_two, bigSep_fin4, bigSep_fin4]
  unfold srcV
  rw [owns_src_y0, owns_src_y0, owns_src_y0, owns_src_ym, owns_src_ym, owns_src_ym]
  iintro ⟨⟨H0, H1, H2, H3⟩, H4, H5, H6, H7⟩
  isplitl [H0]; · iexact H0
  isplitl [H4]; · iexact H4
  isplitl [H1 H2 H3]
  · isplitl [H1]; · iexact H1
    isplitl [H2]; · iexact H2
    iexact H3
  isplitl [H5]; · iexact H5
  isplitl [H6]; · iexact H6
  iexact H7

/-- Another slab of products: the side the device keeps and the one it sends. -/
theorem split_P (p : Fin 3) : Sl c cc0_scratch0 (slab5 p.succ).emb (PV X W c p.succ)
    ⊢ (iprop(Sl c cc0_scratch0 (pH p.succ (xc c)) (PHv X W c p) ∗ srcV X W c (.x p)) : sProp 𝕄) := by
  refine ((cutH c p).sl c cc0_scratch0 (PV X W c p.succ)).trans ?_
  rw [bigSep_two]
  unfold srcV
  rw [owns_src_x]
  iintro ⟨H0, H1⟩
  isplitl [H0]; · iexact H0
  iexact H1

/-- A pair sum: the block the device keeps and the three it sends. -/
theorem split_A (p : Fin 3) : Sl c cc0_scratch2 (slab4 p).emb (AXv X W c p)
    ⊢ (iprop(Own c cc0_scratch2 (aE p (yc c)) ∗ srcV X W c (.y p 0) ∗ srcV X W c (.y p 1) ∗ srcV X W c (.y p 2)) : sProp 𝕄) := by
  refine ((cutA c p).sl c cc0_scratch2 (AXv X W c p)).trans ?_
  rw [bigSep_fin4]
  unfold srcV
  rw [owns_src_y, owns_src_y, owns_src_y]
  iintro ⟨H0, H1, H2, H3⟩
  isplitl [H0]; · iapply (Sl_own c cc0_scratch2 _ _); iexact H0
  isplitl [H1]; · iexact H1
  isplitl [H2]; · iexact H2
  iexact H3

/-- A column sum is what is sent to the planes. -/
theorem split_B (p : Fin 3) : Sl c cc0_scratch5 (slab3 p).emb (BZv X W c p) ⊢ (srcV X W c (.z p) : sProp 𝕄) := by
  unfold srcV
  rw [owns_src_z]
  have h := Sl_reindex (F := F) c cc0_scratch5 (s := S1x32x1024) (s' := S32x1024) (slab3 p).emb (srcM c (.z p)).view.emb
    (fun i => (ix3 0 (i 0) (i 1) : S1x32x1024.Idx)) (srcM_z c p) ix3_surj (BZv X W c p)
  exact h

/-- The mirror sum is what is sent to the other side. -/
theorem split_S : Sl c cc0_scratch7 rW.emb (SBv X W c) ⊢ (srcV X W c .s : sProp 𝕄) := by
  unfold srcV
  rw [owns_src_s]
  exact Entails.of_eq (Sl_congr c cc0_scratch7 (s := S32x1024) (e := rW.emb) (e' := Function.Embedding.refl S32x1024.Idx) (v := SBv X W c)
    (v' := SBv X W c) rW_emb fun _ => rfl)

/-! ## The blocks -/

variable {l r d e : List Xf}

/-- What has landed, its values forgotten. -/
theorem Sl_D_x (p : Fin 3) (v : Vec F S4x32x1024 .bf16) : Sl c cc0_scratch1 (dstM (.x p)).view.emb v ⊢ (ownD c (.x p) : sProp 𝕄) := by
  rw [ownD_x]; exact Sl_own c cc0_scratch1 _ v
theorem Sl_D_y0 (k : Fin 3) (v : Vec F S32x1024 .bf16) : Sl c cc0_scratch3 (dstM (.y0 k)).view.emb v ⊢ (ownD c (.y0 k) : sProp 𝕄) :=
  Sl_own c cc0_scratch3 _ v
theorem Sl_D_ym (k : Fin 3) (v : Vec F S32x1024 .bf16) : Sl c cc0_scratch4 (dstM (.ym k)).view.emb v ⊢ (ownD c (.ym k) : sProp 𝕄) :=
  Sl_own c cc0_scratch4 _ v
theorem Sl_D_y (p k : Fin 3) (v : Vec F S32x1024 .bf16) : Sl c cc0_scratch3 (dstM (.y p k)).view.emb v ⊢ (ownD c (.y p k) : sProp 𝕄) :=
  Sl_own c cc0_scratch3 _ v
theorem Sl_D_z (k : Fin 3) (v : Vec F S32x1024 .bf16) : Sl c cc0_scratch6 (dstM (.z k)).view.emb v ⊢ (ownD c (.z k) : sProp 𝕄) :=
  Sl_own c cc0_scratch6 _ v
theorem Sl_D_s (v : Vec F S32x1024 .bf16) : Sl c cc0_scratch8 (Function.Embedding.refl S32x1024.Idx) v ⊢ (ownD c .s : sProp 𝕄) :=
  Sl_own c cc0_scratch8 _ v

/-- A store of a value known by another expression. -/
theorem wp_stv {i : Fin (sig.nNear .tc .vmem)} {h : sig.names .tc .vmem i = true} {r : Rect (vm i h).ty.shape} {w w' : r.shape.Idx → Elt F (vm i h).ty.elt}
    (hw : w = w') {hs : ((Memref.whole (vm i h)).access r).Stores Finset.univ} {k : PG F} {Kt : PUnit → sProp 𝕄} :
    iprop(Own c (vm i h) r.emb ∗ (Sl c (vm i h) r.emb w' -∗ WP c k Kt)) ⊢ WP c (stP (Memref.whole (vm i h)) r w hs k) Kt := by
  subst hw; exact wp_st c

/-- Starting a copy whose source is at what it sends. -/
theorem wp_xfv {t : Xf} {k : PG F} {Kt : PUnit → sProp 𝕄} :
    iprop(recs X W K ∗ St c (t :: l) r d e ∗ srcV X W c t ∗ (St c l r (t :: d) e -∗ WP c k Kt)) ⊢ WP c (xfP c t k) Kt := by
  unfold srcV; exact wp_xf X W K c

/-- One plane's products. -/
theorem wp_mm (p : Fin 4) {k : PG F} {Kt : PUnit → sProp 𝕄} :
    iprop(ARGS X W c ∗ Own c cc0_scratch0 (slab5 p).emb
        ∗ ((ARGS X W c ∗ Sl c cc0_scratch0 (slab5 p).emb (PV X W c p)) -∗ WP c k Kt)) ⊢ WP c (mmP c p k) Kt := by
  unfold mmP ARGS
  iintro ⟨⟨Hx, Hw⟩, Hp, Hk⟩
  iapply (wp_ld c (e := Function.Embedding.refl S1024x32.Idx) (fun i => (rX c p).emb i) fun _ => rfl)
  isplitl [Hx]; · iexact Hx
  iintro Hx
  iapply (wp_ld c (e := Function.Embedding.refl S32x1024.Idx) (fun i => i) ?_)
  · exact rW_emb
  isplitl [Hw]; · iexact Hw
  iintro Hw
  iapply (wp_ld_own c (slab5 p).emb (fun i => i) fun _ => rfl)
  isplitl [Hp]; · iexact Hp
  iintro Hp %w
  iapply (wp_st c)
  isplitl [Hp]; · iexact Hp
  iintro Hp
  iapply Hk
  isplitl [Hx Hw]
  · isplitl [Hx]; · iexact Hx
    iexact Hw
  iexact Hp

/-- A pair sum, from what the other side sent, and its three copies. -/
theorem wp_ax (p : Fin 3) {k : PG F} {Kt : PUnit → sProp 𝕄} (hl : ∀ t' ∈ (.y p 0 :: .y p 1 :: .y p 2 :: l : List Xf), lvX (.x p) < lvX t') :
    iprop(recs X W K ∗ St c (.y p 0 :: .y p 1 :: .y p 2 :: l) (.x p :: r) d e ∗ Sl c cc0_scratch0 (pH p.succ (xc c)) (PHv X W c p)
        ∗ Own c cc0_scratch2 (slab4 p).emb
        ∗ ((St c l r (.y p 2 :: .y p 1 :: .y p 0 :: d) (.x p :: e) ∗ Sl c cc0_scratch0 (pH p.succ (xc c)) (PHv X W c p) ∗ recvPay X W c (.x p)
            ∗ Own c cc0_scratch2 (aE p (yc c))) -∗ WP c k Kt)) ⊢ WP c (axP c p k) Kt := by
  have hx : (recvPay X W c (.x p) : sProp 𝕄) = Sl c cc0_scratch1 (dstM (.x p)).view.emb (SV X W (frm c (.x p)) (.x p)) := rfl
  unfold axP
  iintro ⟨#HR, HS, Hp, Ha, Hk⟩
  iapply (wp_wr X W K c hl)
  isplitr; · iexact HR
  isplitl [HS]; · iexact HS
  iintro ⟨HS, Hx⟩
  iapply (wp_ld c (e := pH p.succ (xc c)) (fun i : S1x1x4x32x1024.Idx => (ix3 (i 2) (i 3) (i 4) : S4x32x1024.Idx)) (slabO_emb c p))
  isplitl [Hp]; · iexact Hp
  iintro Hp
  ihave Hx := (Entails.of_eq hx) $$ Hx
  iapply (wp_ld c (e := (dstM (.x p)).view.emb) (fun i : S1x4x32x1024.Idx => (ix3 (i 1) (i 2) (i 3) : S4x32x1024.Idx)) (slab4_dst p))
  isplitl [Hx]; · iexact Hx
  iintro Hx
  iapply (wp_ld_own c (slab4 p).emb (fun i => i) fun _ => rfl)
  isplitl [Ha]; · iexact Ha
  iintro Ha %w
  iapply (wp_stv c (w' := AXv X W c p) ?_)
  · rfl
  isplitl [Ha]; · iexact Ha
  iintro Ha
  ihave Ha := (split_A X W c p) $$ Ha
  icases Ha with ⟨Ha, H0, H1, H2⟩
  iapply (wp_xfv X W K c)
  isplitr; · iexact HR
  isplitl [HS]; · iexact HS
  isplitl [H0]; · iexact H0
  iintro HS
  iapply (wp_xfv X W K c)
  isplitr; · iexact HR
  isplitl [HS]; · iexact HS
  isplitl [H1]; · iexact H1
  iintro HS
  iapply (wp_xfv X W K c)
  isplitr; · iexact HR
  isplitl [HS]; · iexact HS
  isplitl [H2]; · iexact H2
  iintro HS
  iapply Hk
  isplitl [HS]; · iexact HS
  isplitl [Hp]; · iexact Hp
  isplitl [Hx]; · iapply (Entails.of_eq hx.symm); iexact Hx
  iexact Ha

/-- A column sum, from what the column sent, and its copy. -/
theorem wp_bz (p : Fin 3) {k : PG F} {Kt : PUnit → sProp 𝕄} (hl : ∀ t' ∈ (.z p :: l : List Xf), 3 < lvX t') :
    iprop(recs X W K ∗ St c (.z p :: l) (.y p 0 :: .y p 1 :: .y p 2 :: r) d e ∗ Sl c cc0_scratch0 (pH p.succ (xc c)) (PHv X W c p)
        ∗ recvPay X W c (.x p) ∗ Own c cc0_scratch5 (slab3 p).emb
        ∗ ((St c l r (.z p :: d) (.y p 2 :: .y p 1 :: .y p 0 :: e) ∗ Own c cc0_scratch0 (pH p.succ (xc c)) ∗ ownD c (.x p)
            ∗ ownD c (.y p 0) ∗ ownD c (.y p 1) ∗ ownD c (.y p 2)) -∗ WP c k Kt)) ⊢ WP c (bzP c p k) Kt := by
  have hx : (recvPay X W c (.x p) : sProp 𝕄) = Sl c cc0_scratch1 (dstM (.x p)).view.emb (SV X W (frm c (.x p)) (.x p)) := rfl
  have hr : ∀ k, (recvPay X W c (.y p k) : sProp 𝕄) = Sl c cc0_scratch3 (dstM (.y p k)).view.emb (SV X W (frm c (.y p k)) (.y p k)) := fun _ => rfl
  unfold bzP
  iintro ⟨#HR, HS, Hp, Hx, Hb, Hk⟩
  iapply (wp_ld c (e := pH p.succ (xc c)) (fun i : S1x1x1x32x1024.Idx => (ix3 (yc c) (i 3) (i 4) : S4x32x1024.Idx)) (blkO_emb c p))
  isplitl [Hp]; · iexact Hp
  iintro Hp
  ihave Hx := (Entails.of_eq (hx)) $$ Hx
  iapply (wp_ld c (e := (dstM (.x p)).view.emb) (fun i : S1x1x32x1024.Idx => (ix3 (yc c) (i 2) (i 3) : S4x32x1024.Idx)) (blkR_dst c p))
  isplitl [Hx]; · iexact Hx
  iintro Hx
  iapply (wp_wr X W K c hl)
  isplitr; · iexact HR
  isplitl [HS]; · iexact HS
  iintro ⟨HS, H0⟩
  ihave H0 := (Entails.of_eq (hr _)) $$ H0
  iapply (wp_ld c (e := (dstM (.y p 0)).view.emb) (fun i : S1x1x32x1024.Idx => (ix2 (i 2) (i 3) : S32x1024.Idx)) (cell4_y p 0))
  isplitl [H0]; · iexact H0
  iintro H0
  iapply (wp_wr X W K c hl)
  isplitr; · iexact HR
  isplitl [HS]; · iexact HS
  iintro ⟨HS, H1⟩
  ihave H1 := (Entails.of_eq (hr _)) $$ H1
  iapply (wp_ld c (e := (dstM (.y p 1)).view.emb) (fun i : S1x1x32x1024.Idx => (ix2 (i 2) (i 3) : S32x1024.Idx)) (cell4_y p 1))
  isplitl [H1]; · iexact H1
  iintro H1
  iapply (wp_wr X W K c hl)
  isplitr; · iexact HR
  isplitl [HS]; · iexact HS
  iintro ⟨HS, H2⟩
  ihave H2 := (Entails.of_eq (hr _)) $$ H2
  iapply (wp_ld c (e := (dstM (.y p 2)).view.emb) (fun i : S1x1x32x1024.Idx => (ix2 (i 2) (i 3) : S32x1024.Idx)) (cell4_y p 2))
  isplitl [H2]; · iexact H2
  iintro H2
  iapply (wp_ld_own c (slab3 p).emb (fun i => i) fun _ => rfl)
  isplitl [Hb]; · iexact Hb
  iintro Hb %w
  iapply (wp_st c)
  isplitl [Hb]; · iexact Hb
  iintro Hb
  iapply (wp_xfv X W K c)
  isplitr; · iexact HR
  isplitl [HS]; · iexact HS
  isplitl [Hb]
  · iapply (split_B X W c p); iexact Hb
  iintro HS
  iapply Hk
  isplitl [HS]; · iexact HS
  isplitl [Hp]; · iapply (Sl_own c cc0_scratch0 _ _); iexact Hp
  isplitl [Hx]; · iapply (Sl_D_x c p _); iexact Hx
  isplitl [H0]; · iapply (Sl_D_y c p 0 _); iexact H0
  isplitl [H1]; · iapply (Sl_D_y c p 1 _); iexact H1
  iapply (Sl_D_y c p 2 _); iexact H2

/-- The two column sums of the device's own plane; the mirror one is sent. -/
theorem wp_sm {k : FVec F S32x1024 .f32 → PG F} {Kt : PUnit → sProp 𝕄} (hl : ∀ t' ∈ (.s :: l : List Xf), 2 < lvX t') :
    iprop(recs X W K ∗ St c (.s :: l) (.y0 0 :: .ym 0 :: .y0 1 :: .ym 1 :: .y0 2 :: .ym 2 :: r) d e
        ∗ Sl c cc0_scratch0 (pE 0 (xc c) (yc c)) (PEv X W c (xc c) (yc c)) ∗ Sl c cc0_scratch0 (pE 0 (ox c) (yc c)) (PEv X W c (ox c) (yc c))
        ∗ Own c cc0_scratch7 rW.emb
        ∗ ((St c l r (.s :: d) (.ym 2 :: .y0 2 :: .ym 1 :: .y0 1 :: .ym 0 :: .y0 0 :: e)
            ∗ Own c cc0_scratch0 (pE 0 (xc c) (yc c)) ∗ Own c cc0_scratch0 (pE 0 (ox c) (yc c))
            ∗ (ownD c (.y0 0) ∗ ownD c (.y0 1) ∗ ownD c (.y0 2)) ∗ (ownD c (.ym 0) ∗ ownD c (.ym 1) ∗ ownD c (.ym 2))) -∗ WP c (k (SMv X W c)) Kt))
      ⊢ WP c (smP c k) Kt := by
  have hr : ∀ k, (recvPay X W c (.y0 k) : sProp 𝕄) = Sl c cc0_scratch3 (dstM (.y0 k)).view.emb (SV X W (frm c (.y0 k)) (.y0 k)) := fun _ => rfl
  have hm : ∀ k, (recvPay X W c (.ym k) : sProp 𝕄) = Sl c cc0_scratch4 (dstM (.ym k)).view.emb (SV X W (frm c (.ym k)) (.ym k)) := fun _ => rfl
  unfold smP
  iintro ⟨#HR, HS, Hp, Hq, Hb, Hk⟩
  iapply (wp_ld c (e := pE 0 (xc c) (yc c)) (fun i : S1x1x1x32x1024.Idx => (ix2 (i 3) (i 4) : S32x1024.Idx)) (blkS_emb c))
  isplitl [Hp]; · iexact Hp
  iintro Hp
  iapply (wp_ld c (e := pE 0 (ox c) (yc c)) (fun i : S1x1x1x32x1024.Idx => (ix2 (i 3) (i 4) : S32x1024.Idx)) (blkT_emb c))
  isplitl [Hq]; · iexact Hq
  iintro Hq
  iapply (wp_wr X W K c hl)
  isplitr; · iexact HR
  isplitl [HS]; · iexact HS
  iintro ⟨HS, H0⟩
  ihave H0 := (Entails.of_eq (hr _)) $$ H0
  iapply (wp_ld c (e := (dstM (.y0 0)).view.emb) (fun i : S1x1x32x1024.Idx => (ix2 (i 2) (i 3) : S32x1024.Idx)) (cell4_y0 0))
  isplitl [H0]; · iexact H0
  iintro H0
  iapply (wp_wr X W K c hl)
  isplitr; · iexact HR
  isplitl [HS]; · iexact HS
  iintro ⟨HS, M0⟩
  ihave M0 := (Entails.of_eq (hm _)) $$ M0
  iapply (wp_ld c (e := (dstM (.ym 0)).view.emb) (fun i : S1x32x1024.Idx => (ix2 (i 1) (i 2) : S32x1024.Idx)) (slab3_ym 0))
  isplitl [M0]; · iexact M0
  iintro M0
  iapply (wp_wr X W K c hl)
  isplitr; · iexact HR
  isplitl [HS]; · iexact HS
  iintro ⟨HS, H1⟩
  ihave H1 := (Entails.of_eq (hr _)) $$ H1
  iapply (wp_ld c (e := (dstM (.y0 1)).view.emb) (fun i : S1x1x32x1024.Idx => (ix2 (i 2) (i 3) : S32x1024.Idx)) (cell4_y0 1))
  isplitl [H1]; · iexact H1
  iintro H1
  iapply (wp_wr X W K c hl)
  isplitr; · iexact HR
  isplitl [HS]; · iexact HS
  iintro ⟨HS, M1⟩
  ihave M1 := (Entails.of_eq (hm _)) $$ M1
  iapply (wp_ld c (e := (dstM (.ym 1)).view.emb) (fun i : S1x32x1024.Idx => (ix2 (i 1) (i 2) : S32x1024.Idx)) (slab3_ym 1))
  isplitl [M1]; · iexact M1
  iintro M1
  iapply (wp_wr X W K c hl)
  isplitr; · iexact HR
  isplitl [HS]; · iexact HS
  iintro ⟨HS, H2⟩
  ihave H2 := (Entails.of_eq (hr _)) $$ H2
  iapply (wp_ld c (e := (dstM (.y0 2)).view.emb) (fun i : S1x1x32x1024.Idx => (ix2 (i 2) (i 3) : S32x1024.Idx)) (cell4_y0 2))
  isplitl [H2]; · iexact H2
  iintro H2
  iapply (wp_wr X W K c hl)
  isplitr; · iexact HR
  isplitl [HS]; · iexact HS
  iintro ⟨HS, M2⟩
  ihave M2 := (Entails.of_eq (hm _)) $$ M2
  iapply (wp_ld c (e := (dstM (.ym 2)).view.emb) (fun i : S1x32x1024.Idx => (ix2 (i 1) (i 2) : S32x1024.Idx)) (slab3_ym 2))
  isplitl [M2]; · iexact M2
  iintro M2
  iapply (wp_ld_own c rW.emb (fun i => i) fun _ => rfl)
  isplitl [Hb]; · iexact Hb
  iintro Hb %w
  iapply (wp_st c)
  isplitl [Hb]; · iexact Hb
  iintro Hb
  iapply (wp_xfv X W K c)
  isplitr; · iexact HR
  isplitl [HS]; · iexact HS
  isplitl [Hb]
  · iapply (split_S X W c); iexact Hb
  iintro HS
  iapply Hk
  isplitl [HS]; · iexact HS
  isplitl [Hp]; · iapply (Sl_own c cc0_scratch0 _ _); iexact Hp
  isplitl [Hq]; · iapply (Sl_own c cc0_scratch0 _ _); iexact Hq
  isplitl [H0 H1 H2]
  · isplitl [H0]; · iapply (Sl_D_y0 c 0 _); iexact H0
    isplitl [H1]; · iapply (Sl_D_y0 c 1 _); iexact H1
    iapply (Sl_D_y0 c 2 _); iexact H2
  isplitl [M0]; · iapply (Sl_D_ym c 0 _); iexact M0
  isplitl [M1]; · iapply (Sl_D_ym c 1 _); iexact M1
  iapply (Sl_D_ym c 2 _); iexact M2

/-- The total and the result. -/
theorem wp_fin {k : PG F} {Kt : PUnit → sProp 𝕄} :
    iprop(recs X W K ∗ St c [] [.s, .z 0, .z 1, .z 2] d e ∗ Own c cc0_stg2_0 rW.emb
        ∗ ((St c [] [] d (.z 2 :: .z 1 :: .z 0 :: .s :: e) ∗ ownD c .s ∗ ownD c (.z 0) ∗ ownD c (.z 1) ∗ ownD c (.z 2)
            ∗ Sl c cc0_stg2_0 (Function.Embedding.refl S32x1024.Idx) (OUTv X W c)) -∗ WP c k Kt))
      ⊢ WP c (finP c (SMv X W c) k) Kt := by
  have hs : (recvPay X W c .s : sProp 𝕄) = Sl c cc0_scratch8 (Function.Embedding.refl S32x1024.Idx) (SV X W (frm c .s) .s) := rfl
  have hr : ∀ k, (recvPay X W c (.z k) : sProp 𝕄) = Sl c cc0_scratch6 (dstM (.z k)).view.emb (SV X W (frm c (.z k)) (.z k)) := fun _ => rfl
  have hn : ∀ t, ∀ t' ∈ ([] : List Xf), lvX t < lvX t' := fun _ _ h => absurd h (List.not_mem_nil)
  unfold finP
  iintro ⟨#HR, HS, Ho, Hk⟩
  iapply (wp_wr X W K c (hn _))
  isplitr; · iexact HR
  isplitl [HS]; · iexact HS
  iintro ⟨HS, Hb⟩
  ihave Hb := (Entails.of_eq hs) $$ Hb
  iapply (wp_ld c (e := Function.Embedding.refl S32x1024.Idx) (fun i => i) ?_)
  · exact rW_emb
  isplitl [Hb]; · iexact Hb
  iintro Hb
  iapply (wp_wr X W K c (hn _))
  isplitr; · iexact HR
  isplitl [HS]; · iexact HS
  iintro ⟨HS, H0⟩
  ihave H0 := (Entails.of_eq (hr _)) $$ H0
  iapply (wp_ld c (e := (dstM (.z 0)).view.emb) (fun i : S1x32x1024.Idx => (ix2 (i 1) (i 2) : S32x1024.Idx)) (slab3_z 0))
  isplitl [H0]; · iexact H0
  iintro H0
  iapply (wp_wr X W K c (hn _))
  isplitr; · iexact HR
  isplitl [HS]; · iexact HS
  iintro ⟨HS, H1⟩
  ihave H1 := (Entails.of_eq (hr _)) $$ H1
  iapply (wp_ld c (e := (dstM (.z 1)).view.emb) (fun i : S1x32x1024.Idx => (ix2 (i 1) (i 2) : S32x1024.Idx)) (slab3_z 1))
  isplitl [H1]; · iexact H1
  iintro H1
  iapply (wp_wr X W K c (hn _))
  isplitr; · iexact HR
  isplitl [HS]; · iexact HS
  iintro ⟨HS, H2⟩
  ihave H2 := (Entails.of_eq (hr _)) $$ H2
  iapply (wp_ld c (e := (dstM (.z 2)).view.emb) (fun i : S1x32x1024.Idx => (ix2 (i 1) (i 2) : S32x1024.Idx)) (slab3_z 2))
  isplitl [H2]; · iexact H2
  iintro H2
  iapply (wp_ld_own c rW.emb (fun i => i) fun _ => rfl)
  isplitl [Ho]; · iexact Ho
  iintro Ho %w
  iapply (wp_st c)
  isplitl [Ho]; · iexact Ho
  iintro Ho
  iapply Hk
  isplitl [HS]; · iexact HS
  isplitl [Hb]; · iapply (Sl_D_s c _); iexact Hb
  isplitl [H0]; · iapply (Sl_D_z c 0 _); iexact H0
  isplitl [H1]; · iapply (Sl_D_z c 1 _); iexact H1
  isplitl [H2]; · iapply (Sl_D_z c 2 _); iexact H2
  iapply (Entails.of_eq (Sl_congr c cc0_stg2_0 (s := S32x1024) (e := rW.emb) (e' := Function.Embedding.refl S32x1024.Idx) (v := OUTv X W c)
    (v' := OUTv X W c) rW_emb fun _ => rfl))
  iexact Ho

end Cert.KernelIdeal.Gen

end
-- ==== Proof.Whole.lean ====
/-
  From whole scratch buffers to the pieces the body works with, and back.
-/
module

public import proofs.«01_k».proof.Proof.Phases

@[expose] public section

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Sums over the copies -/

theorem l3_all : (Finset.univ : Finset (Fin 3)) = ([0, 1, 2] : List (Fin 3)).toFinset := by decide
theorem l3_nodup : ([0, 1, 2] : List (Fin 3)).Nodup := by decide

/-- A sum over the copies, kind by kind. -/
theorem bigSep_kinds (Φ : Xf → sProp 𝕄) : bigSep Finset.univ Φ
    = iprop((Φ (.x 0) ∗ Φ (.x 1) ∗ Φ (.x 2)) ∗ (Φ (.y0 0) ∗ Φ (.y0 1) ∗ Φ (.y0 2)) ∗ (Φ (.ym 0) ∗ Φ (.ym 1) ∗ Φ (.ym 2))
      ∗ (Φ (.y 0 0) ∗ Φ (.y 0 1) ∗ Φ (.y 0 2)) ∗ (Φ (.y 1 0) ∗ Φ (.y 1 1) ∗ Φ (.y 1 2)) ∗ (Φ (.y 2 0) ∗ Φ (.y 2 1) ∗ Φ (.y 2 2))
      ∗ (Φ (.z 0) ∗ Φ (.z 1) ∗ Φ (.z 2)) ∗ Φ .s) := by
  have h := bigSep_univ_eq_bigSepL (([0, 1, 2] : List (Fin 3)).map Xf.x ++ (([0, 1, 2] : List (Fin 3)).map Xf.y0 ++ (([0, 1, 2] : List (Fin 3)).map Xf.ym
    ++ (([0, 1, 2] : List (Fin 3)).map (Xf.y 0) ++ (([0, 1, 2] : List (Fin 3)).map (Xf.y 1) ++ (([0, 1, 2] : List (Fin 3)).map (Xf.y 2)
    ++ (([0, 1, 2] : List (Fin 3)).map Xf.z ++ [Xf.s]))))))) (by decide) (by decide) Φ
  rw [h]
  simp only [bigSepL_append, bigSepL_map]
  have h3 : ∀ Ψ : Fin 3 → sProp 𝕄, bigSepL [0, 1, 2] Ψ = iprop(Ψ 0 ∗ Ψ 1 ∗ Ψ 2) := fun Ψ =>
    (bigSep_univ_eq_bigSepL [0, 1, 2] l3_all l3_nodup Ψ).symm.trans (bigSep_three Ψ)
  simp only [h3]
  have h1 : bigSepL [Xf.s] Φ = Φ .s := by rw [bigSepL_cons', bigSepL_nil]; exact sep_emp_eq _
  rw [h1]

section
variable (c : Dev nD)

/-- The nine scratch buffers, whole. -/
def Owns : sProp 𝕄 :=
  iprop(Own c cc0_scratch0 (Function.Embedding.refl S4x2x4x32x1024.Idx) ∗ Own c cc0_scratch1 (Function.Embedding.refl S3x4x32x1024.Idx)
    ∗ Own c cc0_scratch2 (Function.Embedding.refl S3x4x32x1024.Idx) ∗ Own c cc0_scratch3 (Function.Embedding.refl S4x3x32x1024.Idx)
    ∗ Own c cc0_scratch4 (Function.Embedding.refl S3x32x1024.Idx) ∗ Own c cc0_scratch5 (Function.Embedding.refl S3x32x1024.Idx)
    ∗ Own c cc0_scratch6 (Function.Embedding.refl S3x32x1024.Idx) ∗ Own c cc0_scratch7 (Function.Embedding.refl S32x1024.Idx)
    ∗ Own c cc0_scratch8 (Function.Embedding.refl S32x1024.Idx))

/-- The pieces the body stores into. -/
def work : sProp 𝕄 :=
  iprop((Own c cc0_scratch0 (slab5 0).emb ∗ Own c cc0_scratch0 (slab5 1).emb ∗ Own c cc0_scratch0 (slab5 2).emb ∗ Own c cc0_scratch0 (slab5 3).emb)
    ∗ (Own c cc0_scratch2 (slab4 0).emb ∗ Own c cc0_scratch2 (slab4 1).emb ∗ Own c cc0_scratch2 (slab4 2).emb)
    ∗ (Own c cc0_scratch5 (slab3 0).emb ∗ Own c cc0_scratch5 (slab3 1).emb ∗ Own c cc0_scratch5 (slab3 2).emb)
    ∗ Own c cc0_scratch7 rW.emb)

/-- The pieces no copy reads. -/
def kept : sProp 𝕄 :=
  iprop(Own c cc0_scratch0 (pE 0 (xc c) (yc c)) ∗ Own c cc0_scratch0 (pE 0 (ox c) (yc c))
    ∗ (Own c cc0_scratch0 (pH 1 (xc c)) ∗ Own c cc0_scratch0 (pH 2 (xc c)) ∗ Own c cc0_scratch0 (pH 3 (xc c)))
    ∗ (Own c cc0_scratch2 (aE 0 (yc c)) ∗ Own c cc0_scratch2 (aE 1 (yc c)) ∗ Own c cc0_scratch2 (aE 2 (yc c))))

/-- The whole buffers divide into the landing places and the pieces stored into. -/
theorem Owns_split : Owns c ⊢ (iprop((bigSep Finset.univ fun t => ownD c t) ∗ work c) : sProp 𝕄) := by
  have h0 := (cutP.own (F := F) c cc0_scratch0).trans (Entails.of_eq (bigSep_fin4 _))
  have h1 := (cutX.own (F := F) c cc0_scratch1).trans (Entails.of_eq (bigSep_three _))
  have h2 := (cut4.own (F := F) c cc0_scratch2).trans (Entails.of_eq (bigSep_three _))
  have h3 := (cutC.own (F := F) c cc0_scratch3).trans (Entails.of_eq ((bigSep_univ_prod _).trans ((bigSep_congr fun p _ => bigSep_three _).trans (bigSep_fin4 _))))
  have h4 := (cutM.own (F := F) c cc0_scratch4).trans (Entails.of_eq (bigSep_three _))
  have h5 := (cut3.own (F := F) c cc0_scratch5).trans (Entails.of_eq (bigSep_three _))
  have h6 := (cutZ.own (F := F) c cc0_scratch6).trans (Entails.of_eq (bigSep_three _))
  have h7 : (Own c cc0_scratch7 (Function.Embedding.refl S32x1024.Idx) : sProp 𝕄) = Own c cc0_scratch7 rW.emb :=
    Own_congr c cc0_scratch7 (s := S32x1024) fun i => (rW_emb i).symm
  rw [bigSep_kinds]
  simp only [ownD_y0, ownD_y, ownD_s]
  unfold Owns work
  rw [h7]
  iintro ⟨H0, H1, H2, H3, H4, H5, H6, H7, H8⟩
  ihave H0 := h0 $$ H0
  ihave H1 := h1 $$ H1
  ihave H2 := h2 $$ H2
  ihave H3 := h3 $$ H3
  ihave H4 := h4 $$ H4
  ihave H5 := h5 $$ H5
  ihave H6 := h6 $$ H6
  icases H3 with ⟨H30, H31, H32, H33⟩
  isplitl [H1 H30 H31 H32 H33 H4 H6 H8]
  · isplitl [H1]; · iexact H1
    isplitl [H30]; · iexact H30
    isplitl [H4]; · iexact H4
    isplitl [H31]; · iexact H31
    isplitl [H32]; · iexact H32
    isplitl [H33]; · iexact H33
    isplitl [H6]; · iexact H6
    iexact H8
  isplitl [H0]; · iexact H0
  isplitl [H2]; · iexact H2
  isplitl [H5]; · iexact H5
  iexact H7

/-- The first slab of the products, put together. -/
theorem join_P0 :
    iprop((Own c cc0_scratch0 (pE 0 (xc c) (yc c)) ∗ ownS c (.y0 0) ∗ ownS c (.y0 1) ∗ ownS c (.y0 2))
      ∗ (Own c cc0_scratch0 (pE 0 (ox c) (yc c)) ∗ ownS c (.ym 0) ∗ ownS c (.ym 1) ∗ ownS c (.ym 2))) ⊢ (Own c cc0_scratch0 (slab5 0).emb : sProp 𝕄) := by
  simp only [ownS_y0, ownS_ym]
  refine BIBase.Entails.trans ?_ ((cut0 c).join (F := F) c cc0_scratch0)
  rw [bigSep_univ_prod, bigSep_two, bigSep_fin4, bigSep_fin4]
  exact BIBase.Entails.refl
/-- Another slab of the products, put together. -/
theorem join_P (p : Fin 3) : iprop(Own c cc0_scratch0 (pH p.succ (xc c)) ∗ ownS c (.x p)) ⊢ (Own c cc0_scratch0 (slab5 p.succ).emb : sProp 𝕄) := by
  rw [ownS_x]
  refine BIBase.Entails.trans ?_ ((cutH c p).join (F := F) c cc0_scratch0)
  rw [bigSep_two]
  exact BIBase.Entails.refl
/-- A slab of the pair sums, put together. -/
theorem join_A (p : Fin 3) :
    iprop(Own c cc0_scratch2 (aE p (yc c)) ∗ ownS c (.y p 0) ∗ ownS c (.y p 1) ∗ ownS c (.y p 2)) ⊢ (Own c cc0_scratch2 (slab4 p).emb : sProp 𝕄) := by
  simp only [ownS_y]
  refine BIBase.Entails.trans ?_ ((cutA c p).join (F := F) c cc0_scratch2)
  rw [bigSep_fin4]
  exact BIBase.Entails.refl

/-- The landing places, the ends the copies read and the rest are the whole buffers. -/
theorem Owns_join : iprop((bigSep Finset.univ fun t => ownD c t) ∗ (bigSep Finset.univ fun t => ownS c t) ∗ kept c) ⊢ (Owns c : sProp 𝕄) := by
  have h0 := (Entails.of_eq (bigSep_fin4 _).symm).trans (cutP.join (F := F) c cc0_scratch0)
  have h1 := (Entails.of_eq (bigSep_three _).symm).trans (cutX.join (F := F) c cc0_scratch1)
  have h2 := (Entails.of_eq (bigSep_three _).symm).trans (cut4.join (F := F) c cc0_scratch2)
  have h3 := (Entails.of_eq ((bigSep_univ_prod _).trans ((bigSep_congr fun p _ => bigSep_three _).trans (bigSep_fin4 _))).symm).trans (cutC.join (F := F) c cc0_scratch3)
  have h4 := (Entails.of_eq (bigSep_three _).symm).trans (cutM.join (F := F) c cc0_scratch4)
  have h5 := (Entails.of_eq (bigSep_three _).symm).trans ((cutB c).join (F := F) c cc0_scratch5)
  have h6 := (Entails.of_eq (bigSep_three _).symm).trans (cutZ.join (F := F) c cc0_scratch6)
  rw [bigSep_kinds, bigSep_kinds]
  simp only [ownD_y0, ownD_y, ownD_s, ownS_s]
  unfold Owns kept
  iintro ⟨⟨Dx, Dy0, Dm, Dy1, Dy2, Dy3, Dz, Ds⟩, ⟨⟨Sx0, Sx1, Sx2⟩, Sy0, Sm, Sy1, Sy2, Sy3, Sz, Ss⟩, K0, K1, ⟨P1, P2, P3⟩, A1, A2, A3⟩
  isplitl [Sx0 Sx1 Sx2 Sy0 Sm K0 K1 P1 P2 P3]
  · iapply h0
    isplitl [Sy0 Sm K0 K1]
    · iapply (join_P0 c)
      isplitl [Sy0 K0]
      · isplitl [K0]; · iexact K0
        iexact Sy0
      · isplitl [K1]; · iexact K1
        iexact Sm
    isplitl [Sx0 P1]
    · iapply (join_P c 0)
      isplitl [P1]; · iexact P1
      iexact Sx0
    isplitl [Sx1 P2]
    · iapply (join_P c 1)
      isplitl [P2]; · iexact P2
      iexact Sx1
    iapply (join_P c 2)
    isplitl [P3]; · iexact P3
    iexact Sx2
  isplitl [Dx]
  · iapply h1; iexact Dx
  isplitl [Sy1 Sy2 Sy3 A1 A2 A3]
  · iapply h2
    isplitl [Sy1 A1]
    · iapply (join_A c 0)
      isplitl [A1]; · iexact A1
      iexact Sy1
    isplitl [Sy2 A2]
    · iapply (join_A c 1)
      isplitl [A2]; · iexact A2
      iexact Sy2
    iapply (join_A c 2)
    isplitl [A3]; · iexact A3
    iexact Sy3
  isplitl [Dy0 Dy1 Dy2 Dy3]
  · iapply h3
    isplitl [Dy0]; · iexact Dy0
    isplitl [Dy1]; · iexact Dy1
    isplitl [Dy2]; · iexact Dy2
    iexact Dy3
  isplitl [Dm]
  · iapply h4; iexact Dm
  isplitl [Sz]
  · iapply h5; iexact Sz
  isplitl [Dz]
  · iapply h6; iexact Dz
  isplitl [Ss]; · iexact Ss
  iexact Ds

/-- What the signals hand over is the landing places. -/
theorem land_sgs : (bigSep Finset.univ fun t => ownD c t) ⊢ (bigSep Finset.univ fun j : Fin 7 => barPay (bdst c j) (bdut j) : sProp 𝕄) := by
  have hb : ∀ j : Fin 7, (barPay (bdst c j) (bdut j) : sProp 𝕄) = bigSep (Finset.univ.filter fun t => grp t = bdut j) fun t => ownD c t := fun j => by
    unfold barPay
    exact bigSep_congr fun t ht => by rw [tgt_grp, (Finset.mem_filter.mp ht).2, bdst_bdst]
  rw [bigSep_congr (s := Finset.univ) fun j _ => hb j]
  have he := bigSep_univ_equiv (⟨bdut, bdut, bdut_bdut, bdut_bdut⟩ : Fin 7 ≃ Fin 7) (fun d => bigSep (Finset.univ.filter fun t => grp t = d) fun t => (ownD c t : sProp 𝕄))
  have hi : Finset.univ.image grp = Finset.univ := by decide
  have hf := bigSep_fiberwise Finset.univ grp fun t => (ownD c t : sProp 𝕄)
  rw [hi] at hf
  exact Entails.of_eq (hf.trans he)
end

end Cert.KernelIdeal.Gen

end
-- ==== Proof.Core.lean ====
/-
  The body run from start to end.
-/
module

public import proofs.«01_k».proof.Proof.Whole

@[expose] public section

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → FVec F S1024x32 .bf16) (W : Dev nD → FVec F S32x1024 .bf16) (K : Dev nD × CI → ℕ) (c : Dev nD)

/-- The protocol part of what a device starts with. -/
def start : sProp 𝕄 :=
  iprop((bigSep Finset.univ fun j : Fin 7 => dutyTok ER (barCell (bdst c j)) 0 (bdut j))
    ∗ cred (tallyAt (barCell c) () 7) ∗ atPos ER (barCell c) 0 ∅ 0
    ∗ (bigSep Finset.univ fun t => TK (F := F) c t) ∗ (bigSep Finset.univ fun t => RX (F := F) c t)
    ∗ (bigSep Finset.univ fun t => atPos ER (sCell c t) 0 ∅ 0))
/-- The semaphores at the end. -/
def zeros : sProp 𝕄 :=
  iprop(semVal (barCell c) 0 ∗ (bigSep Finset.univ fun t => semVal (rCell c t) 0) ∗ (bigSep Finset.univ fun t => semVal (sCell c t) 0))

omit [FloatOps F] in
theorem over {l : List Xf} (h : (Finset.univ : Finset Xf) = l.toFinset) (hn : l.Nodup) (Φ : Xf → sProp 𝕄) : bigSep Finset.univ Φ = bigSepL l Φ :=
  bigSep_univ_eq_bigSepL l h hn Φ

/-- The order of starting, written out. -/
theorem St_start : St (F := F) c issue recvs [] []
    = St c [.y0 0, .ym 0, .y0 1, .ym 1, .y0 2, .ym 2, .x 0, .x 1, .x 2, .s, .y 0 0, .y 0 1, .y 0 2, .y 1 0, .y 1 1, .y 1 2, .y 2 0, .y 2 1, .y 2 2, .z 0, .z 1, .z 2]
      [.y0 0, .ym 0, .y0 1, .ym 1, .y0 2, .ym 2, .x 0, .x 1, .x 2, .y 0 0, .y 0 1, .y 0 2, .y 1 0, .y 1 1, .y 1 2, .y 2 0, .y 2 1, .y 2 2, .s, .z 0, .z 1, .z 2] [] [] := rfl

/-- The state with nothing left to start or to wait for. -/
theorem St_done : St (F := F) c [] [] issue.reverse recvs.reverse
    ⊢ iprop(owesL (F := F) c [] ∗ bigSepL sends (CX (F := F) c) ∗ bigSep Finset.univ fun t => semVal (rCell c t) 0) := by
  have hz : (bigSep Finset.univ fun t => semVal (rCell c t) 0 : sProp 𝕄) = bigSepL recvs.reverse (ZX (F := F) c) :=
    over (by decide) (by decide) _
  have hc : (bigSepL sends (CX (F := F) c) : sProp 𝕄) = bigSepL issue.reverse (CX (F := F) c) :=
    (over sends_all sends_nodup _).symm.trans (over (by decide) (by decide) _)
  rw [hz, hc]
  unfold St
  iintro ⟨Ho, _, _, Hd, He⟩
  isplitl [Ho]; · iexact Ho
  isplitl [Hd]; · iexact Hd
  iexact He

/-- The state after the last wait, the lists written out. -/
theorem St_end : St (F := F) c [] []
      [.z 2, .z 1, .z 0, .y 2 2, .y 2 1, .y 2 0, .y 1 2, .y 1 1, .y 1 0, .y 0 2, .y 0 1, .y 0 0, .s, .x 2, .x 1, .x 0, .ym 2, .y0 2, .ym 1, .y0 1, .ym 0, .y0 0]
      [.z 2, .z 1, .z 0, .s, .y 2 2, .y 2 1, .y 2 0, .y 1 2, .y 1 1, .y 1 0, .y 0 2, .y 0 1, .y 0 0, .x 2, .x 1, .x 0, .ym 2, .y0 2, .ym 1, .y0 1, .ym 0, .y0 0]
    = St (F := F) c [] [] issue.reverse recvs.reverse := rfl

/-- The body, from the whole buffers and what the launch hands a device. -/
theorem wp_flat {Kt : PUnit → sProp 𝕄} :
    iprop(recs X W K ∗ owesB c sgs ∗ start c ∗ ARGS X W c ∗ Own c cc0_stg2_0 rW.emb ∗ Owns c
        ∗ ((owesL c [] ∗ zeros c ∗ ARGS X W c ∗ Sl c cc0_stg2_0 (Function.Embedding.refl S32x1024.Idx) (OUTv X W c) ∗ Owns c) -∗ Kt ⟨⟩))
      ⊢ WP c (flat c) Kt := by
  have hb : (bigSepL sgs (BX (F := F) c) : sProp 𝕄)
      = iprop((bigSep Finset.univ fun j : Fin 7 => dutyTok ER (barCell (bdst c j)) 0 (bdut j)) ∗ bigSep Finset.univ fun j : Fin 7 => barPay (bdst c j) (bdut j)) := by
    rw [← bigSep_univ_eq_bigSepL sgs (by decide) (by decide), ← bigSep_sep']; rfl
  have hT := over issue_all issue_nodup (TK (F := F) c)
  have hR := over recvs_all recvs_nodup (RX (F := F) c)
  have hS : iprop(bigSepL sends (CX (F := F) c) ∗ bigSep Finset.univ fun t => atPos ER (sCell c t) 0 ∅ 0) ⊢ (bigSepL sends (SX (F := F) c) : sProp 𝕄) := by
    rw [← over sends_all sends_nodup, ← over sends_all sends_nodup, ← bigSep_sep']; exact BIBase.Entails.refl
  have hD : (bigSepL sends (DX (F := F) c) : sProp 𝕄) ⊢ iprop((bigSep Finset.univ fun t => semVal (sCell c t) 0) ∗ bigSep Finset.univ fun t => ownS c t) := by
    rw [← over sends_all sends_nodup, ← bigSep_sep']; exact BIBase.Entails.refl
  have hp1 : Sl c cc0_scratch0 (slab5 1).emb (PV X W c 1)
      ⊢ (iprop(Sl c cc0_scratch0 (pH (Fin.succ 0) (xc c)) (PHv X W c 0) ∗ srcV X W c (.x 0)) : sProp 𝕄) := split_P X W c 0
  have hp2 : Sl c cc0_scratch0 (slab5 2).emb (PV X W c 2)
      ⊢ (iprop(Sl c cc0_scratch0 (pH (Fin.succ 1) (xc c)) (PHv X W c 1) ∗ srcV X W c (.x 1)) : sProp 𝕄) := split_P X W c 1
  have hp3 : Sl c cc0_scratch0 (slab5 3).emb (PV X W c 3)
      ⊢ (iprop(Sl c cc0_scratch0 (pH (Fin.succ 2) (xc c)) (PHv X W c 2) ∗ srcV X W c (.x 2)) : sProp 𝕄) := split_P X W c 2
  have ls : ∀ t' ∈ ([.s, .y 0 0, .y 0 1, .y 0 2, .y 1 0, .y 1 1, .y 1 2, .y 2 0, .y 2 1, .y 2 2, .z 0, .z 1, .z 2] : List Xf), 2 < lvX t' := by decide
  have la0 : ∀ t' ∈ ([.y 0 0, .y 0 1, .y 0 2, .y 1 0, .y 1 1, .y 1 2, .y 2 0, .y 2 1, .y 2 2, .z 0, .z 1, .z 2] : List Xf), lvX (.x 0) < lvX t' := by decide
  have la1 : ∀ t' ∈ ([.y 1 0, .y 1 1, .y 1 2, .y 2 0, .y 2 1, .y 2 2, .z 0, .z 1, .z 2] : List Xf), lvX (.x 1) < lvX t' := by decide
  have la2 : ∀ t' ∈ ([.y 2 0, .y 2 1, .y 2 2, .z 0, .z 1, .z 2] : List Xf), lvX (.x 2) < lvX t' := by decide
  have lb0 : ∀ t' ∈ ([.z 0, .z 1, .z 2] : List Xf), 3 < lvX t' := by decide
  have lb1 : ∀ t' ∈ ([.z 1, .z 2] : List Xf), 3 < lvX t' := by decide
  have lb2 : ∀ t' ∈ ([.z 2] : List Xf), 3 < lvX t' := by decide
  unfold flat start
  iintro ⟨#HR, HO, ⟨Hbt, Hbc, Hba, HT, HRX, HSA⟩, HA, Ho, Hw, Hk⟩
  ihave H := (Owns_split c) $$ Hw
  unfold work
  icases H with ⟨HD, ⟨P0, P1, P2, P3⟩, ⟨A0, A1, A2⟩, ⟨B0, B1, B2⟩, Hs⟩
  ihave HD := (land_sgs c) $$ HD
  ihave HB := (Entails.of_eq hb.symm) $$ [Hbt HD]
  · isplitl [Hbt]; · iexact Hbt
    iexact HD
  ihave HT := (Entails.of_eq hT) $$ HT
  ihave HRX := (Entails.of_eq hR) $$ HRX
  unfold sgs
  iapply (wp_sig X W K c (j := 0) (dev1_eq c))
  isplitr; · iexact HR
  isplitl [HO]; · iexact HO
  isplitl [HB]; · iexact HB
  iintro ⟨HO, HB⟩
  iapply (wp_sig X W K c (j := 1) (dev2_eq c))
  isplitr; · iexact HR
  isplitl [HO]; · iexact HO
  isplitl [HB]; · iexact HB
  iintro ⟨HO, HB⟩
  iapply (wp_sig X W K c (j := 2) (dev3_eq c))
  isplitr; · iexact HR
  isplitl [HO]; · iexact HO
  isplitl [HB]; · iexact HB
  iintro ⟨HO, HB⟩
  iapply (wp_sig X W K c (j := 3) (dev4_eq c))
  isplitr; · iexact HR
  isplitl [HO]; · iexact HO
  isplitl [HB]; · iexact HB
  iintro ⟨HO, HB⟩
  iapply (wp_sig X W K c (j := 4) (dev5_eq c))
  isplitr; · iexact HR
  isplitl [HO]; · iexact HO
  isplitl [HB]; · iexact HB
  iintro ⟨HO, HB⟩
  iapply (wp_sig X W K c (j := 5) (dev6_eq c))
  isplitr; · iexact HR
  isplitl [HO]; · iexact HO
  isplitl [HB]; · iexact HB
  iintro ⟨HO, HB⟩
  iapply (wp_sig X W K c (j := 6) (dev7_eq c))
  isplitr; · iexact HR
  isplitl [HO]; · iexact HO
  isplitl [HB]; · iexact HB
  iintro ⟨HO, _⟩
  iapply (wp_mm X W c 0)
  isplitl [HA]; · iexact HA
  isplitl [P0]; · iexact P0
  iintro ⟨HA, P0⟩
  iapply (wp_bar X W K c)
  isplitr; · iexact HR
  isplitl [HO]; · iexact HO
  isplitl [Hbc]; · iexact Hbc
  isplitl [Hba]; · iexact Hba
  isplitl [HT]; · iexact HT
  isplitl [HRX]; · iexact HRX
  iintro ⟨HS, Hbz⟩
  ihave HS := (Entails.of_eq (St_start c)) $$ HS
  ihave P0 := (split_P0 X W c) $$ P0
  icases P0 with ⟨Kx, Ko, ⟨Y0, Y1, Y2⟩, M0, M1, M2⟩
  iapply (wp_xfv X W K c)
  isplitr; · iexact HR
  isplitl [HS]; · iexact HS
  isplitl [Y0]; · iexact Y0
  iintro HS
  iapply (wp_xfv X W K c)
  isplitr; · iexact HR
  isplitl [HS]; · iexact HS
  isplitl [M0]; · iexact M0
  iintro HS
  iapply (wp_xfv X W K c)
  isplitr; · iexact HR
  isplitl [HS]; · iexact HS
  isplitl [Y1]; · iexact Y1
  iintro HS
  iapply (wp_xfv X W K c)
  isplitr; · iexact HR
  isplitl [HS]; · iexact HS
  isplitl [M1]; · iexact M1
  iintro HS
  iapply (wp_xfv X W K c)
  isplitr; · iexact HR
  isplitl [HS]; · iexact HS
  isplitl [Y2]; · iexact Y2
  iintro HS
  iapply (wp_xfv X W K c)
  isplitr; · iexact HR
  isplitl [HS]; · iexact HS
  isplitl [M2]; · iexact M2
  iintro HS
  iapply (wp_mm X W c 1)
  isplitl [HA]; · iexact HA
  isplitl [P1]; · iexact P1
  iintro ⟨HA, P1⟩
  ihave P1 := hp1 $$ P1
  icases P1 with ⟨P1, S1⟩
  iapply (wp_xfv X W K c)
  isplitr; · iexact HR
  isplitl [HS]; · iexact HS
  isplitl [S1]; · iexact S1
  iintro HS
  iapply (wp_mm X W c 2)
  isplitl [HA]; · iexact HA
  isplitl [P2]; · iexact P2
  iintro ⟨HA, P2⟩
  ihave P2 := hp2 $$ P2
  icases P2 with ⟨P2, S2⟩
  iapply (wp_xfv X W K c)
  isplitr; · iexact HR
  isplitl [HS]; · iexact HS
  isplitl [S2]; · iexact S2
  iintro HS
  iapply (wp_mm X W c 3)
  isplitl [HA]; · iexact HA
  isplitl [P3]; · iexact P3
  iintro ⟨HA, P3⟩
  ihave P3 := hp3 $$ P3
  icases P3 with ⟨P3, S3⟩
  iapply (wp_xfv X W K c)
  isplitr; · iexact HR
  isplitl [HS]; · iexact HS
  isplitl [S3]; · iexact S3
  iintro HS
  iapply (wp_sm X W K c ls)
  isplitr; · iexact HR
  isplitl [HS]; · iexact HS
  isplitl [Kx]; · iexact Kx
  isplitl [Ko]; · iexact Ko
  isplitl [Hs]; · iexact Hs
  iintro ⟨HS, Kx, Ko, ⟨DY0, DY1, DY2⟩, DM0, DM1, DM2⟩
  iapply (wp_ax X W K c 0 la0)
  isplitr; · iexact HR
  isplitl [HS]; · iexact HS
  isplitl [P1]; · iexact P1
  isplitl [A0]; · iexact A0
  iintro ⟨HS, P1, R1, A0⟩
  iapply (wp_ax X W K c 1 la1)
  isplitr; · iexact HR
  isplitl [HS]; · iexact HS
  isplitl [P2]; · iexact P2
  isplitl [A1]; · iexact A1
  iintro ⟨HS, P2, R2, A1⟩
  iapply (wp_ax X W K c 2 la2)
  isplitr; · iexact HR
  isplitl [HS]; · iexact HS
  isplitl [P3]; · iexact P3
  isplitl [A2]; · iexact A2
  iintro ⟨HS, P3, R3, A2⟩
  iapply (wp_bz X W K c 0 lb0)
  isplitr; · iexact HR
  isplitl [HS]; · iexact HS
  isplitl [P1]; · iexact P1
  isplitl [R1]; · iexact R1
  isplitl [B0]; · iexact B0
  iintro ⟨HS, P1, X0, DA0, DA1, DA2⟩
  iapply (wp_bz X W K c 1 lb1)
  isplitr; · iexact HR
  isplitl [HS]; · iexact HS
  isplitl [P2]; · iexact P2
  isplitl [R2]; · iexact R2
  isplitl [B1]; · iexact B1
  iintro ⟨HS, P2, X1, DB0, DB1, DB2⟩
  iapply (wp_bz X W K c 2 lb2)
  isplitr; · iexact HR
  isplitl [HS]; · iexact HS
  isplitl [P3]; · iexact P3
  isplitl [R3]; · iexact R3
  isplitl [B2]; · iexact B2
  iintro ⟨HS, P3, X2, DC0, DC1, DC2⟩
  iapply (wp_fin X W K c)
  isplitr; · iexact HR
  isplitl [HS]; · iexact HS
  isplitl [Ho]; · iexact Ho
  iintro ⟨HS, DS, DZ0, DZ1, DZ2, Ho⟩
  ihave HS := (Entails.of_eq (St_end c)) $$ HS
  ihave HS := (St_done c) $$ HS
  icases HS with ⟨HO, HC, HZ⟩
  ihave HX := hS $$ [HC HSA]
  · isplitl [HC]; · iexact HC
    iexact HSA
  iapply (wp_ws X W K c)
  isplitr; · iexact HR
  isplitl [HO]; · iexact HO
  isplitl [HX]; · iexact HX
  iintro ⟨HO, HX⟩
  ihave HX := hD $$ HX
  icases HX with ⟨HSZ, HSO⟩
  unfold WP
  rw [wp_ret]
  imodintro
  iapply Hk
  isplitl [HO]; · iexact HO
  isplitl [Hbz HZ HSZ]
  · unfold zeros
    isplitl [Hbz]; · iexact Hbz
    isplitl [HZ]; · iexact HZ
    iexact HSZ
  isplitl [HA]; · iexact HA
  isplitl [Ho]; · iexact Ho
  iapply (Owns_join c)
  isplitr [HSO Kx Ko P1 P2 P3 A0 A1 A2]
  · rw [bigSep_kinds]
    isplitl [X0 X1 X2]
    · isplitl [X0]; · iexact X0
      isplitl [X1]; · iexact X1
      iexact X2
    isplitl [DY0 DY1 DY2]
    · isplitl [DY0]; · iexact DY0
      isplitl [DY1]; · iexact DY1
      iexact DY2
    isplitl [DM0 DM1 DM2]
    · isplitl [DM0]; · iexact DM0
      isplitl [DM1]; · iexact DM1
      iexact DM2
    isplitl [DA0 DA1 DA2]
    · isplitl [DA0]; · iexact DA0
      isplitl [DA1]; · iexact DA1
      iexact DA2
    isplitl [DB0 DB1 DB2]
    · isplitl [DB0]; · iexact DB0
      isplitl [DB1]; · iexact DB1
      iexact DB2
    isplitl [DC0 DC1 DC2]
    · isplitl [DC0]; · iexact DC0
      isplitl [DC1]; · iexact DC1
      iexact DC2
    isplitl [DZ0 DZ1 DZ2]
    · isplitl [DZ0]; · iexact DZ0
      isplitl [DZ1]; · iexact DZ1
      iexact DZ2
    iexact DS
  isplitl [HSO]; · iexact HSO
  unfold kept
  isplitl [Kx]; · iexact Kx
  isplitl [Ko]; · iexact Ko
  isplitl [P1 P2 P3]
  · isplitl [P1]; · iexact P1
    isplitl [P2]; · iexact P2
    iexact P3
  isplitl [A0]; · iexact A0
  isplitl [A1]; · iexact A1
  iexact A2

end Cert.KernelIdeal.Gen

end
-- ==== Proof.Ghost.lean ====
/-
  What the launch makes and deals: every cell's invariant, the positions, the duty tokens to the devices that pay them,
  and the credits for what the devices owe each other.
-/
module

public import proofs.«01_k».proof.Proof.Core
public import Idealize.ShloMosaic.Lib.Pipeline.FrameBody

@[expose] public section

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Cells and tokens -/

theorem csem_inj : Function.Injective csem := by
  rintro (_ | ⟨t, _ | _⟩) (_ | ⟨t', _ | _⟩) h
  · rfl
  · cases h
  · cases h
  · cases h
  · rw [sS_inj (SemLoc.dma.inj h)]
  · exact absurd (SemLoc.dma.inj h) (sS_ne_rS t t')
  · cases h
  · exact absurd (SemLoc.dma.inj h).symm (sS_ne_rS t' t)
  · rw [rS_inj (SemLoc.dma.inj h)]

theorem kcell_inj : Function.Injective (kcell : Dev nD × CI → GSem nD τ sig) := by
  rintro ⟨c, k⟩ ⟨c', k'⟩ h
  have h1 : c = c' := congrArg (fun g : GSem nD τ sig => g.1.1) h
  have h2 : csem k = csem k' := congrArg Prod.snd h
  rw [h1, csem_inj h2]
/-- All the cells. -/
def allCells : Finset (GSem nD τ sig) := Finset.univ.map ⟨kcell, kcell_inj⟩

/-- A device's own duties: its barrier cell's seven, and one at each other cell. -/
abbrev TI := Fin 7 ⊕ (Xf × Bool)
abbrev tokOf (cj : Dev nD × TI) : GSem nD τ sig × ℕ × Fin 7 := match cj.2 with
  | .inl d => (barCell cj.1, 0, d)
  | .inr k => (kcell (cj.1, some k), 0, 0)
theorem tokOf_inj : Function.Injective (tokOf : Dev nD × TI → GSem nD τ sig × ℕ × Fin 7) := by
  rintro ⟨c, d | k⟩ ⟨c', d' | k'⟩ h
  · have h1 : c = c' := congrArg (fun x : GSem nD τ sig × ℕ × Fin 7 => x.1.1.1) h
    have h2 : d = d' := congrArg (fun x : GSem nD τ sig × ℕ × Fin 7 => x.2.2) h
    rw [h1, h2]
  · have h2 : csem none = csem (some k') := congrArg (fun x : GSem nD τ sig × ℕ × Fin 7 => x.1.2) h
    cases csem_inj h2
  · have h2 : csem (some k) = csem none := congrArg (fun x : GSem nD τ sig × ℕ × Fin 7 => x.1.2) h
    cases csem_inj h2
  · have h1 : c = c' := congrArg (fun x : GSem nD τ sig × ℕ × Fin 7 => x.1.1.1) h
    have h2 : csem (some k) = csem (some k') := congrArg (fun x : GSem nD τ sig × ℕ × Fin 7 => x.1.2) h
    rw [h1, Option.some.inj (csem_inj h2)]
/-- All the duties' tokens. -/
def allToks : Finset (GSem nD τ sig × ℕ × Fin 7) := Finset.univ.map ⟨tokOf, tokOf_inj⟩

/-- The element the launch starts from. -/
def u₀ : UU := (initOf (Pipeline.cells cfgs cellOf_inj) (Pipeline.launchToks cfgs cellOf_inj), initOf allCells allToks)

/-- The kernel's own scoped semaphores. -/
abbrev osem : Xf × Bool → SemLoc sig := fun k => csem (some k)

/-- A sum over the cells of a device. -/
theorem bigSep_CI (Φ : CI → sProp 𝕄) : bigSep Finset.univ Φ
    = iprop(Φ none ∗ (bigSep Finset.univ fun t => Φ (some (t, true))) ∗ bigSep Finset.univ fun t => Φ (some (t, false))) := by
  rw [bigSep_univ_equiv ((Equiv.sumComm _ _).trans (Equiv.optionEquivSumPUnit.{0} (Xf × Bool)).symm) Φ, bigSep_univ_sum]
  have h1 : ∀ Ψ : PUnit → sProp 𝕄, bigSep Finset.univ Ψ = Ψ ⟨⟩ := fun Ψ => bigSep_singleton
  have h2 : ∀ Ψ : Bool → sProp 𝕄, bigSep Finset.univ Ψ = iprop(Ψ true ∗ Ψ false) := fun Ψ =>
    bigSep_univ_eq_bigSepL [true, false] (by decide) (by decide) Ψ
  rw [h1, bigSep_univ_prod, bigSep_congr fun t _ => h2 _, bigSep_sep']
  rfl

section
variable (X : Dev nD → Vec F S1024x32 .bf16) (W : Dev nD → Vec F S32x1024 .bf16)

/-- A device's tokens as made. -/
def toks (c : Dev nD) : sProp 𝕄 := bigSep Finset.univ fun j : TI => dutyTok ER (tokOf (c, j)).1 (tokOf (c, j)).2.1 (tokOf (c, j)).2.2

/-- What a device is dealt before its cells open. -/
def G (c : Dev nD) : sProp 𝕄 :=
  iprop((bigSep Finset.univ fun k : CI => roundState ER (Rd X W) (kcell (c, k)) 0)
    ∗ (bigSep Finset.univ fun k : CI => iprop(atPos ER (kcell (c, k)) 0 ∅ 0 ∗ reached ER (kcell (c, k)) 0)) ∗ toks c)

theorem fund_all : BI.own (ER (initOf allCells allToks)) ⊢ (|==> bigSep Finset.univ (G X W) : sProp 𝕄) := by
  have hX (Φ : GSem nD τ sig → sProp 𝕄) : bigSep allCells Φ = bigSep Finset.univ fun c : Dev nD => bigSep Finset.univ fun k : CI => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]; rfl
  iintro HX
  imod (Rounds.fund ER (Rd X W) allCells allToks) $$ HX with ⟨Hst, Hr, Hat, Htok⟩
  imodintro
  ihave Hst' := (Entails.of_eq (hX fun g => roundState ER (Rd X W) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = iprop((bigSep Finset.univ fun t => semVal (rCell c t) 0) ∗ bigSep Finset.univ fun t => semVal (sCell c t) 0) := by
  have h2 : ∀ Ψ : Bool → sProp 𝕄, bigSep Finset.univ Ψ = iprop(Ψ true ∗ Ψ false) := fun Ψ =>
    bigSep_univ_eq_bigSepL [true, false] (by decide) (by decide) Ψ
  unfold Pipeline.ownSems0
  rw [bigSep_univ_prod, bigSep_congr fun t _ => h2 _, bigSep_sep']
  rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CI => semVal (kcell (c, k)) 0 : sProp 𝕄) := by
  rw [ownSems0_eq, unscopedSems0_eq, bigSep_CI]
  iintro ⟨⟨HR, HS⟩, HB⟩
  isplitl [HB]; · iexact HB
  isplitl [HR]; · iexact HR
  iexact HS

theorem core_alloc (c : Dev nD) :
    iprop(Pipeline.ownSems0 (Ix := Unit) (Name := ℕ) (U := UU) (Lvl := ℕ) (Val := Elt F) (τ := τ) osem c ∗ unscopedSems0 c ∗ G X W c)
      ⊢ |={Set.univ}=> iprop((bigSep Finset.univ fun k => iprop(∃ κ : ℕ, cellInv ER (Rd X W) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CI => semVal (kcell (c, k)) 0) ∗ bigSep Finset.univ fun k : CI => roundState ER (Rd X W) (kcell (c, k)) 0)
      ⊢ (|={Set.univ}=> bigSep Finset.univ fun k => iprop(∃ κ : ℕ, cellInv ER (Rd X W) κ (kcell (c, k))) : sProp 𝕄) from by
        rw [← bigSep_sep']
        exact (bigSep_mono fun k _ => (Rounds.body_intro ER (Rd X W) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

variable (K : Dev nD × CI → ℕ)

/-- The part of `recs` the cells give. -/
def recs0 : sProp 𝕄 :=
  iprop((bigSep Finset.univ fun ck : Dev nD × CI => cellInv ER (Rd X W) (K ck) (kcell ck))
    ∗ bigSep Finset.univ fun ck : Dev nD × CI => reached ER (kcell ck) 0)
instance recs0_persistent : BI.Persistent (recs0 X W K) := by unfold recs0; infer_instance

theorem recs_of : iprop(recs0 X W K ∗ levs) ⊢ recs X W K := by
  unfold recs0 recs
  iintro ⟨⟨H1, H2⟩, H3⟩
  isplitl [H1]; · iexact H1
  isplitl [H2]; · iexact H2
  iexact H3

/-- The tokens of the duties a device pays. -/
def payToks (c : Dev nD) : sProp 𝕄 :=
  iprop((bigSep Finset.univ fun j : Fin 7 => dutyTok ER (barCell (bdst c j)) 0 (bdut j)) ∗ bigSep Finset.univ fun t => TK (F := F) c t)
/-- A device's positions and those tokens. -/
def lin (c : Dev nD) : sProp 𝕄 := iprop((bigSep Finset.univ fun k : CI => atPos ER (kcell (c, k)) 0 ∅ 0) ∗ payToks c)
/-- What the opened cells leave a device with. -/
def G' (c : Dev nD) : sProp 𝕄 := iprop(∃ K, recs0 X W K ∗ lin c)

/-- Signals of all devices, re-addressed from the sender to the receiver's duty. -/
def sigEquiv : Dev nD × Fin 7 ≃ Dev nD × Fin 7 where
  toFun p := (bdst p.1 p.2, bdut p.2)
  invFun p := (bdst p.1 p.2, bdut p.2)
  left_inv p := Prod.ext (bdst_bdst p.1 p.2) (bdut_bdut p.2)
  right_inv p := Prod.ext (bdst_bdst p.1 p.2) (bdut_bdut p.2)
/-- Copies of all devices, re-addressed from the sender to the receiver. -/
def xfEquiv : Dev nD × Xf ≃ Dev nD × Xf where
  toFun p := (tgt p.1 p.2, p.2)
  invFun p := (frm p.1 p.2, p.2)
  left_inv p := Prod.ext (frm_tgt p.1 p.2) rfl
  right_inv p := Prod.ext (tgt_frm p.1 p.2) rfl

/-- Tokens of signals, dealt to the senders. -/
theorem deal_sig : (bigSep Finset.univ fun c : Dev nD => bigSep Finset.univ fun d : Fin 7 => (dutyTok ER (barCell c) 0 d : sProp 𝕄))
    = bigSep Finset.univ fun c : Dev nD => bigSep Finset.univ fun j : Fin 7 => dutyTok ER (barCell (bdst c j)) 0 (bdut j) := by
  rw [← bigSep_univ_prod fun p : Dev nD × Fin 7 => (dutyTok ER (barCell p.1) 0 p.2 : sProp 𝕄),
    ← bigSep_univ_prod fun p : Dev nD × Fin 7 => (dutyTok ER (barCell (bdst p.1 p.2)) 0 (bdut p.2) : sProp 𝕄)]
  exact bigSep_univ_equiv sigEquiv _
/-- Tokens of receiving cells, dealt to the senders. -/
theorem deal_xf : (bigSep Finset.univ fun c : Dev nD => bigSep Finset.univ fun t => (dutyTok ER (rCell c t) 0 0 : sProp 𝕄))
    = bigSep Finset.univ fun c : Dev nD => bigSep Finset.univ fun t => dutyTok ER (rCell (tgt c t) t) 0 0 := by
  rw [← bigSep_univ_prod fun p : Dev nD × Xf => (dutyTok ER (rCell p.1 p.2) 0 0 : sProp 𝕄),
    ← bigSep_univ_prod fun p : Dev nD × Xf => (dutyTok ER (rCell (tgt p.1 p.2) p.2) 0 0 : sProp 𝕄)]
  exact bigSep_univ_equiv xfEquiv _
theorem toks_eq (c : Dev nD) : (toks c : sProp 𝕄) = iprop((bigSep Finset.univ fun d : Fin 7 => dutyTok ER (barCell c) 0 d)
    ∗ (bigSep Finset.univ fun t => dutyTok ER (rCell c t) 0 0) ∗ bigSep Finset.univ fun t => dutyTok ER (sCell c t) 0 0) := by
  have h2 : ∀ Ψ : Bool → sProp 𝕄, bigSep Finset.univ Ψ = iprop(Ψ true ∗ Ψ false) := fun Ψ =>
    bigSep_univ_eq_bigSepL [true, false] (by decide) (by decide) Ψ
  unfold toks
  rw [bigSep_univ_sum, bigSep_univ_prod, bigSep_congr fun t _ => h2 _, bigSep_sep']
  rfl
theorem payToks_eq (c : Dev nD) : (payToks c : sProp 𝕄) = iprop((bigSep Finset.univ fun j : Fin 7 => dutyTok ER (barCell (bdst c j)) 0 (bdut j))
    ∗ (bigSep Finset.univ fun t => dutyTok ER (rCell (tgt c t) t) 0 0) ∗ bigSep Finset.univ fun t => dutyTok ER (sCell c t) 0 0) := by
  unfold payToks TK; rw [bigSep_sep']

/-- Every token goes to the device that pays its duty. -/
theorem toks_around : (bigSep Finset.univ fun c : Dev nD => (toks c : sProp 𝕄)) ⊢ bigSep Finset.univ fun c : Dev nD => payToks c := by
  rw [bigSep_congr fun c _ => toks_eq c, bigSep_congr fun c _ => payToks_eq c, bigSep_sep', bigSep_sep', bigSep_sep', bigSep_sep', deal_sig, deal_xf]

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem G'_intro (c : Dev nD) : iprop(recs0 X W K ∗ lin c) ⊢ G' X W c := by
  unfold G'; iintro H; iexists K; iexact H

theorem regroup :
    (bigSep Finset.univ fun c : Dev nD => iprop((bigSep Finset.univ fun k => iprop(∃ κ : ℕ, cellInv ER (Rd X W) κ (kcell (c, k))))
          ∗ (bigSep Finset.univ fun k => iprop(atPos ER (kcell (c, k)) 0 ∅ 0 ∗ reached ER (kcell (c, k)) 0)) ∗ toks c) : sProp 𝕄)
      ⊢ bigSep Finset.univ (G' X W) := by
  rw [bigSep_sep', bigSep_sep', ← bigSep_univ_prod (fun ck : Dev nD × CI => iprop(∃ κ : ℕ, cellInv ER (Rd X W) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄))]
  iintro ⟨HI, ⟨Hat, #HR⟩, Htok⟩
  ihave HK := (BI.bigSep_exists_pi Finset.univ (fun (ck : Dev nD × CI) (κ : ℕ) => (cellInv ER (Rd X W) κ (kcell ck) : sProp 𝕄))) $$ HI
  icases HK with ⟨%K, #HI⟩
  ihave Htk := (toks_around (F := F)) $$ Htok
  iapply (with_persistent (R := recs0 X W K) fun c _ => G'_intro X W K c)
  isplitr
  · unfold recs0; isplitl; · iexact HI
    iexact HR
  · unfold lin
    iapply (Entails.of_eq (bigSep_sep' Finset.univ (fun c : Dev nD => bigSep Finset.univ fun k : CI => (atPos ER (kcell (c, k)) 0 ∅ 0 : sProp 𝕄)) payToks).symm)
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G X W c) : sProp 𝕄)
    ⊢ |={Set.univ}=> bigSep Finset.univ (G' X W) :=
  ((bigSep_mono fun c _ => core_alloc X W c).trans (bigSep_fupd _ _)).trans (BI.fupd_mono (regroup X W))
end

/-! ## The credits -/

/-- What device `d` owes a cell over its copies. -/
theorem Ol_sum (d : Dev nD) (g : GSem nD τ sig) : ∀ l : List Xf, Ol d l g () = (l.map fun t => if g = rCell (tgt d t) t then NN t else 0).sum
  | [] => rfl
  | t :: l => by
    unfold Ol
    rw [Pi.add_apply, Finsupp.add_apply, Ol_sum d g l, tallyAt_apply, List.map_cons, List.sum_cons, Nat.add_comm]
    simp
/-- What it owes a cell with signals still to make. -/
theorem Ob_sum (d : Dev nD) (g : GSem nD τ sig) : ∀ l : List (Fin 7), Ob d l g () = (l.map fun j => if g = barCell (bdst d j) then 1 else 0).sum + Ol d issue g ()
  | [] => (Nat.zero_add _).symm
  | j :: l => by
    unfold Ob
    rw [Pi.add_apply, Finsupp.add_apply, Ob_sum d g l, tallyAt_apply, List.map_cons, List.sum_cons]
    simp only [and_true]; omega

theorem over_sum {I : Type} [Fintype I] [DecidableEq I] (l : List I) (h : (Finset.univ : Finset I) = l.toFinset) (hn : l.Nodup) (f : I → ℕ) :
    (l.map f).sum = ∑ i, f i := by rw [h, List.sum_toFinset f hn]

theorem bar_eq {a b : Dev nD} : barCell a = barCell b ↔ a = b := ⟨fun h => congrArg (fun g : GSem nD τ sig => g.1.1) h, fun h => h ▸ rfl⟩
theorem rec_eq {a b : Dev nD} {t t' : Xf} : rCell a t = rCell b t' ↔ (a, t) = (b, t') :=
  ⟨fun h => by
    have h1 : a = b := congrArg (fun g : GSem nD τ sig => g.1.1) h
    have h2 : rS t = rS t' := SemLoc.dma.inj (congrArg (fun g : GSem nD τ sig => g.2) h)
    rw [h1, rS_inj h2], fun h => by cases h; rfl⟩
theorem rec_ne_bar {a b : Dev nD} {t : Xf} : rCell a t ≠ barCell b := fun h => by cases congrArg (fun g : GSem nD τ sig => g.2) h

/-- All devices together owe a barrier cell seven units, -/
theorem owed_bar (c : Dev nD) : ∑ d : Dev nD, Ob d sgs (barCell c) () = 7 := by
  have h : ∀ d : Dev nD, Ob d sgs (barCell c) () = ∑ j : Fin 7, if (c = bdst d j) then 1 else 0 := fun d => by
    rw [Ob_sum, Ol_sum, over_sum sgs (by decide) (by decide), over_sum issue issue_all issue_nodup,
      Finset.sum_eq_zero (s := (Finset.univ : Finset Xf)) (fun t _ => if_neg fun h => rec_ne_bar h.symm), Nat.add_zero]
    exact Finset.sum_congr rfl fun j _ => if_congr bar_eq rfl rfl
  rw [Finset.sum_congr rfl fun d _ => h d, ← Fintype.sum_prod_type' fun (d : Dev nD) (j : Fin 7) => if c = bdst d j then 1 else 0]
  have h1 : (∑ p : Dev nD × Fin 7, if c = bdst p.1 p.2 then 1 else 0) = ∑ p : Dev nD × Fin 7, if c = p.1 then 1 else 0 := by
    rw [← Equiv.sum_comp sigEquiv fun p : Dev nD × Fin 7 => if c = p.1 then 1 else 0]
    exact Finset.sum_congr rfl fun p _ => rfl
  rw [h1, Fintype.sum_prod_type_right]
  simp
/-- and a receiving cell its copy's size. -/
theorem owed_rec (c : Dev nD) (t : Xf) : ∑ d : Dev nD, Ob d sgs (rCell c t) () = NN t := by
  have h : ∀ d : Dev nD, Ob d sgs (rCell c t) () = ∑ t' : Xf, if (c, t) = (tgt d t', t') then NN t' else 0 := fun d => by
    rw [Ob_sum, Ol_sum, over_sum sgs (by decide) (by decide), over_sum issue issue_all issue_nodup,
      Finset.sum_eq_zero (s := (Finset.univ : Finset (Fin 7))) (fun j _ => if_neg fun h => rec_ne_bar h), Nat.zero_add]
    exact Finset.sum_congr rfl fun t' _ => if_congr rec_eq rfl rfl
  rw [Finset.sum_congr rfl fun d _ => h d, ← Fintype.sum_prod_type' fun (d : Dev nD) (t' : Xf) => if (c, t) = (tgt d t', t') then NN t' else 0]
  have h1 : (∑ p : Dev nD × Xf, if (c, t) = (tgt p.1 p.2, p.2) then NN p.2 else 0) = ∑ p : Dev nD × Xf, if (c, t) = p then NN p.2 else 0 := by
    rw [← Equiv.sum_comp xfEquiv fun p : Dev nD × Xf => if (c, t) = p then NN p.2 else 0]
    exact Finset.sum_congr rfl fun p _ => rfl
  rw [h1, Finset.sum_ite_eq, if_pos (Finset.mem_univ _)]

abbrev O₀ : Dev nD → CellTallies nD τ sig Unit := fun d => Ob d sgs

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, owed_bar]
theorem launch_rec (c : Dev nD) (t : Xf) :
    tallyOn (rCell c t) (launchCredit (Pipeline.owing O₀) 0 (rCell c t)) = (tallyAt (rCell c t) () (NN t) : CellTallies nD τ sig Unit) := by
  unfold tallyAt; refine congrArg _ (Finsupp.ext fun u => ?_); cases u
  rw [Pipeline.launchCredit_owing, Finsupp.single_eq_same, owed_rec]

theorem creds (c : Dev nD) : (Pipeline.launchCred O₀ c : sProp 𝕄)
    ⊢ iprop(cred (tallyAt (barCell c) () 7) ∗ bigSep Finset.univ fun t => cred (tallyAt (rCell c t) () (NN t))) := by
  unfold Pipeline.launchCred
  refine BIBase.Entails.trans (bigSep_subset (Finset.subset_univ (Finset.univ.map ⟨csem, csem_inj⟩))) ?_
  rw [bigSep_map, bigSep_CI]
  have hr : (bigSep Finset.univ fun t => cred (tallyOn (rCell c t) (launchCredit (Pipeline.owing O₀) 0 (rCell c t))) : sProp 𝕄)
      = bigSep Finset.univ fun t => cred (tallyAt (rCell c t) () (NN t)) := bigSep_congr fun t _ => by rw [launch_rec]
  rw [← launch_bar, ← hr]
  iintro ⟨H1, H2, -⟩
  isplitl [H1]; · iexact H1
  iexact H2

end Cert.KernelIdeal.Gen

end
-- ==== Proof.BodyEq.lean ====
/-
  The printed body, at the buffers the launch hands it, is the sequence of blocks of Body.lean.
-/
module

public import proofs.«01_k».proof.Proof.Body
public import proofs.«01_k».proof.Proof.Gen.KernelIdeal.Launch

@[expose] public section

noncomputable section

namespace Cert.KernelIdeal.Gen

open Idealize.ShloMosaic Idealize.SL.Sem

variable {F : FTy → Type} [FloatOps F]

theorem bzV1 (a : Vec F S1x1x1x32x1024 .bf16) (b l0 l1 l2 : Vec F S1x1x32x1024 .bf16) :
    k0_pay24 (k0_pay23 (k0_pay22 a b l0) l1 l2) = bzV a b l0 l1 l2 := rfl
theorem bzV2 (a : Vec F S1x1x1x32x1024 .bf16) (b l0 l1 l2 : Vec F S1x1x32x1024 .bf16) :
    k0_pay27 (k0_pay26 (k0_pay25 a b) l0 l1) l2 = bzV a b l0 l1 l2 := rfl
theorem mmV1 (a : Vec F S256x32 .bf16) (b : Vec F S32x1024 .bf16) : k0_pay4 (k0_pay3 a b) = mmV a b := rfl
theorem mmV2 (a : Vec F S256x32 .bf16) (b : Vec F S32x1024 .bf16) : k0_pay5 a b = mmV a b := rfl
theorem mmV3 (a : Vec F S256x32 .bf16) (b : Vec F S32x1024 .bf16) : k0_pay7 (k0_pay6 a b) = mmV a b := rfl
theorem axV1 (a : Vec F S1x1x4x32x1024 .bf16) (b : Vec F S1x4x32x1024 .bf16) : k0_pay17 a b = k0_pay16 a b := rfl
theorem axV2 (a : Vec F S1x1x4x32x1024 .bf16) (b : Vec F S1x4x32x1024 .bf16) : k0_pay18 a b = k0_pay16 a b := rfl

/-- The printed body is the device's own number, then the blocks. -/
theorem body_eq : (bodyAt0 (F := F) t0_0 : PG F) = .op .deviceId flat := by
  rfl

end Cert.KernelIdeal.Gen

end
-- ==== Proof.Run.lean ====
/-
  The launch: from any memory with zero counters every fair execution ends, with the result array of each device at
  `OUTv`, the operands as they were and every counter at zero.
-/
module

public import proofs.«01_k».proof.Proof.Ghost
public import proofs.«01_k».proof.Proof.BodyEq
public import proofs.«01_k».proof.Proof.Gen.KernelIdeal.Points
public import Idealize.ShloMosaic.Lib.Pipeline.FrameBody
public import Idealize.ShloMosaic.Lib.Pipeline.CollectiveSegs

@[expose] public section

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch. -/
def mem₀ : MemSt nD τ sig (Elt F) := ⟨m, fun _ => 0, ρ⟩

/-- The operands as staged. -/
def XS (c : Dev nD) : Vec F S1024x32 .bf16 := (win0_0.blk (0 : Fin 1)).view.read (Elt F) (m ((c : Thread nD τ).loc main_arg0))
def WS (c : Dev nD) : Vec F S32x1024 .bf16 := (win0_1.blk (0 : Fin 1)).view.read (Elt F) (m ((c : Thread nD τ).loc main_arg1))
/-- The result. -/
def OS (c : Dev nD) : Vec F S32x1024 .f32 := OUTv (XS m) (WS m) c

/-- What a device's body starts from, -/
def begin (c : Dev nD) : sProp 𝕄 := iprop(∃ K, recs (XS m) (WS m) K ∗ start c)
def Φ₀ (c : Dev nD) : sProp 𝕄 := iprop(begin m c ∗ Owns c)
/-- and ends with. -/
def Φ₁ (c : Dev nD) : sProp 𝕄 := iprop(zeros c ∗ Owns c)

def dats (_ : Fin 1) (c : Dev nD) : Dat τ (Elt F) Unit ℕ UU ℕ cfg0 c where
  A w := (mem₀ m ρ).mem ((cfg0.win w).arr.view.loc (c : Thread nD τ))
  after w _ := match w with
    | ⟨0, _⟩ => XS m c
    | ⟨1, _⟩ => WS m c
    | ⟨2, _⟩ => OS m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem fetch_0 (t : Fin cfg0.N) : (cfg0.win (0 : Fin 3)).fetch t = true := by rw [fin_N0 t]; rfl
theorem fetch_1 (t : Fin cfg0.N) : (cfg0.win (1 : Fin 3)).fetch t = true := by rw [fin_N0 t]; rfl

theorem owns_whole_eq (c : Dev nD) (b : Ref sig .tc) (f : b.ty.Contents (Elt F)) :
    (owns (Ix := Unit) (Name := ℕ) (U := UU) (Lvl := ℕ) (c : Thread nD τ) (Memref.whole b) fullShare f : sProp 𝕄)
      = Sl c b (Function.Embedding.refl b.ty.shape.Idx) f := by
  unfold owns Sl; simp only [Memref.view_whole, View.read_whole, View.set_whole, Finset.map_refl]; rfl

theorem whole_own (c : Dev nD) (b : Ref sig .tc) :
    (iprop(∃ f : Buf (Elt F) ((c : Thread nD τ).loc b), ((c : Thread nD τ).loc b) ↦{fullShare} f) : sProp 𝕄)
      ⊢ Own c b (Function.Embedding.refl b.ty.shape.Idx) := by
  iintro ⟨%f, H⟩
  iapply (Sl_own c b (Function.Embedding.refl b.ty.shape.Idx) f)
  unfold Sl; iexists f; isplitr
  · ipureintro; rfl
  · rw [Finset.map_refl]; iexact H
theorem own_whole (c : Dev nD) (b : Ref sig .tc) : Own c b (Function.Embedding.refl b.ty.shape.Idx)
    ⊢ (iprop(∃ f : Buf (Elt F) ((c : Thread nD τ).loc b), ((c : Thread nD τ).loc b) ↦{fullShare} f) : sProp 𝕄) := by
  unfold Own Sl
  rw [Finset.map_refl]
  iintro ⟨%v, %f, -, H⟩; iexists f; iexact H

/-! ## The body -/

def bodyPre (c : Dev nD) : sProp 𝕄 :=
  iprop(Φ₀ m c ∗ (dats m ρ 0 c).owesAt () t0_0.castSucc
    ∗ (∃ d, Sl c cc0_stg0_0 (Function.Embedding.refl S1024x32.Idx) ((dats m ρ 0 c).before (0 : Fin 3) t0_0 d))
    ∗ (∃ d, Sl c cc0_stg1_0 (Function.Embedding.refl S32x1024.Idx) ((dats m ρ 0 c).before (1 : Fin 3) t0_0 d))
    ∗ (∃ d, Sl c cc0_stg2_0 (Function.Embedding.refl S32x1024.Idx) ((dats m ρ 0 c).before (2 : Fin 3) t0_0 d)))
def bodyPost (c : Dev nD) : sProp 𝕄 :=
  iprop(Φ₁ c ∗ (dats m ρ 0 c).owesAt () t0_0.succ
    ∗ Sl c cc0_stg0_0 (Function.Embedding.refl S1024x32.Idx) (XS m c) ∗ Sl c cc0_stg1_0 (Function.Embedding.refl S32x1024.Idx) (WS m c)
    ∗ Sl c cc0_stg2_0 (Function.Embedding.refl S32x1024.Idx) (OS m c))

theorem sound_body (c : Dev nD) : bodyPre m ρ c ⊢ WP c (bodyAt0 t0_0) (fun _ => bodyPost m ρ c) := by
  rw [body_eq]
  unfold WP
  simp only [wp_deviceId]
  have h0 : ∀ d, (dats m ρ 0 c).before (0 : Fin 3) t0_0 d = XS m c := fun d => by unfold Dat.before; rw [if_pos (fetch_0 t0_0)]; rfl
  have h1 : ∀ d, (dats m ρ 0 c).before (1 : Fin 3) t0_0 d = WS m c := fun d => by unfold Dat.before; rw [if_pos (fetch_1 t0_0)]; rfl
  have ho : ∀ v, Sl c cc0_stg2_0 (Function.Embedding.refl S32x1024.Idx) v ⊢ (Own c cc0_stg2_0 rW.emb : sProp 𝕄) := fun v =>
    (Sl_own c cc0_stg2_0 (Function.Embedding.refl S32x1024.Idx) v).trans (Entails.of_eq (Own_congr c cc0_stg2_0 (s := S32x1024) fun i => (rW_emb i).symm))
  unfold bodyPre Φ₀ begin
  simp only [h0, h1]
  iintro ⟨⟨⟨%K, #HR, Hst⟩, Hw⟩, Ho, ⟨%d0, Hx⟩, ⟨%d1, Hy⟩, ⟨%d2, Hz⟩⟩
  unfold Dat.owesAt Pipeline.owesWithin
  icases Ho with ⟨%Ws, %hW, HO⟩
  ihave Hz := (ho _) $$ Hz
  iapply (wp_flat (XS m) (WS m) K c)
  isplitr; · iexact HR
  isplitl [HO]
  · unfold owesB; iexists Ws; iexact HO
  isplitl [Hst]; · iexact Hst
  isplitl [Hx Hy]
  · unfold ARGS
    isplitl [Hx]; · iexact Hx
    iexact Hy
  isplitl [Hz]; · iexact Hz
  isplitl [Hw]; · iexact Hw
  iintro ⟨HO, Hz, HA, Hr, Hw⟩
  unfold bodyPost Φ₁ ARGS owesL Dat.owesAt Pipeline.owesWithin
  icases HO with ⟨%Ws', HO⟩
  icases HA with ⟨Hx, Hy⟩
  isplitl [Hz Hw]
  · isplitl [Hz]; · iexact Hz
    iexact Hw
  isplitl [HO]
  · iexists Ws'
    isplitr; · ipureintro; exact fun _ _ => Or.inl trivial
    iexact HO
  isplitl [Hx]; · iexact Hx
  isplitl [Hy]; · iexact Hy
  iexact Hr

set_option maxRecDepth 40000 in
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  refine BIBase.Entails.trans (?_ : _ ⊢ bodyPre m ρ c) ?_
  · exact BIBase.Entails.refl
  exact sound_body m ρ c

/-! ## The launch's side conditions -/

theorem ownSemFacts : Pipeline.OwnSemFacts cfg0.spec osem := by decide

theorem share_eq (c : Dev nD) (w : Fin cfg0.W) : (dats m ρ 0 c).share w = fullShare := by unfold Dat.share; split <;> rfl

theorem levs_of : (levAts L lv : sProp 𝕄) ⊢ levs := Entails.of_eq levs_eq.symm

theorem begin_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (XS m) (WS m) c)
      ⊢ |={Set.univ}=> iprop(begin m c ∗ emp) := by
  have hRX : iprop((bigSep Finset.univ fun t => cred (tallyAt (rCell c t) () (NN t))) ∗ bigSep Finset.univ fun t => atPos ER (rCell c t) 0 ∅ 0)
      ⊢ (bigSep Finset.univ fun t => RX (F := F) c t : sProp 𝕄) := by unfold RX; rw [bigSep_sep']
  iintro ⟨-, Hlev, Hcr, -, HG⟩
  ihave Hc := (creds (F := F) c) $$ Hcr
  icases Hc with ⟨Hb, Hr⟩
  ihave Hlev := levs_of $$ Hlev
  unfold G' lin payToks
  icases HG with ⟨%K, HR, Hat, Hbt, HT⟩
  ihave Hat := (Entails.of_eq (bigSep_CI _)) $$ Hat
  icases Hat with ⟨Hba, Hra, Hsa⟩
  imodintro
  isplitl
  · unfold begin start
    iexists K
    isplitl [HR Hlev]
    · iapply (recs_of (XS m) (WS m) K)
      isplitl [HR]; · iexact HR
      iexact Hlev
    isplitl [Hbt]; · iexact Hbt
    isplitl [Hb]; · iexact Hb
    isplitl [Hba]; · iexact Hba
    isplitl [HT]; · iexact HT
    isplitl [Hr Hra]
    · iapply hRX
      isplitl [Hr]; · iexact Hr
      iexact Hra
    iexact Hsa
  · iempintro

theorem phi0_intro (c : Dev nD) :
    iprop(begin m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ Owns
  iintro ⟨Hs, -, H0, H1, H2, H3, H4, H5, H6, H7, H8⟩
  isplitl [Hs]; · iexact Hs
  isplitl [H0]; · iapply (whole_own c cc0_scratch0); iexact H0
  isplitl [H1]; · iapply (whole_own c cc0_scratch1); iexact H1
  isplitl [H2]; · iapply (whole_own c cc0_scratch2); iexact H2
  isplitl [H3]; · iapply (whole_own c cc0_scratch3); iexact H3
  isplitl [H4]; · iapply (whole_own c cc0_scratch4); iexact H4
  isplitl [H5]; · iapply (whole_own c cc0_scratch5); iexact H5
  isplitl [H6]; · iapply (whole_own c cc0_scratch6); iexact H6
  isplitl [H7]; · iapply (whole_own c cc0_scratch7); iexact H7
  iapply (whole_own c cc0_scratch8); iexact H8

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ zeros Owns
  iintro ⟨⟨HB, HR, HS⟩, H0, H1, H2, H3, H4, H5, H6, H7, H8⟩
  isplitl [HB]; · iexact HB
  isplitl [HR HS]
  · isplitl [HR]; · iexact HR
    iexact HS
  isplitl [H0]; · iapply (own_whole c cc0_scratch0); iexact H0
  isplitl [H1]; · iapply (own_whole c cc0_scratch1); iexact H1
  isplitl [H2]; · iapply (own_whole c cc0_scratch2); iexact H2
  isplitl [H3]; · iapply (own_whole c cc0_scratch3); iexact H3
  isplitl [H4]; · iapply (own_whole c cc0_scratch4); iexact H4
  isplitl [H5]; · iapply (own_whole c cc0_scratch5); iexact H5
  isplitl [H6]; · iapply (own_whole c cc0_scratch6); iexact H6
  isplitl [H7]; · iapply (own_whole c cc0_scratch7); iexact H7
  iapply (own_whole c cc0_scratch8); iexact H8

theorem lv_stage (c : Dev nD) : ∀ (w : Fin 3) (s : Fin (spec0 w).nbuf), lv ((c : Thread nD τ), .dma ((spec0 w).sem s)) () ≤ 0 := by
  intro w s; fin_cases w <;> fin_cases s <;> exact Nat.le_of_eq rfl

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_Ob c _ (lv_stage c w s) sgs
    · show _ ⊢ MayWait (c : Thread nD τ) _ () 0
      rw [MayWait_zero]; iintro -; iempintro

/-! ## The run -/

/-- Window `w`'s array at the end. -/
def finalA (c : Dev nD) (w : Fin cfg0.W) : Buf (Elt F) ((cfg0.win w).arr.view.loc (c : Thread nD τ)) := (dats m ρ 0 c).arrAt w cfg0.N

set_option maxRecDepth 8000 in
theorem run_all : θ_run defs (onTc (τ := τ) (main (F := F))) (mem₀ m ρ)
    (fun r => (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (XS m) (WS m)) (G' := G' (XS m) (WS m)) (u₀ := u₀)
    (hu₀ := by
      unfold u₀
      iintro Hu
      ihave H := (ownU_pair _ _) $$ Hu
      icases H with ⟨HP, HX⟩
      imod (fund_all (XS m) (WS m)) $$ HX with HG
      imodintro
      isplitl [HP] <;> iassumption)
    (hglob := glob (XS m) (WS m))
    (hA := fun _ _ => rfl) (hpf := fun _ k => k.elim0)
    (X := begin m) (Y := fun c => unscopedSems0 c) (Z := fun _ => iprop(emp))
    (hX := begin_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Gen

end
-- ==== Proof.Final.lean ====
/-
  The run read back: the arguments end as they began, every semaphore ends at zero, and device `c`'s result is `OS m c`,
  computed from the two argument arrays.
-/
module

public import proofs.«01_k».proof.Proof.Run

@[expose] public section

noncomputable section

namespace Cert.KernelIdeal.Gen

open Idealize.ShloMosaic Idealize.ShloMosaic.TcCoe Idealize.SL.Sem

variable {F : FTy → Type} [FloatOps F]
variable (m : (ℓ : Loc nD τ sig) → Buf (Elt F) ℓ) (ρ : Dev nD → PrngReg)

theorem finalA_x (c : Dev nD) : finalA m ρ c (0 : Fin 3) = m ((c : Thread nD τ).loc main_arg0) :=
  (dats m ρ 0 c).arrAt_in (0 : Fin 3) rfl _
theorem finalA_w (c : Dev nD) : finalA m ρ c (1 : Fin 3) = m ((c : Thread nD τ).loc main_arg1) :=
  (dats m ρ 0 c).arrAt_in (1 : Fin 3) rfl _

/-- The result's one block, read back, is what the body left in the staging buffer. -/
theorem finalA_blk (c : Dev nD) : (win0_2.blk (0 : Fin 1)).view.read (Elt F) (finalA m ρ c (2 : Fin 3)) = OS m c := by
  unfold finalA
  rw [show cfg0.N = ((0 : Fin 1) : Fin cfg0.N).val + 1 from rfl, (dats m ρ 0 c).arrAt_succ (2 : Fin 3) (0 : Fin 1)]
  rw [show (cfg0.win (2 : Fin 3)).flush (0 : Fin 1) = true from by decide, if_pos rfl]
  exact View.read_write_univ _ _

/-- That block is the whole array. -/
theorem finalA_o (c : Dev nD) : finalA m ρ c (2 : Fin 3) = OS m c := by
  have hz : (fun a => (win0_2.index (0 : Fin 1)) a * main_v1.ty.shape.size a) = fun _ => 0 :=
    funext fun a => by fin_cases a <;> decide
  have hr := fun f => Memref.read_access_unit_zero (Elt F) main_v1 hz (fun a => by fin_cases a <;> decide) f
  have h := finalA_blk m ρ c
  rw [hr] at h
  exact h
theorem XS_eq (c : Dev nD) : XS m c = m ((c : Thread nD τ).loc main_arg0) := by
  have hz : (fun a => (win0_0.index (0 : Fin 1)) a * main_arg0.ty.shape.size a) = fun _ => 0 :=
    funext fun a => by fin_cases a <;> decide
  have hr := fun f => Memref.read_access_unit_zero (Elt F) main_arg0 hz (fun a => by fin_cases a <;> decide) f
  unfold XS
  rw [hr]
theorem WS_eq (c : Dev nD) : WS m c = m ((c : Thread nD τ).loc main_arg1) := by
  have hz : (fun a => (win0_1.index (0 : Fin 1)) a * main_arg1.ty.shape.size a) = fun _ => 0 :=
    funext fun a => by fin_cases a <;> decide
  have hr := fun f => Memref.read_access_unit_zero (Elt F) main_arg1 hz (fun a => by fin_cases a <;> decide) f
  unfold WS
  rw [hr]

/-- The run: results, arguments, semaphores. -/
theorem run_main : θ_run defs (onTc (τ := τ) (main (F := F))) ⟨m, fun _ => 0, ρ⟩ (fun r =>
    (∀ c : Dev nD, r.2.mem ((c.tc : Thread nD τ).loc main_v1)
        = OUTv (fun d : Dev nD => m ((d : Thread nD τ).loc main_arg0)) (fun d : Dev nD => m ((d : Thread nD τ).loc main_arg1)) c
      ∧ r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0) := by
  have hX : XS m = fun d : Dev nD => m ((d : Thread nD τ).loc main_arg0) := funext (XS_eq m)
  have hW : WS m = fun d : Dev nD => m ((d : Thread nD τ).loc main_arg1) := funext (WS_eq m)
  refine (θ_run defs _ _).mono (fun r h => ⟨fun c => ⟨?_, ?_, ?_⟩, h.2⟩) (run_all m ρ)
  · rw [← hX, ← hW]; exact (h.1 c (2 : Fin 3)).trans (finalA_o m ρ c)
  · exact (h.1 c (0 : Fin 3)).trans (finalA_x m ρ c)
  · exact (h.1 c (1 : Fin 3)).trans (finalA_w m ρ c)

end Cert.KernelIdeal.Gen

end
-- ==== Proof.Maths.lean ====
/-
  The values of Values.lean over the reals: each device's products, the sums over the column and over the planes, and
  the total over the thirty-two devices. Every cast between float formats is the identity there, and sums may be taken
  in any order.
-/
module

public import proofs.«01_k».proof.Proof.Values
public import Idealize.ShloMosaic.Lib.Pipeline.Value
public import Idealize.ShloMosaic.Lib.MatmulPlain

@[expose] public section

noncomputable section

namespace Cert.KernelIdeal.Gen

open Idealize.ShloMosaic Idealize.ShloMosaic.TcCoe Idealize.SL.Sem
open Idealize.ShloMosaic.ValueIdx (ix2 ix3 ix4 ix5)
open scoped BigOperators

/-- Row `i` of block `s`, of eight. -/
def rowIn (s : Fin 8) (i : Fin 32) : Fin 256 := ⟨s.val * 32 + i.val, by omega⟩

/-- The place of side `x`, column `y` in its plane. -/
def slot (x : Fin 2) (y : Fin 4) : Fin 8 := ⟨(mk 0 y x).val, by revert x y; decide⟩

/-- A shape cast read at `j` is the operand at the index of the same place. -/
theorem slotcast {α : Type} {S : Shape} (x : S.Idx → α) (t : Shape) (h : S.ShapeCasts t) (j : t.Idx) (k : S.Idx) (v : α)
    (hk : (S.rowMajor k).val = (t.rowMajor j).val) (hv : x k = v) : shapeCast t x h j = v := (shapeCast_apply x h j k hk).trans hv

/-- The product of one plane's rows, by block, row and column. -/
theorem mm8 (a : Vec Ideal S256x32 .bf16) (b : Vec Ideal S32x1024 .bf16) (s : Fin 8) (i : Fin 32) (j : Fin 1024) :
    shapeCast S8x32x1024 (truncf (F := Ideal) .bf16
      (matmul (φ₁ := .bf16) (φ₂ := .bf16) dot_S256x32_S32x1024_S256x1024_1_0_0_1_n_n none (shapeCast S256x32 a shapeCasts_S256x32_S256x32)
        (shapeCast S32x1024 b shapeCasts_S32x1024_S32x1024) (constant S256x1024 .f32 0x00000000#32)) bitsLt_bf16_f32)
      shapeCasts_S256x1024_S8x32x1024 (ix3 s i j : S8x32x1024.Idx)
      = ∑ k : Fin 32, (a (ix2 (rowIn s i) k : S256x32.Idx) : EReal) * b (ix2 k j : S32x1024.Idx) := by
  refine slotcast _ _ _ _ (ix2 (rowIn s i) j : S256x1024.Idx) _ ?_ ?_
  · rw [Shape.rowMajor_val_two, Shape.rowMajor_val_three]
    rfl
  rw [shapeCast_self, shapeCast_self]
  refine (Ideal.matmul_plain_apply (φ₁ := .bf16) (φ₂ := .bf16) (M := 256) (K := 32) (N := 1024) none a b _ (rowIn s i) j).trans ?_
  show Ideal.ofBits .f32 0x00000000#32 + _ = _
  rw [Ideal.ofBits_zero_f32, zero_add]

/-- Block `o` of eight, on its own. -/
abbrev one8 {α : Type} (v : S8x32x1024.Idx → α) (o : Fin 3 → Nat) (h : S8x32x1024.Slices o S1x32x1024) : S1x32x1024.Idx → α :=
  shapeCast S1x32x1024 (shapeCast S32x1024 (extractStridedSlice S1x32x1024 o v h) shapeCasts_S1x32x1024_S32x1024) shapeCasts_S32x1024_S1x32x1024

theorem one8_apply {α : Type} (v : S8x32x1024.Idx → α) (s : Fin 8) (h : S8x32x1024.Slices ![s.val, 0, 0] S1x32x1024) (i : Fin 32) (j : Fin 1024) :
    one8 v ![s.val, 0, 0] h (ix3 0 i j : S1x32x1024.Idx) = v (ix3 s i j : S8x32x1024.Idx) := by
  unfold one8
  rw [shapeCast_shapeCast]
  refine extractStridedSlice_apply _ _ _ _ _ ?_
  intro a
  fin_cases a
  · rfl
  · exact (Nat.zero_add _).symm
  · exact (Nat.zero_add _).symm

/-- The eight blocks in the order of the sides and columns. -/
abbrev eights {α : Type} (v : S8x32x1024.Idx → α) : List ((s : Shape) × (s.Idx → α)) :=
  [⟨S1x32x1024, one8 v ![0, 0, 0] slices_S8x32x1024_o0_0_0_S1x32x1024⟩, ⟨S1x32x1024, one8 v ![3, 0, 0] slices_S8x32x1024_o3_0_0_S1x32x1024⟩,
    ⟨S1x32x1024, one8 v ![4, 0, 0] slices_S8x32x1024_o4_0_0_S1x32x1024⟩, ⟨S1x32x1024, one8 v ![7, 0, 0] slices_S8x32x1024_o7_0_0_S1x32x1024⟩,
    ⟨S1x32x1024, one8 v ![1, 0, 0] slices_S8x32x1024_o1_0_0_S1x32x1024⟩, ⟨S1x32x1024, one8 v ![2, 0, 0] slices_S8x32x1024_o2_0_0_S1x32x1024⟩,
    ⟨S1x32x1024, one8 v ![5, 0, 0] slices_S8x32x1024_o5_0_0_S1x32x1024⟩, ⟨S1x32x1024, one8 v ![6, 0, 0] slices_S8x32x1024_o6_0_0_S1x32x1024⟩]

/-- Put together, the block of side `x`, column `y` is the one of that place. -/
theorem concat8 {α : Type} (v : S8x32x1024.Idx → α) (x : Fin 2) (y : Fin 4) (i : Fin 32) (j : Fin 1024) :
    concatenate S8x32x1024 0
      (eights v)
      concatenates_S1x32x1024_S1x32x1024_S1x32x1024_S1x32x1024_S1x32x1024_S1x32x1024_S1x32x1024_S1x32x1024_S8x32x1024_d0
      (ix3 (⟨x.val * 4 + y.val, by omega⟩ : Fin 8) i j : S8x32x1024.Idx)
      = v (ix3 (slot x y) i j : S8x32x1024.Idx) := by
  have side : ∀ (n : Fin 8) (b : Fin 3), b.cast rfl ≠ (0 : Fin 3) → ((ix3 0 i j : S1x32x1024.Idx) b).val = ((ix3 n i j : S8x32x1024.Idx) (b.cast rfl)).val := by
    intro n b hb
    fin_cases b
    · exact absurd rfl hb
    · rfl
    · rfl
  match x, y with
  | 0, 0 => exact (concatenate_apply_piece (0 : Fin 3) (eights v) _ (ix3 0 i j : S8x32x1024.Idx) 0 (show 0 < 8 by decide) S1x32x1024 _ rfl rfl 0 rfl (ix3 0 i j) (side 0) rfl).trans (one8_apply v 0 _ i j)
  | 0, 1 => exact (concatenate_apply_piece (0 : Fin 3) (eights v) _ (ix3 1 i j : S8x32x1024.Idx) 1 (show 1 < 8 by decide) S1x32x1024 _ rfl rfl 1 rfl (ix3 0 i j) (side 1) rfl).trans (one8_apply v 3 _ i j)
  | 0, 2 => exact (concatenate_apply_piece (0 : Fin 3) (eights v) _ (ix3 2 i j : S8x32x1024.Idx) 2 (show 2 < 8 by decide) S1x32x1024 _ rfl rfl 2 rfl (ix3 0 i j) (side 2) rfl).trans (one8_apply v 4 _ i j)
  | 0, 3 => exact (concatenate_apply_piece (0 : Fin 3) (eights v) _ (ix3 3 i j : S8x32x1024.Idx) 3 (show 3 < 8 by decide) S1x32x1024 _ rfl rfl 3 rfl (ix3 0 i j) (side 3) rfl).trans (one8_apply v 7 _ i j)
  | 1, 0 => exact (concatenate_apply_piece (0 : Fin 3) (eights v) _ (ix3 4 i j : S8x32x1024.Idx) 4 (show 4 < 8 by decide) S1x32x1024 _ rfl rfl 4 rfl (ix3 0 i j) (side 4) rfl).trans (one8_apply v 1 _ i j)
  | 1, 1 => exact (concatenate_apply_piece (0 : Fin 3) (eights v) _ (ix3 5 i j : S8x32x1024.Idx) 5 (show 5 < 8 by decide) S1x32x1024 _ rfl rfl 5 rfl (ix3 0 i j) (side 5) rfl).trans (one8_apply v 2 _ i j)
  | 1, 2 => exact (concatenate_apply_piece (0 : Fin 3) (eights v) _ (ix3 6 i j : S8x32x1024.Idx) 6 (show 6 < 8 by decide) S1x32x1024 _ rfl rfl 6 rfl (ix3 0 i j) (side 6) rfl).trans (one8_apply v 5 _ i j)
  | 1, 3 => exact (concatenate_apply_piece (0 : Fin 3) (eights v) _ (ix3 7 i j : S8x32x1024.Idx) 7 (show 7 < 8 by decide) S1x32x1024 _ rfl rfl 7 rfl (ix3 0 i j) (side 7) rfl).trans (one8_apply v 6 _ i j)

/-- The products of one plane's rows, by side, column, row and column of the block. -/
theorem mmV_apply (a : Vec Ideal S256x32 .bf16) (b : Vec Ideal S32x1024 .bf16) (x : Fin 2) (y : Fin 4) (i : Fin 32) (j : Fin 1024) :
    mmV a b (ix5 0 x y i j : S1x2x4x32x1024.Idx)
      = ∑ k : Fin 32, (a (ix2 (rowIn (slot x y) i) k : S256x32.Idx) : EReal) * b (ix2 k j : S32x1024.Idx) := by
  unfold mmV k0_pay2 k0_pay1
  dsimp only
  refine slotcast _ _ _ _ (ix4 x y i j : S2x4x32x1024.Idx) _ ?_ ?_
  · rw [Shape.rowMajor_val_four, Shape.rowMajor_val_five]
    show ((x.val * 4 + y.val) * 32 + i.val) * 1024 + j.val = (((0 * 2 + x.val) * 4 + y.val) * 32 + i.val) * 1024 + j.val
    omega
  refine slotcast _ _ _ _ (ix3 (⟨x.val * 4 + y.val, by omega⟩ : Fin 8) i j : S8x32x1024.Idx) _ ?_ ?_
  · rw [Shape.rowMajor_val_four, Shape.rowMajor_val_three]
    rfl
  exact (concat8 _ x y i j).trans (mm8 a b _ i j)

/-! ## One device's products -/

section Sums
variable (X : Dev nD → Vec Ideal S1024x32 .bf16) (W : Dev nD → Vec Ideal S32x1024 .bf16)

/-- Row `i` of the block of device `e`. -/
def rowOf (e : Dev nD) (i : Fin 32) : Fin 1024 := ⟨e.val * 32 + i.val, by have := e.isLt; simp only [nD] at this; omega⟩

/-- Row `i` of the block of device `e`, column `j`, of the product of device `d`'s operands. -/
def DP (e : Dev nD) (i : Fin 32) (j : Fin 1024) (d : Dev nD) : EReal :=
  ∑ k : Fin 32, (X d (ix2 (rowOf e i) k : S1024x32.Idx) : EReal) * W d (ix2 k j : S32x1024.Idx)

theorem mk_val (z y : Fin 4) (x : Fin 2) : (mk z y x).val = 8 * z.val + (slot x y).val := by revert z y x; decide

theorem PV_apply (c : Dev nD) (p : Fin 4) (x : Fin 2) (y : Fin 4) (i : Fin 32) (j : Fin 1024) :
    PV X W c p (ix5 0 x y i j : S1x2x4x32x1024.Idx) = DP X W (mk (zc c + p) y x) i j c := by
  unfold PV DP
  rw [mmV_apply]
  refine Finset.sum_congr rfl fun k _ => ?_
  have h : (rX c p).emb (ix2 (rowIn (slot x y) i) k : S256x32.Idx) = (ix2 (rowOf (mk (zc c + p) y x) i) k : S1024x32.Idx) := by
    funext a; apply Fin.ext; rw [unit_val (off1_eq c p)]
    fin_cases a
    · show 256 * (zc c + p).val + ((slot x y).val * 32 + i.val) = (mk (zc c + p) y x).val * 32 + i.val
      rw [mk_val]; omega
    · exact Nat.zero_add _
  rw [h]

/-! ## The payloads -/

theorem cast1 {α : Type} (v : S1x1x1x32x1024.Idx → α) (h : S1x1x1x32x1024.ShapeCasts S32x1024) (i : Fin 32) (j : Fin 1024) :
    shapeCast S32x1024 v h (ix2 i j : S32x1024.Idx) = v (ix5 0 0 0 i j : S1x1x1x32x1024.Idx) := by
  unfold shapeCast; rw [unsq5]
theorem cast2 {α : Type} (v : S1x1x32x1024.Idx → α) (h : S1x1x32x1024.ShapeCasts S32x1024) (i : Fin 32) (j : Fin 1024) :
    shapeCast S32x1024 v h (ix2 i j : S32x1024.Idx) = v (ix4 0 0 i j : S1x1x32x1024.Idx) := by
  unfold shapeCast; rw [unsq4]
theorem cast3 {α : Type} (v : S1x32x1024.Idx → α) (h : S1x32x1024.ShapeCasts S32x1024) (i : Fin 32) (j : Fin 1024) :
    shapeCast S32x1024 v h (ix2 i j : S32x1024.Idx) = v (ix3 0 i j : S1x32x1024.Idx) := by
  unfold shapeCast; rw [unsq3]
theorem cast4 {α : Type} (v : S32x1024.Idx → α) (h : S32x1024.ShapeCasts S1x32x1024) (i : Fin 32) (j : Fin 1024) :
    shapeCast S1x32x1024 v h (ix3 0 i j : S1x32x1024.Idx) = v (ix2 i j : S32x1024.Idx) :=
  shapeCast_apply _ _ _ _ (by
    rw [Shape.rowMajor_val_two, Shape.rowMajor_val_three]
    show i.val * 1024 + j.val = (0 * 32 + i.val) * 1024 + j.val
    omega)

theorem smV_apply (a : Vec Ideal S1x1x1x32x1024 .bf16) (l0 l1 l2 : Vec Ideal S1x1x32x1024 .bf16) (i : Fin 32) (j : Fin 1024) :
    (smV a l0 l1 l2 (ix2 i j : S32x1024.Idx) : EReal)
      = (((a (ix5 0 0 0 i j : S1x1x1x32x1024.Idx) : EReal) + l0 (ix4 0 0 i j : S1x1x32x1024.Idx)) + l1 (ix4 0 0 i j : S1x1x32x1024.Idx))
        + l2 (ix4 0 0 i j : S1x1x32x1024.Idx) := by
  rw [← cast1 a shapeCasts_S1x1x1x32x1024_S32x1024, ← cast2 l0 shapeCasts_S1x1x32x1024_S32x1024,
    ← cast2 l1 shapeCasts_S1x1x32x1024_S32x1024, ← cast2 l2 shapeCasts_S1x1x32x1024_S32x1024]
  rfl
theorem sbV_apply (a : Vec Ideal S1x1x1x32x1024 .bf16) (l0 l1 l2 : Vec Ideal S1x32x1024 .bf16) (i : Fin 32) (j : Fin 1024) :
    (sbV a l0 l1 l2 (ix2 i j : S32x1024.Idx) : EReal)
      = (((a (ix5 0 0 0 i j : S1x1x1x32x1024.Idx) : EReal) + l0 (ix3 0 i j : S1x32x1024.Idx)) + l1 (ix3 0 i j : S1x32x1024.Idx))
        + l2 (ix3 0 i j : S1x32x1024.Idx) := by
  rw [← cast1 a shapeCasts_S1x1x1x32x1024_S32x1024, ← cast3 l0 shapeCasts_S1x32x1024_S32x1024,
    ← cast3 l1 shapeCasts_S1x32x1024_S32x1024, ← cast3 l2 shapeCasts_S1x32x1024_S32x1024]
  unfold sbV k0_pay15
  rw [shapeCast_self]
  rfl
theorem axV_apply (a : Vec Ideal S1x1x4x32x1024 .bf16) (b : Vec Ideal S1x4x32x1024 .bf16) (y : Fin 4) (i : Fin 32) (j : Fin 1024) :
    (k0_pay16 a b (ix4 0 y i j : S1x4x32x1024.Idx) : EReal)
      = (a (ix5 0 0 y i j : S1x1x4x32x1024.Idx) : EReal) + b (ix4 0 y i j : S1x4x32x1024.Idx) := by
  unfold k0_pay16
  refine slotcast _ _ _ _ (ix3 y i j : S4x32x1024.Idx) _ ?_ ?_
  · rw [Shape.rowMajor_val_three, Shape.rowMajor_val_four]
    show (y.val * 32 + i.val) * 1024 + j.val = ((0 * 4 + y.val) * 32 + i.val) * 1024 + j.val
    omega
  · have h1 : shapeCast S4x32x1024 a shapeCasts_S1x1x4x32x1024_S4x32x1024 (ix3 y i j : S4x32x1024.Idx) = a (ix5 0 0 y i j : S1x1x4x32x1024.Idx) := by
      unfold shapeCast; rw [unsq35]
    have h2 : shapeCast S4x32x1024 b shapeCasts_S1x4x32x1024_S4x32x1024 (ix3 y i j : S4x32x1024.Idx) = b (ix4 0 y i j : S1x4x32x1024.Idx) := by
      unfold shapeCast; rw [unsq34]
    rw [← h1, ← h2]
    rfl
theorem bzV_apply (a : Vec Ideal S1x1x1x32x1024 .bf16) (b l0 l1 l2 : Vec Ideal S1x1x32x1024 .bf16) (i : Fin 32) (j : Fin 1024) :
    (bzV a b l0 l1 l2 (ix3 0 i j : S1x32x1024.Idx) : EReal)
      = ((((a (ix5 0 0 0 i j : S1x1x1x32x1024.Idx) : EReal) + b (ix4 0 0 i j : S1x1x32x1024.Idx)) + l0 (ix4 0 0 i j : S1x1x32x1024.Idx))
        + l1 (ix4 0 0 i j : S1x1x32x1024.Idx)) + l2 (ix4 0 0 i j : S1x1x32x1024.Idx) := by
  rw [← cast1 a shapeCasts_S1x1x1x32x1024_S32x1024, ← cast2 b shapeCasts_S1x1x32x1024_S32x1024, ← cast2 l0 shapeCasts_S1x1x32x1024_S32x1024,
    ← cast2 l1 shapeCasts_S1x1x32x1024_S32x1024, ← cast2 l2 shapeCasts_S1x1x32x1024_S32x1024]
  unfold bzV k0_pay21
  rw [cast4]
  rfl

/-- The smooth gate the kernel ends with. -/
def gate (t : EReal) : EReal :=
  (Ideal.ofBits .f32 0x3F000000#32 * t)
    * (Ideal.ofBits .f32 0x3F800000#32
        + Ideal.tanh (Ideal.ofBits .f32 0x3F4C422A#32 * (t + ((Ideal.ofBits .f32 0x3D372713#32 * t) * t) * t)))

theorem outV_apply (s : FVec Ideal S32x1024 .f32) (r : Vec Ideal S32x1024 .bf16) (l0 l1 l2 : Vec Ideal S1x32x1024 .bf16) (i : Fin 32) (j : Fin 1024) :
    (outV s r l0 l1 l2 (ix2 i j : S32x1024.Idx) : EReal)
      = gate (((((s (ix2 i j : S32x1024.Idx) : EReal) + r (ix2 i j : S32x1024.Idx)) + l0 (ix3 0 i j : S1x32x1024.Idx))
        + l1 (ix3 0 i j : S1x32x1024.Idx)) + l2 (ix3 0 i j : S1x32x1024.Idx)) := by
  rw [← cast3 l0 shapeCasts_S1x32x1024_S32x1024, ← cast3 l1 shapeCasts_S1x32x1024_S32x1024, ← cast3 l2 shapeCasts_S1x32x1024_S32x1024]
  rfl

/-! ## The total -/

/-- The thirty-two devices, as device `c` sums them. -/
def order (c : Dev nD) : List (Dev nD) :=
  [c, yfr c 0, yfr c 1, yfr c 2, xto c, yfr (xto c) 0, yfr (xto c) 1, yfr (xto c) 2]
    ++ (List.finRange 3).flatMap fun p =>
      [zfr c p, xto (zfr c p), yfr (zfr c p) 0, xto (yfr (zfr c p) 0), yfr (zfr c p) 1, xto (yfr (zfr c p) 1), yfr (zfr c p) 2, xto (yfr (zfr c p) 2)]

theorem order_perm (c : Dev nD) : (order c).Perm (List.finRange 32) := by revert c; decide +kernel

theorem sum_order (c : Dev nD) (f : Dev nD → EReal) : ∑ d : Dev nD, f d = ((order c).map f).sum := by
  rw [((order_perm c).map f).sum_eq]
  exact (List.sum_ofFn (f := f)).symm.trans (by rw [List.ofFn_eq_map])

variable (c : Dev nD) (i : Fin 32) (j : Fin 1024)

theorem SM_apply : (SMv X W c (ix2 i j : S32x1024.Idx) : EReal)
    = ((DP X W c i j c + DP X W c i j (yfr c 0)) + DP X W c i j (yfr c 1)) + DP X W c i j (yfr c 2) := by
  have e0 : mk (zc c + 0) (yc c) (xc c) = c := by revert c; decide
  have e1 : ∀ k, mk (zc (yfr c k) + 0) (ypc (yfr c k) k) (xc (yfr c k)) = c := by revert c; decide
  unfold SMv
  rw [smV_apply]
  unfold Y0v
  show (((PV X W c 0 (ix5 0 (xc c) (yc c) i j : S1x2x4x32x1024.Idx) : EReal)
      + PV X W (yfr c 0) 0 (ix5 0 (xc (yfr c 0)) (ypc (yfr c 0) 0) i j : S1x2x4x32x1024.Idx))
      + PV X W (yfr c 1) 0 (ix5 0 (xc (yfr c 1)) (ypc (yfr c 1) 1) i j : S1x2x4x32x1024.Idx))
      + PV X W (yfr c 2) 0 (ix5 0 (xc (yfr c 2)) (ypc (yfr c 2) 2) i j : S1x2x4x32x1024.Idx) = _
  simp only [PV_apply, e0, e1]

theorem SB_apply : (SBv X W (xto c) (ix2 i j : S32x1024.Idx) : EReal)
    = ((DP X W c i j (xto c) + DP X W c i j (yfr (xto c) 0)) + DP X W c i j (yfr (xto c) 1)) + DP X W c i j (yfr (xto c) 2) := by
  have e0 : mk (zc (xto c) + 0) (yc (xto c)) (ox (xto c)) = c := by revert c; decide
  have e1 : ∀ k, mk (zc (yfr (xto c) k) + 0) (ypc (yfr (xto c) k) k) (ox (yfr (xto c) k)) = c := by revert c; decide
  unfold SBv
  rw [sbV_apply]
  unfold Y0v
  show (((PV X W (xto c) 0 (ix5 0 (ox (xto c)) (yc (xto c)) i j : S1x2x4x32x1024.Idx) : EReal)
      + PV X W (yfr (xto c) 0) 0 (ix5 0 (ox (yfr (xto c) 0)) (ypc (yfr (xto c) 0) 0) i j : S1x2x4x32x1024.Idx))
      + PV X W (yfr (xto c) 1) 0 (ix5 0 (ox (yfr (xto c) 1)) (ypc (yfr (xto c) 1) 1) i j : S1x2x4x32x1024.Idx))
      + PV X W (yfr (xto c) 2) 0 (ix5 0 (ox (yfr (xto c) 2)) (ypc (yfr (xto c) 2) 2) i j : S1x2x4x32x1024.Idx) = _
  simp only [PV_apply, e0, e1]

theorem AX_apply (d : Dev nD) (p : Fin 3) (y : Fin 4) : (AXv X W d p (ix4 0 y i j : S1x4x32x1024.Idx) : EReal)
    = DP X W (mk (zc d + p.succ) y (xc d)) i j d + DP X W (mk (zc d + p.succ) y (xc d)) i j (xto d) := by
  have e : mk (zc (xto d) + p.succ) y (ox (xto d)) = mk (zc d + p.succ) y (xc d) := by revert d p y; decide +kernel
  unfold AXv
  rw [axV_apply]
  show (PV X W d p.succ (ix5 0 (xc d) y i j : S1x2x4x32x1024.Idx) : EReal)
      + PV X W (xto d) p.succ (ix5 0 (ox (xto d)) y i j : S1x2x4x32x1024.Idx) = _
  rw [PV_apply, PV_apply, e]

theorem BZ_apply (p : Fin 3) (d : Dev nD) (hd : d = zfr c p) : (BZv X W d p (ix3 0 i j : S1x32x1024.Idx) : EReal)
    = (((DP X W c i j d + DP X W c i j (xto d))
        + (DP X W c i j (yfr d 0) + DP X W c i j (xto (yfr d 0))))
        + (DP X W c i j (yfr d 1) + DP X W c i j (xto (yfr d 1))))
        + (DP X W c i j (yfr d 2) + DP X W c i j (xto (yfr d 2))) := by
  have e0 : mk (zc d + p.succ) (yc d) (xc d) = c := by subst hd; revert c p; decide
  have e1 : mk (zc (xto d) + p.succ) (yc d) (ox (xto d)) = c := by subst hd; revert c p; decide
  have e2 : ∀ k, mk (zc (yfr d k) + p.succ) (ypc (yfr d k) k) (xc (yfr d k)) = c := by subst hd; revert c p; decide +kernel
  unfold BZv
  rw [bzV_apply]
  show ((((PV X W d p.succ (ix5 0 (xc d) (yc d) i j : S1x2x4x32x1024.Idx) : EReal)
      + PV X W (xto d) p.succ (ix5 0 (ox (xto d)) (yc d) i j : S1x2x4x32x1024.Idx))
      + AXv X W (yfr d 0) p (ix4 0 (ypc (yfr d 0) 0) i j : S1x4x32x1024.Idx))
      + AXv X W (yfr d 1) p (ix4 0 (ypc (yfr d 1) 1) i j : S1x4x32x1024.Idx))
      + AXv X W (yfr d 2) p (ix4 0 (ypc (yfr d 2) 2) i j : S1x4x32x1024.Idx) = _
  simp only [PV_apply, AX_apply, e0, e1, e2]

/-- Device `c`'s result: the gate of the sum over all devices of the row block of `c` of their products. -/
theorem OUT_apply : (OUTv X W c (ix2 i j : S32x1024.Idx) : EReal) = gate (∑ d : Dev nD, DP X W c i j d) := by
  unfold OUTv
  rw [outV_apply]
  refine congrArg gate ?_
  rw [sum_order c]
  show ((((SMv X W c (ix2 i j : S32x1024.Idx) : EReal) + SBv X W (xto c) (ix2 i j : S32x1024.Idx))
      + BZv X W (zfr c 0) 0 (ix3 0 i j : S1x32x1024.Idx)) + BZv X W (zfr c 1) 1 (ix3 0 i j : S1x32x1024.Idx))
      + BZv X W (zfr c 2) 2 (ix3 0 i j : S1x32x1024.Idx) = _
  rw [SM_apply, SB_apply, BZ_apply X W c i j 0 _ rfl, BZ_apply X W c i j 1 _ rfl, BZ_apply X W c i j 2 _ rfl]
  unfold order
  simp only [List.finRange_succ, List.finRange_zero, List.map_cons, List.map_nil, List.flatMap_cons, List.flatMap_nil, List.cons_append, List.nil_append,
    List.append_nil, List.sum_cons, List.sum_nil, add_zero, add_assoc, Fin.succ_zero_eq_one, Fin.succ_one_eq_two]

end Sums

end Cert.KernelIdeal.Gen

end
-- ==== Proof.Agree.lean ====
/-
  The kernel's result is the reference's: device `c`'s rows of the gated product of the two whole arrays, whose columns
  and rows the devices hold in blocks.
-/
module

public import proofs.«01_k».proof.Defs
public import proofs.«01_k».proof.Proof.Maths
public import proofs.«01_k».proof.Proof.Gen.ReferenceIdeal.Run
public import Idealize.ShloMosaic.Lib.StackMember
public import Idealize.ShloMosaic.Lib.IdealHost

@[expose] public section

noncomputable section

namespace Cert.KernelIdeal.Gen

open Idealize.ShloMosaic Idealize.ShloMosaic.TcCoe Idealize.SL.Sem
open Idealize.ShloMosaic.ValueIdx (ix2 ix3 ix4 ix5)
open scoped BigOperators

/-- The whole arrays' shape. -/
abbrev Sq : Shape := ⟨2, ![1024, 1024]⟩

/-- The product of the whole arrays at row `r`, column `j`. -/
def prodAt (x w : Sq.Idx → EReal) (r j : Fin 1024) : EReal := ∑ q : Fin 1024, x (ix2 r q) * w (ix2 q j)

section Ref
open Cert.ReferenceIdeal Cert.ReferenceIdeal.Facts₀

/-- The product of the whole arrays, as the reference takes it. -/
def refP (x w : FVec Ideal Sq .bf16) : FVec Ideal Sq .f32 :=
  Host.dotGeneral dot_S1024x1024_S1024x1024_S1024x1024_1_0_0_1_n_n none x w

/-- A number at every index of the whole. -/
def every (b : BitVec 32) : FVec Ideal Sq .f32 :=
  broadcastInDim Cert.ReferenceIdeal.S1024x1024 ![] bcast_S_S1024x1024 (constant Cert.ReferenceIdeal.S_ .f32 b)

/-- What the reference computes from the whole arrays. -/
def refV (x w : FVec Ideal Sq .bf16) : FVec Ideal Sq .f32 :=
  mulf (mulf (every 0x3F000000#32) (refP x w)) (addf (every 0x3F800000#32) (Host.tanh (mulf (every 0x3F4C422A#32)
    (addf (refP x w) (mulf (every 0x3D372713#32) (mulf (mulf (refP x w) (refP x w)) (refP x w)))))))

theorem refP_apply (x w : FVec Ideal Sq .bf16) (r j : Fin 1024) : (refP x w (ix2 r j : Sq.Idx) : EReal) = prodAt x w r j :=
  StackMember.dotGeneral_plain_apply (m := 1024) (k := 1024) (n := 1024) none x w r j

theorem every_apply (b : BitVec 32) (i : Sq.Idx) : (every b i : EReal) = Ideal.ofBits .f32 b := rfl

theorem refV_apply (x w : FVec Ideal Sq .bf16) (r j : Fin 1024) : (refV x w (ix2 r j : Sq.Idx) : EReal) = gate (prodAt x w r j) := by
  have h : (refV x w (ix2 r j : Sq.Idx) : EReal)
      = (Ideal.ofBits .f32 0x3F000000#32 * refP x w (ix2 r j : Sq.Idx))
        * (Ideal.ofBits .f32 0x3F800000#32 + Ideal.tanh (Ideal.ofBits .f32 0x3F4C422A#32
          * (refP x w (ix2 r j : Sq.Idx) + Ideal.ofBits .f32 0x3D372713#32
            * ((refP x w (ix2 r j : Sq.Idx) * refP x w (ix2 r j : Sq.Idx)) * refP x w (ix2 r j : Sq.Idx))))) := rfl
  rw [h, refP_apply]
  unfold gate
  rw [mul_assoc (Ideal.ofBits .f32 0x3D372713#32) _ _, mul_assoc (Ideal.ofBits .f32 0x3D372713#32) _ _]

end Ref

/-- The sum over the devices of their blocks' products is the product of the whole arrays. -/
theorem sum_blocks (x w : FVec Ideal Sq .bf16) (c : Dev nD) (i : Fin 32) (j : Fin 1024) :
    ∑ d : Dev nD, DP (fun d => Layout.block ⟨2, ![1024, 32]⟩ ⟨2, ![1024, 1024]⟩ 1 32 d x)
        (fun d => Layout.block ⟨2, ![32, 1024]⟩ ⟨2, ![1024, 1024]⟩ 0 32 d w) c i j d
      = prodAt x w (rowOf c i) j := by
  unfold prodAt DP
  have h1 : ∑ q : Fin 1024, (x (ix2 (rowOf c i) q : Sq.Idx) : EReal) * w (ix2 q j : Sq.Idx)
      = ∑ p : Fin 32 × Fin 32, (x (ix2 (rowOf c i) (finProdFinEquiv p) : Sq.Idx) : EReal) * w (ix2 (finProdFinEquiv p) j : Sq.Idx) :=
    (Equiv.sum_comp (finProdFinEquiv (m := 32) (n := 32)) fun q : Fin 1024 => (x (ix2 (rowOf c i) q : Sq.Idx) : EReal) * w (ix2 q j : Sq.Idx)).symm
  rw [h1, Fintype.sum_prod_type]
  refine Finset.sum_congr rfl fun d _ => Finset.sum_congr rfl fun k _ => ?_
  beta_reduce
  rw [Layout.block_apply, Layout.block_apply]
  congr 1
  · refine congrArg x ?_
    funext a; apply Fin.ext
    fin_cases a
    · rfl
    · show d.val * 32 + k.val = k.val + 32 * d.val
      omega
  · refine congrArg w ?_
    funext a; apply Fin.ext
    fin_cases a
    · show d.val * 32 + k.val = k.val + 32 * d.val
      omega
    · rfl

/-- Device `c`'s result is its block of the reference's. -/
theorem OUT_eq (x w : FVec Ideal Sq .bf16) (c : Dev nD) :
    OUTv (F := Ideal) (fun d => Layout.block ⟨2, ![1024, 32]⟩ ⟨2, ![1024, 1024]⟩ 1 32 d x)
        (fun d => Layout.block ⟨2, ![32, 1024]⟩ ⟨2, ![1024, 1024]⟩ 0 32 d w) c
      = (Layout.block ⟨2, ![32, 1024]⟩ ⟨2, ![1024, 1024]⟩ 0 32 c (refV x w) : FVec Ideal S32x1024 .f32) := by
  funext t
  obtain ⟨i, j, rfl⟩ : ∃ (i : Fin 32) (j : Fin 1024), t = (ix2 i j : S32x1024.Idx) :=
    ⟨t 0, t 1, by funext a; fin_cases a <;> rfl⟩
  rw [Layout.block_apply]
  refine (OUT_apply _ _ c i j).trans ?_
  rw [sum_blocks, ← refV_apply]
  refine congrArg (refV x w) ?_
  funext a; apply Fin.ext
  fin_cases a <;> rfl

end Cert.KernelIdeal.Gen

end
-- ==== Proof.lean ====
/-
  The proof of `Cert.Claim`: the frames of the kernel, of the kernel over the extended reals and of the reference, and
  the agreement of the last two. The kernel's run is `run_main` of Final.lean; the values are compared in Agree.lean.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Final
public import proofs.«01_k».proof.Proof.Agree
public import Idealize.ShloMosaic.Adequacy
public import Idealize.ShloMosaic.Init

@[expose] public section

noncomputable section

namespace Cert.Proof

open Idealize.ShloMosaic Idealize.SL.Sem Cert.Kernel

local instance : Cert.Kernel.Facts := Cert.Kernel.Gen.facts
local instance : Cert.KernelIdeal.Facts := Cert.KernelIdeal.Gen.facts

/-- The two programs have the same body table: their texts are the same. -/
theorem table_eq : Cert.Kernel.defs₀ (F := Bits) = Cert.KernelIdeal.defs₀ (F := Bits) := by
  funext p l a
  cases p with
  | tc =>
    match l, a with
    | 0, (t, s) => rfl
  | scScalar _ => rfl
  | scVector _ _ => rfl

/-- And so with the call's own labels. -/
theorem defs_eq : Cert.Kernel.defs (F := Bits) = Cert.KernelIdeal.defs (F := Bits) :=
  congrArg (Pipeline.defs (Cert.KernelIdeal.pcfgs (F := Bits))) table_eq

/-- The program at the machine's floats: it ends, the arguments stand, every counter is zero. -/
theorem frame_kernel : Cert.quiescent_Kernel (hKernel := Cert.Kernel.Gen.facts) := by
  intro m ρ _
  have h := (θ_run Cert.KernelIdeal.defs _ _).mono (Q' := fun r => (∀ c : Dev Cert.KernelIdeal.nD,
      r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1)
        = m ((c.tc : Thread Cert.KernelIdeal.nD Cert.KernelIdeal.τ).loc Cert.KernelIdeal.main_arg1))
      ∧ r.2.sem = fun _ => 0) (fun _ h => ⟨fun c => (h.1 c).2, h.2⟩) (Cert.KernelIdeal.Gen.run_main (F := Bits) m ρ)
  rw [← defs_eq] at h
  exact h

/-- The same over the extended reals. -/
theorem frame_ideal : Cert.quiescent_KernelIdeal (hKernelIdeal := Cert.KernelIdeal.Gen.facts) := fun m ρ _ =>
  (θ_run Cert.KernelIdeal.defs _ _).mono (fun _ h => ⟨fun c => (h.1 c).2, h.2⟩) (Cert.KernelIdeal.Gen.run_main (F := Ideal) m ρ)

/-- The reference, which has no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From devices that hold their blocks of the reference's arrays, every device ends with its block of the reference's
    result. -/
theorem agree : Cert.algebraic_KernelIdeal_ReferenceIdeal (hKernelIdeal := Cert.KernelIdeal.Gen.facts)
    (hReferenceIdeal := Cert.ReferenceIdeal.Gen.facts) := by
  intro m g m' g' _ hin
  refine ⟨Cert.KernelIdeal.Gen.refV
    (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun r h c => ⟨(h.1 c).1.trans ?_, (h.1 c).2⟩)
      (Cert.KernelIdeal.Gen.run_main (F := Ideal) m g)
    rw [funext fun d => (hin d).1, funext fun d => (hin d).2]
    exact Cert.KernelIdeal.Gen.OUT_eq _ _ c
  · exact (θ_run Cert.ReferenceIdeal.defs _ _).mono (fun r h => h 0) (Cert.ReferenceIdeal.Value.run (F := Ideal) m' g')

theorem claim : Cert.Claim :=
  ⟨Cert.Kernel.Gen.facts, Cert.KernelIdeal.Gen.facts, Cert.ReferenceIdeal.Gen.facts,
    frame_kernel, frame_ideal, frame_reference, trivial, agree⟩

end Cert.Proof

end
